-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_gate_up_tables : Cert.Pre_gate_up_tables.Facts] (m : (ℓ : Loc Cert.Kernel2.nD Cert.Kernel2.τ Cert.Kernel2.sig) → Buf (Elt Bits) ℓ) : Prop :=
  ∀ c : Dev Cert.Kernel2.nD,
    (Cert.Pre_gate_up_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_gate_up_tables : Cert.Pre_gate_up_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_up_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_gate_up_tables : Cert.Pre_gate_up_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_up_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_down_tables : Cert.Pre_down_tables.Facts] (m : (ℓ : Loc Cert.Kernel3.nD Cert.Kernel3.τ Cert.Kernel3.sig) → Buf (Elt Bits) ℓ) : Prop :=
  ∀ c : Dev Cert.Kernel3.nD,
    (Cert.Pre_down_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_down_tables : Cert.Pre_down_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_down_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal [hPre_down_tables : Cert.Pre_down_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_down_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_gate_up_tables : Cert.Pre_gate_up_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_gate_up_tables : Cert.Pre_gate_up_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_gate_up_tables : Cert.Pre_gate_up_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_down_tables : Cert.Pre_down_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_down_tables : Cert.Pre_down_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] [hPre_down_tables : Cert.Pre_down_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_gate_up_tables : Cert.Pre_gate_up_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_down_tables : Cert.Pre_down_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_gate_up_tables : Cert.Pre_gate_up_tables.Facts) (hPre_down_tables : Cert.Pre_down_tables.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_gate_up_tables := hPre_gate_up_tables)
    ∧ quiescent_Kernel2Ideal (hKernel2Ideal := hKernel2Ideal) (hPre_gate_up_tables := hPre_gate_up_tables)
    ∧ quiescent_Reference2Ideal (hReference2Ideal := hReference2Ideal) (hPre_gate_up_tables := hPre_gate_up_tables)
    ∧ quiescent_Kernel3 (hKernel3 := hKernel3) (hPre_down_tables := hPre_down_tables)
    ∧ quiescent_Kernel3Ideal (hKernel3Ideal := hKernel3Ideal) (hPre_down_tables := hPre_down_tables)
    ∧ quiescent_Reference3Ideal (hReference3Ideal := hReference3Ideal) (hPre_down_tables := hPre_down_tables)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_gate_up_tables := hPre_gate_up_tables)
    ∧ preserves_Kernel3_Kernel3Ideal
    ∧ algebraic_Kernel3Ideal_Reference3Ideal (hKernel3Ideal := hKernel3Ideal) (hReference3Ideal := hReference3Ideal) (hPre_down_tables := hPre_down_tables)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_down_tables.lean ====
abbrev S292 : Shape := ⟨1, ![292]⟩
abbrev S1 : Shape := ⟨1, ![1]⟩
abbrev S74752x2048 : Shape := ⟨2, ![74752, 2048]⟩
abbrev S32x2048x4096 : Shape := ⟨3, ![32, 2048, 4096]⟩
abbrev S32x1x4096 : Shape := ⟨3, ![32, 1, 4096]⟩
abbrev S_ : Shape := ⟨0, ![]⟩

class Facts : Prop where
  bcast_S_S292 : S_.BroadcastsInDim S292 (![] : Fin 0 → Fin S292.rank)
  reducesTo_S292_S_d0 : S292.ReducesTo [0] S_
  h_S_ : 0 < S_.numel
  shapeCasts_S1_S_ : S1.ShapeCasts S_

variable [Facts]

def fn {F : FTy → Type} [FloatOps F] (main_arg0 : IVec S292 32) (main_arg1 : IVec S1 32) (main_arg2 : FVec F S74752x2048 .bf16) (main_arg3 : FVec F S32x2048x4096 .f32) (main_arg4 : FVec F S32x1x4096 .f32) : IVec S_ 1 :=
  let main_c : IVec S_ 32 := constantI S_ 32 0#32
  let main_v0 : IVec S292 32 := broadcastInDim S292 ![] bcast_S_S292 main_c
  let main_v1 : IVec S292 1 := cmpi .sge main_arg0 main_v0
  let main_c_0 : IVec S_ 1 := constantI S_ 1 1#1
  let main_v2 : IVec S_ 1 := (fun x v => Host.reduce IntOp.andi x v reducesTo_S292_S_d0 h_S_) main_v1 main_c_0
  let main_c_1 : IVec S_ 32 := constantI S_ 32 32#32
  let main_v3 : IVec S292 32 := broadcastInDim S292 ![] bcast_S_S292 main_c_1
  let main_v4 : IVec S292 1 := cmpi .slt main_arg0 main_v3
  let main_c_2 : IVec S_ 1 := constantI S_ 1 1#1
  let main_v5 : IVec S_ 1 := (fun x v => Host.reduce IntOp.andi x v reducesTo_S292_S_d0 h_S_) main_v4 main_c_2
  let main_v6 : IVec S_ 1 := andi main_v2 main_v5
  let main_v7 : IVec S_ 32 := shapeCast S_ main_arg1 shapeCasts_S1_S_
  let main_c_3 : IVec S_ 32 := constantI S_ 32 1#32
  let main_v8 : IVec S_ 1 := cmpi .sge main_v7 main_c_3
  let main_v9 : IVec S_ 1 := andi main_v6 main_v8
  main_v9
-- ==== Pre_finite_scores.lean ====
abbrev S8x16640x512 : Shape := ⟨3, ![8, 16640, 512]⟩
abbrev S16640x1024 : Shape := ⟨2, ![16640, 1024]⟩
abbrev S64 : Shape := ⟨1, ![64]⟩
abbrev S_ : Shape := ⟨0, ![]⟩
abbrev S16640x512 : Shape := ⟨2, ![16640, 512]⟩

class Facts : Prop where
  bitsLt_bf16_f32 : FTy.bits .bf16 < FTy.bits .f32
  bcast_S_S8x16640x512 : S_.BroadcastsInDim S8x16640x512 (![] : Fin 0 → Fin S8x16640x512.rank)
  reducesTo_S8x16640x512_S_d0_1_2 : S8x16640x512.ReducesTo [0, 1, 2] S_
  h_S_ : 0 < S_.numel
  slices_S16640x1024_S16640x512_0_0 : S16640x1024.Slices ![0, 0] S16640x512
  bcast_S_S16640x512 : S_.BroadcastsInDim S16640x512 (![] : Fin 0 → Fin S16640x512.rank)
  reducesTo_S16640x512_S_d0_1 : S16640x512.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x16640x512 .bf16) (main_arg1 : FVec F S16640x1024 .f32) (main_arg2 : FVec F S64 .f32) : IVec S_ 1 :=
  let main_v0 : FVec F S8x16640x512 .f32 := (extf .f32 · bitsLt_bf16_f32) main_arg0
  let main_v1 : FVec F S8x16640x512 .f32 := Host.absf main_v0
  let main_cst : FVec F S_ .f32 := constant S_ .f32 0x7F800000#32
  let main_v2 : FVec F S8x16640x512 .f32 := broadcastInDim S8x16640x512 ![] bcast_S_S8x16640x512 main_cst
  let main_v3 : IVec S8x16640x512 1 := cmpf .olt main_v1 main_v2
  let main_c : IVec S_ 1 := constantI S_ 1 1#1
  let main_v4 : IVec S_ 1 := (fun x v => Host.reduce IntOp.andi x v reducesTo_S8x16640x512_S_d0_1_2 h_S_) main_v3 main_c
  let main_v5 : FVec F S16640x512 .f32 := (extractStridedSlice S16640x512 ![0, 0] · slices_S16640x1024_S16640x512_0_0) main_arg1
  let main_v6 : FVec F S16640x512 .f32 := Host.absf main_v5
  let main_cst_0 : FVec F S_ .f32 := constant S_ .f32 0x7F800000#32
  let main_v7 : FVec F S16640x512 .f32 := broadcastInDim S16640x512 ![] bcast_S_S16640x512 main_cst_0
  let main_v8 : IVec S16640x512 1 := cmpf .olt main_v6 main_v7
  let main_c_1 : IVec S_ 1 := constantI S_ 1 1#1
  let main_v9 : IVec S_ 1 := (fun x v => Host.reduce IntOp.andi x v reducesTo_S16640x512_S_d0_1 h_S_) main_v8 main_c_1
  let main_v10 : IVec S_ 1 := andi main_v4 main_v9
  let main_v11 : FVec F S64 .f32 := Host.absf main_arg2
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  main_v15
-- ==== Pre_gate_up_tables.lean ====
abbrev S292 : Shape := ⟨1, ![292]⟩
abbrev S1 : Shape := ⟨1, ![1]⟩
abbrev S74752x2048 : Shape := ⟨2, ![74752, 2048]⟩
abbrev S32x4096x4096 : Shape := ⟨3, ![32, 4096, 4096]⟩
abbrev S32x1x4096 : Shape := ⟨3, ![32, 1, 4096]⟩
abbrev S_ : Shape := ⟨0, ![]⟩

class Facts : Prop where
  bcast_S_S292 : S_.BroadcastsInDim S292 (![] : Fin 0 → Fin S292.rank)
  reducesTo_S292_S_d0 : S292.ReducesTo [0] S_
  h_S_ : 0 < S_.numel
  shapeCasts_S1_S_ : S1.ShapeCasts S_

variable [Facts]

def fn {F : FTy → Type} [FloatOps F] (main_arg0 : IVec S292 32) (main_arg1 : IVec S1 32) (main_arg2 : IVec S74752x2048 32) (main_arg3 : FVec F S32x4096x4096 .f32) (main_arg4 : FVec F S32x1x4096 .f32) : IVec S_ 1 :=
  let main_c : IVec S_ 32 := constantI S_ 32 0#32
  let main_v0 : IVec S292 32 := broadcastInDim S292 ![] bcast_S_S292 main_c
  let main_v1 : IVec S292 1 := cmpi .sge main_arg0 main_v0
  let main_c_0 : IVec S_ 1 := constantI S_ 1 1#1
  let main_v2 : IVec S_ 1 := (fun x v => Host.reduce IntOp.andi x v reducesTo_S292_S_d0 h_S_) main_v1 main_c_0
  let main_c_1 : IVec S_ 32 := constantI S_ 32 32#32
  let main_v3 : IVec S292 32 := broadcastInDim S292 ![] bcast_S_S292 main_c_1
  let main_v4 : IVec S292 1 := cmpi .slt main_arg0 main_v3
  let main_c_2 : IVec S_ 1 := constantI S_ 1 1#1
  let main_v5 : IVec S_ 1 := (fun x v => Host.reduce IntOp.andi x v reducesTo_S292_S_d0 h_S_) main_v4 main_c_2
  let main_v6 : IVec S_ 1 := andi main_v2 main_v5
  let main_v7 : IVec S_ 32 := shapeCast S_ main_arg1 shapeCasts_S1_S_
  let main_c_3 : IVec S_ 32 := constantI S_ 32 1#32
  let main_v8 : IVec S_ 1 := cmpi .sge main_v7 main_c_3
  let main_v9 : IVec S_ 1 := andi main_v6 main_v8
  main_v9
-- ==== Kernel.lean ====
abbrev S8x16640x512 : Shape := ⟨3, ![8, 16640, 512]⟩
abbrev S16640x1024 : Shape := ⟨2, ![16640, 1024]⟩
abbrev S64 : Shape := ⟨1, ![64]⟩
abbrev S_ : Shape := ⟨0, ![]⟩
abbrev S8x8 : Shape := ⟨2, ![8, 8]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S8x8x1x1 : Shape := ⟨4, ![8, 8, 1, 1]⟩
abbrev S1x1x64x192 : Shape := ⟨4, ![1, 1, 64, 192]⟩
abbrev S8x8x64x192 : Shape := ⟨4, ![8, 8, 64, 192]⟩
abbrev S8x512x192 : Shape := ⟨3, ![8, 512, 192]⟩
abbrev S8x8x64x1 : Shape := ⟨4, ![8, 8, 64, 1]⟩
abbrev S8x512x1 : Shape := ⟨3, ![8, 512, 1]⟩
abbrev S8x256x128 : Shape := ⟨3, ![8, 256, 128]⟩
abbrev S256x128 : Shape := ⟨2, ![256, 128]⟩
abbrev S128x128 : Shape := ⟨2, ![128, 128]⟩
abbrev S2x512x192 : Shape := ⟨3, ![2, 512, 192]⟩
abbrev S2x512x1 : Shape := ⟨3, ![2, 512, 1]⟩
abbrev S384x128 : Shape := ⟨2, ![384, 128]⟩
abbrev S192x128 : Shape := ⟨2, ![192, 128]⟩
abbrev S512x128 : Shape := ⟨2, ![512, 128]⟩
abbrev S512x192 : Shape := ⟨2, ![512, 192]⟩
abbrev S8x64x128 : Shape := ⟨3, ![8, 64, 128]⟩
abbrev S1x512x192 : Shape := ⟨3, ![1, 512, 192]⟩
abbrev S1x512x1 : Shape := ⟨3, ![1, 512, 1]⟩
abbrev S512x1 : Shape := ⟨2, ![512, 1]⟩
abbrev S512 : Shape := ⟨1, ![512]⟩

abbrev nBuf : Space → Nat
  | .hbm => 41
  | .vmem => 18
  | .smem => 0
  | _ => 0

abbrev bufTy : (tb : Table) → Fin (tcTables nBuf tb) → BufTy
  | .hbm, ⟨0, _⟩ => ⟨S8x16640x512, .bf16⟩
  | .hbm, ⟨1, _⟩ => ⟨S16640x1024, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S8x8, .f32⟩
  | .hbm, ⟨18, _⟩ => ⟨S64, .i32⟩
  | .hbm, ⟨19, _⟩ => ⟨S64x1, .i32⟩
  | .hbm, ⟨20, _⟩ => ⟨S192, .i32⟩
  | .hbm, ⟨21, _⟩ => ⟨S1x192, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x192, .i32⟩
  | .hbm, ⟨26, _⟩ => ⟨S64x192, .i32⟩
  | .hbm, ⟨27, _⟩ => ⟨S64x192, .i32⟩
  | .hbm, ⟨28, _⟩ => ⟨S64x192, .i32⟩
  | .hbm, ⟨29, _⟩ => ⟨S64x192, .f32⟩
  | .hbm, ⟨30, _⟩ => ⟨S8x8x1x1, .f32⟩
  | .hbm, ⟨31, _⟩ => ⟨S8x8x1x1, .f32⟩
  | .hbm, ⟨32, _⟩ => ⟨S1x1x64x192, .f32⟩
  | .hbm, ⟨33, _⟩ => ⟨S8x8x64x192, .f32⟩
  | .hbm, ⟨34, _⟩ => ⟨S8x8x64x192, .f32⟩
  | .hbm, ⟨35, _⟩ => ⟨S8x8x64x192, .f32⟩
  | .hbm, ⟨36, _⟩ => ⟨S8x512x192, .f32⟩
  | .hbm, ⟨37, _⟩ => ⟨S8x8x1x1, .f32⟩
  | .hbm, ⟨38, _⟩ => ⟨S8x8x64x1, .f32⟩
  | .hbm, ⟨39, _⟩ => ⟨S8x512x1, .f32⟩
  | .hbm, ⟨40, _⟩ => ⟨S8x16640x512, .bf16⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S128x128, .f32⟩
  | .local _ .vmem, ⟨5, _⟩ => ⟨S128x128, .f32⟩
  | .local _ .vmem, ⟨6, _⟩ => ⟨S256x128, .f32⟩
  | .local _ .vmem, ⟨7, _⟩ => ⟨S256x128, .f32⟩
  | .local _ .vmem, ⟨8, _⟩ => ⟨S128x128, .f32⟩
  | .local _ .vmem, ⟨9, _⟩ => ⟨S128x128, .f32⟩
  | .local _ .vmem, ⟨10, _⟩ => ⟨S2x512x192, .f32⟩
  | .local _ .vmem, ⟨11, _⟩ => ⟨S2x512x192, .f32⟩
  | .local _ .vmem, ⟨12, _⟩ => ⟨S2x512x1, .f32⟩
  | .local _ .vmem, ⟨13, _⟩ => ⟨S2x512x1, .f32⟩
  | .local _ .vmem, ⟨14, _⟩ => ⟨S8x256x128, .bf16⟩
  | .local _ .vmem, ⟨15, _⟩ => ⟨S8x256x128, .bf16⟩
  | .local _ .vmem, ⟨16, _⟩ => ⟨S384x128, .f32⟩
  | .local _ .vmem, ⟨17, _⟩ => ⟨S384x128, .f32⟩
  | _, _ => ⟨S8x16640x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 65], ![false, false]⟩

def k0_cond1 (i : grid0.Coords) : BitVec 1 :=
  let arg1 : BitVec 32 := BitVec.ofNat 32 (i 1).val
  let c64_i32 : BitVec 32 := 64#32
  let v0 : BitVec 1 := Scalar.cmpi .slt arg1 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c64_i32 : BitVec 32 := 64#32
  let v0 : BitVec 1 := Scalar.cmpi .slt arg1 c64_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x16640x512 : Shape := ⟨3, ![8, 16640, 512]⟩
abbrev S16640x1024 : Shape := ⟨2, ![16640, 1024]⟩
abbrev S64 : Shape := ⟨1, ![64]⟩
abbrev S8x16384x512 : Shape := ⟨3, ![8, 16384, 512]⟩
abbrev S8x4x64x64x8x64 : Shape := ⟨6, ![8, 4, 64, 64, 8, 64]⟩
abbrev S4x64x64x8x8x64 : Shape := ⟨6, ![4, 64, 64, 8, 8, 64]⟩
abbrev S16384x512 : Shape := ⟨2, ![16384, 512]⟩
abbrev S4x4096x8x64 : Shape := ⟨4, ![4, 4096, 8, 64]⟩
abbrev S4096 : Shape := ⟨1, ![4096]⟩
abbrev S64x64 : Shape := ⟨2, ![64, 64]⟩
abbrev S64x1 : Shape := ⟨2, ![64, 1]⟩
abbrev S_ : Shape := ⟨0, ![]⟩
abbrev S192 : Shape := ⟨1, ![192]⟩
abbrev S1x192 : Shape := ⟨2, ![1, 192]⟩
abbrev S64x192 : Shape := ⟨2, ![64, 192]⟩
abbrev S64x1x192 : Shape := ⟨3, ![64, 1, 192]⟩
abbrev S4x128x8x64 : Shape := ⟨4, ![4, 128, 8, 64]⟩
abbrev S4x4224x8x64 : Shape := ⟨4, ![4, 4224, 8, 64]⟩
abbrev S4x66x64x8x64 : Shape := ⟨5, ![4, 66, 64, 8, 64]⟩
abbrev S4x64x64x8x64 : Shape := ⟨5, ![4, 64, 64, 8, 64]⟩
abbrev S4x64x192x8x64 : Shape := ⟨5, ![4, 64, 192, 8, 64]⟩
abbrev S4x64x8x192x64x8 : Shape := ⟨6, ![4, 64, 8, 192, 64, 8]⟩
abbrev S4x64x8x8x64x192 : Shape := ⟨6, ![4, 64, 8, 8, 64, 192]⟩
abbrev S8x8 : Shape := ⟨2, ![8, 8]⟩
abbrev S8x8x1x1 : Shape := ⟨4, ![8, 8, 1, 1]⟩
abbrev S64x64x1 : Shape := ⟨3, ![64, 64, 1]⟩
abbrev S64x64x192 : Shape := ⟨3, ![64, 64, 192]⟩
abbrev S64x1x1x64x192 : Shape := ⟨5, ![64, 1, 1, 64, 192]⟩
abbrev S64x1x1x1x192 : Shape := ⟨5, ![64, 1, 1, 1, 192]⟩
abbrev S1x8x8x1x1 : Shape := ⟨5, ![1, 8, 8, 1, 1]⟩
abbrev S64x8x8x64x192 : Shape := ⟨5, ![64, 8, 8, 64, 192]⟩
abbrev S1x64x8x8x64x192 : Shape := ⟨6, ![1, 64, 8, 8, 64, 192]⟩
abbrev S4x64x8x8x64 : Shape := ⟨5, ![4, 64, 8, 8, 64]⟩
abbrev S4x64x8x8x64x1 : Shape := ⟨6, ![4, 64, 8, 8, 64, 1]⟩
abbrev S1x1x8x8x1x1 : Shape := ⟨6, ![1, 1, 8, 8, 1, 1]⟩
abbrev S4x64x8x64x8x64 : Shape := ⟨6, ![4, 64, 8, 64, 8, 64]⟩
abbrev S8x256x512 : Shape := ⟨3, ![8, 256, 512]⟩

abbrev nBuf : Space → Nat
  | .hbm => 118
  | .vmem => 0
  | .smem => 0
  | _ => 0

abbrev bufTy : (tb : Table) → Fin (tcTables nBuf tb) → BufTy
  | .hbm, ⟨0, _⟩ => ⟨S8x16640x512, .bf16⟩
  | .hbm, ⟨1, _⟩ => ⟨S16640x1024, .f32⟩
  | .hbm, ⟨2, _⟩ => ⟨S64, .f32⟩
  | .hbm, ⟨3, _⟩ => ⟨S8x16384x512, .bf16⟩
  | .hbm, ⟨4, _⟩ => ⟨S8x16384x512, .f32⟩
  | .hbm, ⟨5, _⟩ => ⟨S8x4x64x64x8x64, .f32⟩
  | .hbm, ⟨6, _⟩ => ⟨S4x64x64x8x8x64, .f32⟩
  | .hbm, ⟨7, _⟩ => ⟨S16384x512, .f32⟩
  | .hbm, ⟨8, _⟩ => ⟨S4x4096x8x64, .f32⟩
  | .hbm, ⟨9, _⟩ => ⟨S16384x512, .f32⟩
  | .hbm, ⟨10, _⟩ => ⟨S4x4096x8x64, .f32⟩
  | .hbm, ⟨11, _⟩ => ⟨S4096, .i32⟩
  | .hbm, ⟨12, _⟩ => ⟨S64x64, .i32⟩
  | .hbm, ⟨13, _⟩ => ⟨S64, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S192, .i32⟩
  | .hbm, ⟨22, _⟩ => ⟨S1x192, .i32⟩
  | .hbm, ⟨23, _⟩ => ⟨S64x192, .i32⟩
  | .hbm, ⟨24, _⟩ => ⟨S64x192, .i32⟩
  | .hbm, ⟨25, _⟩ => ⟨S64x192, .i32⟩
  | .hbm, ⟨26, _⟩ => ⟨S_, .i32⟩
  | .hbm, ⟨27, _⟩ => ⟨S64x192, .i32⟩
  | .hbm, ⟨28, _⟩ => ⟨S64x192, .i1⟩
  | .hbm, ⟨29, _⟩ => ⟨S64x1x192, .i1⟩
  | .hbm, ⟨30, _⟩ => ⟨S_, .f32⟩
  | .hbm, ⟨31, _⟩ => ⟨S4x128x8x64, .f32⟩
  | .hbm, ⟨32, _⟩ => ⟨S4x4224x8x64, .f32⟩
  | .hbm, ⟨33, _⟩ => ⟨S4x66x64x8x64, .f32⟩
  | .hbm, ⟨34, _⟩ => ⟨S4x64x64x8x64, .f32⟩
  | .hbm, ⟨35, _⟩ => ⟨S4x64x64x8x64, .f32⟩
  | .hbm, ⟨36, _⟩ => ⟨S4x64x64x8x64, .f32⟩
  | .hbm, ⟨37, _⟩ => ⟨S4x64x192x8x64, .f32⟩
  | .hbm, ⟨38, _⟩ => ⟨S_, .f32⟩
  | .hbm, ⟨39, _⟩ => ⟨S4x128x8x64, .f32⟩
  | .hbm, ⟨40, _⟩ => ⟨S4x4224x8x64, .f32⟩
  | .hbm, ⟨41, _⟩ => ⟨S4x66x64x8x64, .f32⟩
  | .hbm, ⟨42, _⟩ => ⟨S4x64x64x8x64, .f32⟩
  | .hbm, ⟨43, _⟩ => ⟨S4x64x64x8x64, .f32⟩
  | .hbm, ⟨44, _⟩ => ⟨S4x64x64x8x64, .f32⟩
  | .hbm, ⟨45, _⟩ => ⟨S4x64x192x8x64, .f32⟩
  | .hbm, ⟨46, _⟩ => ⟨S4x64x8x192x64x8, .f32⟩
  | .hbm, ⟨47, _⟩ => ⟨S4x64x8x8x64x192, .f32⟩
  | .hbm, ⟨48, _⟩ => ⟨S_, .f32⟩
  | .hbm, ⟨49, _⟩ => ⟨S4x64x8x8x64x192, .f32⟩
  | .hbm, ⟨50, _⟩ => ⟨S4x64x8x8x64x192, .f32⟩
  | .hbm, ⟨51, _⟩ => ⟨S64, .i32⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S8x8, .f32⟩
  | .hbm, ⟨67, _⟩ => ⟨S8x8x1x1, .f32⟩
  | .hbm, ⟨68, _⟩ => ⟨S64x64x1, .i32⟩
  | .hbm, ⟨69, _⟩ => ⟨S64x1x192, .i32⟩
  | .hbm, ⟨70, _⟩ => ⟨S64x64x192, .i32⟩
  | .hbm, ⟨71, _⟩ => ⟨S64x64x192, .i32⟩
  | .hbm, ⟨72, _⟩ => ⟨S64x64x192, .i32⟩
  | .hbm, ⟨73, _⟩ => ⟨S64x64x192, .i32⟩
  | .hbm, ⟨74, _⟩ => ⟨S64x64x192, .f32⟩
  | .hbm, ⟨75, _⟩ => ⟨S64x1x1x64x192, .f32⟩
  | .hbm, ⟨76, _⟩ => ⟨S64x1x1x1x192, .i1⟩
  | .hbm, ⟨77, _⟩ => ⟨S1x8x8x1x1, .f32⟩
  | .hbm, ⟨78, _⟩ => ⟨S64x8x8x64x192, .f32⟩
  | .hbm, ⟨79, _⟩ => ⟨S64x8x8x64x192, .f32⟩
  | .hbm, ⟨80, _⟩ => ⟨S64x8x8x64x192, .f32⟩
  | .hbm, ⟨81, _⟩ => ⟨S1x64x8x8x64x192, .f32⟩
  | .hbm, ⟨82, _⟩ => ⟨S4x64x8x8x64x192, .f32⟩
  | .hbm, ⟨83, _⟩ => ⟨S4x64x8x8x64x192, .f32⟩
  | .hbm, ⟨84, _⟩ => ⟨S_, .f32⟩
  | .hbm, ⟨85, _⟩ => ⟨S_, .f32⟩
  | .hbm, ⟨86, _⟩ => ⟨S4x64x8x8x64x192, .i1⟩
  | .hbm, ⟨87, _⟩ => ⟨S4x64x8x8x64x192, .f32⟩
  | .hbm, ⟨88, _⟩ => ⟨S4x64x8x8x64x192, .f32⟩
  | .hbm, ⟨89, _⟩ => ⟨S8x8, .f32⟩
  | .hbm, ⟨90, _⟩ => ⟨S8x8x1x1, .f32⟩
  | .hbm, ⟨91, _⟩ => ⟨S_, .f32⟩
  | .hbm, ⟨92, _⟩ => ⟨S4x64x8x8x64, .f32⟩
  | .hbm, ⟨93, _⟩ => ⟨S4x64x8x8x64x1, .f32⟩
  | .hbm, ⟨94, _⟩ => ⟨S1x1x8x8x1x1, .f32⟩
  | .hbm, ⟨95, _⟩ => ⟨S4x64x8x8x64x1, .f32⟩
  | .hbm, ⟨96, _⟩ => ⟨S4x64x8x8x64x1, .f32⟩
  | .hbm, ⟨97, _⟩ => ⟨S4x64x8x8x64x192, .f32⟩
  | .hbm, ⟨98, _⟩ => ⟨S4x64x8x8x64x192, .f32⟩
  | .hbm, ⟨99, _⟩ => ⟨S4x64x8x8x64x192, .f32⟩
  | .hbm, ⟨100, _⟩ => ⟨S_, .f32⟩
  | .hbm, ⟨101, _⟩ => ⟨S4x64x8x8x64, .f32⟩
  | .hbm, ⟨102, _⟩ => ⟨S4x64x8x8x64x1, .f32⟩
  | .hbm, ⟨103, _⟩ => ⟨S1x1x8x8x1x1, .f32⟩
  | .hbm, ⟨104, _⟩ => ⟨S4x64x8x8x64x1, .f32⟩
  | .hbm, ⟨105, _⟩ => ⟨S4x64x8x8x64x1, .f32⟩
  | .hbm, ⟨106, _⟩ => ⟨S4x64x8x8x64x1, .f32⟩
  | .hbm, ⟨107, _⟩ => ⟨S4x64x8x8x64x1, .f32⟩
  | .hbm, ⟨108, _⟩ => ⟨S4x64x8x8x64x192, .f32⟩
  | .hbm, ⟨109, _⟩ => ⟨S4x64x8x8x64x192, .f32⟩
  | .hbm, ⟨110, _⟩ => ⟨S4x64x8x64x8x64, .f32⟩
  | .hbm, ⟨111, _⟩ => ⟨S4x64x64x8x8x64, .f32⟩
  | .hbm, ⟨112, _⟩ => ⟨S8x4x64x64x8x64, .f32⟩
  | .hbm, ⟨113, _⟩ => ⟨S8x16384x512, .f32⟩
  | .hbm, ⟨114, _⟩ => ⟨S_, .f32⟩
  | .hbm, ⟨115, _⟩ => ⟨S8x256x512, .f32⟩
  | .hbm, ⟨116, _⟩ => ⟨S8x16640x512, .f32⟩
  | .hbm, ⟨117, _⟩ => ⟨S8x16640x512, .bf16⟩
  | _, _ => ⟨S8x16640x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_8 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_9 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_10 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_11 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩

abbrev nD : Nat := 1
abbrev τ : Topo := Topo.v7x

variable {F : FTy → Type} [FloatOps F]
-- ==== Kernel2.lean ====
abbrev S292 : Shape := ⟨1, ![292]⟩
abbrev S1 : Shape := ⟨1, ![1]⟩
abbrev S74752x2048 : Shape := ⟨2, ![74752, 2048]⟩
abbrev S32x4096x4096 : Shape := ⟨3, ![32, 4096, 4096]⟩
abbrev S32x1x4096 : Shape := ⟨3, ![32, 1, 4096]⟩
abbrev S256x2048 : Shape := ⟨2, ![256, 2048]⟩
abbrev S1x4096x512 : Shape := ⟨3, ![1, 4096, 512]⟩
abbrev S1x1x512 : Shape := ⟨3, ![1, 1, 512]⟩
abbrev S256x512 : Shape := ⟨2, ![256, 512]⟩
abbrev S4096x512 : Shape := ⟨2, ![4096, 512]⟩
abbrev S2048x512 : Shape := ⟨2, ![2048, 512]⟩
abbrev S1x512 : Shape := ⟨2, ![1, 512]⟩

abbrev nBuf : Space → Nat
  | .hbm => 4
  | .vmem => 14
  | .smem => 2
  | _ => 0

abbrev bufTy : (tb : Table) → Fin (tcTables nBuf tb) → BufTy
  | .hbm, ⟨0, _⟩ => ⟨S74752x2048, .i32⟩
  | .hbm, ⟨1, _⟩ => ⟨S32x4096x4096, .f32⟩
  | .hbm, ⟨2, _⟩ => ⟨S32x1x4096, .f32⟩
  | .hbm, ⟨3, _⟩ => ⟨S74752x2048, .bf16⟩
  | .local _ .vmem, ⟨0, _⟩ => ⟨S256x2048, .i32⟩
  | .local _ .vmem, ⟨1, _⟩ => ⟨S256x2048, .i32⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S256x512, .bf16⟩
  | .local _ .vmem, ⟨11, _⟩ => ⟨S256x512, .bf16⟩
  | .local _ .vmem, ⟨12, _⟩ => ⟨S4096x512, .bf16⟩
  | .local _ .vmem, ⟨13, _⟩ => ⟨S4096x512, .bf16⟩
  | .local _ .smem, ⟨0, _⟩ => ⟨S292, .i32⟩
  | .local _ .smem, ⟨1, _⟩ => ⟨S1, .i32⟩
  | _, _ => ⟨S74752x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 292], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v0 : BitVec 32) : Fin 1 → Nat :=
  let arg1 : BitVec 32 := BitVec.ofNat 32 (i 1).val
  let c1_i32 : BitVec 32 := 1#32
  let v1 : BitVec 32 := Scalar.subi v0 c1_i32
  let v2 : BitVec 32 := Scalar.minsi arg1 v1
  let v6 : Index := Scalar.indexCast v2
  ![v6.toNat]

def k0_off3 (i : grid0.Coords) (v0 : BitVec 32) : Fin 1 → Nat :=
  let arg1 : BitVec 32 := BitVec.ofNat 32 (i 1).val
  let c1_i32 : BitVec 32 := 1#32
  let v1 : BitVec 32 := Scalar.subi v0 c1_i32
  let v2 : BitVec 32 := Scalar.minsi arg1 v1
  let c1_i32_0 : BitVec 32 := 1#32
  let v3 : BitVec 32 := Scalar.subi v2 c1_i32_0
  let c0_i32 : BitVec 32 := 0#32
  let v4 : BitVec 32 := Scalar.maxsi v3 c0_i32
  let v8 : Index := Scalar.indexCast v4
  ![v8.toNat]

def k0_chk1 (i : grid0.Coords) (v0 : BitVec 32) : Prop :=
  (∀ a, (k0_off2 i v0) a + S1.size a ≤ S292.size a) ∧
  (∀ a, (k0_off3 i v0) a + S1.size a ≤ S292.size a)
theorem k0_off2_inb : ∀ (i : grid0.Coords) (v0 : BitVec 32) (k0_hw1 : k0_chk1 i v0), ∀ a, (k0_off2 i v0) a + S1.size a ≤ S292.size a := fun i v0 k0_hw1 => k0_hw1.1
theorem k0_off3_inb : ∀ (i : grid0.Coords) (v0 : BitVec 32) (k0_hw1 : k0_chk1 i v0), ∀ a, (k0_off3 i v0) a + S1.size a ≤ S292.size a := fun i v0 k0_hw1 => k0_hw1.2

def k0_cond2 (i : grid0.Coords) (v0 : BitVec 32) : BitVec 1 :=
  let arg1 : BitVec 32 := BitVec.ofNat 32 (i 1).val
  let c1_i32 : BitVec 32 := 1#32
  let v1 : BitVec 32 := Scalar.subi v0 c1_i32
  let v12 : BitVec 1 := Scalar.cmpi .sle arg1 v1
  let v16 : BitVec 32 := Scalar.extui v12
  let c0_i32_3 : BitVec 32 := 0#32
  let v17 : BitVec 1 := Scalar.cmpi .ne v16 c0_i32_3
  v17

def k0_cond3 (i : grid0.Coords) (v0 : BitVec 32) : BitVec 1 :=
  let arg1 : BitVec 32 := BitVec.ofNat 32 (i 1).val
  let c1_i32 : BitVec 32 := 1#32
  let v1 : BitVec 32 := Scalar.subi v0 c1_i32
  let v12 : BitVec 1 := Scalar.cmpi .sle arg1 v1
  let v_true : BitVec 1 := 1#1
  let v18 : BitVec 1 := Scalar.xori v12 v_true
  let v19 : BitVec 32 := Scalar.extui v18
  let c0_i32_4 : BitVec 32 := 0#32
  let v20 : BitVec 1 := Scalar.cmpi .ne v19 c0_i32_4
  v20

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S292) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S292) ![v0.toNat] S1.size (k0_off1_inb i)) numel1_S1
  let c4_i32 : BitVec 32 := 4#32
  let v2 : BitVec 32 := Scalar.addi arg0 c4_i32
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S292) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S292) ![v0.toNat] S1.size (k0_off1_inb i)) numel1_S1
  let c4_i32 : BitVec 32 := 4#32
  let v2 : BitVec 32 := Scalar.addi arg0 c4_i32
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S292 : Shape := ⟨1, ![292]⟩
abbrev S1 : Shape := ⟨1, ![1]⟩
abbrev S74752x2048 : Shape := ⟨2, ![74752, 2048]⟩
abbrev S32x4096x4096 : Shape := ⟨3, ![32, 4096, 4096]⟩
abbrev S32x1x4096 : Shape := ⟨3, ![32, 1, 4096]⟩
abbrev S_ : Shape := ⟨0, ![]⟩
abbrev S74752x4096 : Shape := ⟨2, ![74752, 4096]⟩
abbrev S292x256x4096 : Shape := ⟨3, ![292, 256, 4096]⟩
abbrev S292x1 : Shape := ⟨2, ![292, 1]⟩
abbrev S292x4096x4096 : Shape := ⟨3, ![292, 4096, 4096]⟩
abbrev S292x1x4096 : Shape := ⟨3, ![292, 1, 4096]⟩
abbrev S292x256x2048 : Shape := ⟨3, ![292, 256, 2048]⟩
abbrev S292x1x1 : Shape := ⟨3, ![292, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S292, .i32⟩
  | .hbm, ⟨1, _⟩ => ⟨S1, .i32⟩
  | .hbm, ⟨2, _⟩ => ⟨S74752x2048, .i32⟩
  | .hbm, ⟨3, _⟩ => ⟨S32x4096x4096, .f32⟩
  | .hbm, ⟨4, _⟩ => ⟨S32x1x4096, .f32⟩
  | .hbm, ⟨5, _⟩ => ⟨S_, .i32⟩
  | .hbm, ⟨6, _⟩ => ⟨S74752x2048, .i32⟩
  | .hbm, ⟨7, _⟩ => ⟨S74752x2048, .i32⟩
  | .hbm, ⟨8, _⟩ => ⟨S74752x2048, .f32⟩
  | .hbm, ⟨9, _⟩ => ⟨S_, .i32⟩
  | .hbm, ⟨10, _⟩ => ⟨S74752x2048, .i32⟩
  | .hbm, ⟨11, _⟩ => ⟨S74752x2048, .i32⟩
  | .hbm, ⟨12, _⟩ => ⟨S74752x2048, .f32⟩
  | .hbm, ⟨13, _⟩ => ⟨S74752x4096, .f32⟩
  | .hbm, ⟨14, _⟩ => ⟨S292x256x4096, .f32⟩
  | .hbm, ⟨15, _⟩ => ⟨S_, .i32⟩
  | .hbm, ⟨16, _⟩ => ⟨S292, .i32⟩
  | .hbm, ⟨17, _⟩ => ⟨S292, .i1⟩
  | .hbm, ⟨18, _⟩ => ⟨S_, .i32⟩
  | .hbm, ⟨19, _⟩ => ⟨S292, .i32⟩
  | .hbm, ⟨20, _⟩ => ⟨S292, .i32⟩
  | .hbm, ⟨21, _⟩ => ⟨S292, .i32⟩
  | .hbm, ⟨22, _⟩ => ⟨S292x1, .i32⟩
  | .hbm, ⟨23, _⟩ => ⟨S292x4096x4096, .f32⟩
  | .hbm, ⟨24, _⟩ => ⟨S292x256x4096, .f32⟩
  | .hbm, ⟨25, _⟩ => ⟨S_, .i32⟩
  | .hbm, ⟨26, _⟩ => ⟨S292, .i32⟩
  | .hbm, ⟨27, _⟩ => ⟨S292, .i1⟩
  | .hbm, ⟨28, _⟩ => ⟨S_, .i32⟩
  | .hbm, ⟨29, _⟩ => ⟨S292, .i32⟩
  | .hbm, ⟨30, _⟩ => ⟨S292, .i32⟩
  | .hbm, ⟨31, _⟩ => ⟨S292, .i32⟩
  | .hbm, ⟨32, _⟩ => ⟨S292x1, .i32⟩
  | .hbm, ⟨33, _⟩ => ⟨S292x1x4096, .f32⟩
  | .hbm, ⟨34, _⟩ => ⟨S292x256x4096, .f32⟩
  | .hbm, ⟨35, _⟩ => ⟨S292x256x4096, .f32⟩
  | .hbm, ⟨36, _⟩ => ⟨S292x256x2048, .f32⟩
  | .hbm, ⟨37, _⟩ => ⟨S292x256x2048, .f32⟩
  | .hbm, ⟨38, _⟩ => ⟨S_, .f32⟩
  | .hbm, ⟨39, _⟩ => ⟨S292x256x2048, .f32⟩
  | .hbm, ⟨40, _⟩ => ⟨S292x256x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S292x256x2048, .f32⟩
  | .hbm, ⟨45, _⟩ => ⟨S292x256x2048, .f32⟩
  | .hbm, ⟨46, _⟩ => ⟨S_, .f32⟩
  | .hbm, ⟨47, _⟩ => ⟨S292x256x2048, .f32⟩
  | .hbm, ⟨48, _⟩ => ⟨S292x256x2048, .f32⟩
  | .hbm, ⟨49, _⟩ => ⟨S_, .f32⟩
  | .hbm, ⟨50, _⟩ => ⟨S292x256x2048, .f32⟩
  | .hbm, ⟨51, _⟩ => ⟨S292x256x2048, .f32⟩
  | .hbm, ⟨52, _⟩ => ⟨S_, .f32⟩
  | .hbm, ⟨53, _⟩ => ⟨S292x256x2048, .f32⟩
  | .hbm, ⟨54, _⟩ => ⟨S292x256x2048, .f32⟩
  | .hbm, ⟨55, _⟩ => ⟨S292x256x2048, .f32⟩
  | .hbm, ⟨56, _⟩ => ⟨S292x256x2048, .f32⟩
  | .hbm, ⟨57, _⟩ => ⟨S_, .f32⟩
  | .hbm, ⟨58, _⟩ => ⟨S292x256x2048, .f32⟩
  | .hbm, ⟨59, _⟩ => ⟨S292x256x2048, .f32⟩
  | .hbm, ⟨60, _⟩ => ⟨S_, .f32⟩
  | .hbm, ⟨61, _⟩ => ⟨S292x256x2048, .f32⟩
  | .hbm, ⟨62, _⟩ => ⟨S292x256x2048, .f32⟩
  | .hbm, ⟨63, _⟩ => ⟨S292x256x2048, .f32⟩
  | .hbm, ⟨64, _⟩ => ⟨S292x256x2048, .f32⟩
  | .hbm, ⟨65, _⟩ => ⟨S292, .i32⟩
  | .hbm, ⟨66, _⟩ => ⟨S_, .i32⟩
  | .hbm, ⟨67, _⟩ => ⟨S292, .i32⟩
  | .hbm, ⟨68, _⟩ => ⟨S292, .i1⟩
  | .hbm, ⟨69, _⟩ => ⟨S292x1x1, .i1⟩
  | .hbm, ⟨70, _⟩ => ⟨S_, .f32⟩
  | .hbm, ⟨71, _⟩ => ⟨S_, .f32⟩
  | .hbm, ⟨72, _⟩ => ⟨S292x256x2048, .i1⟩
  | .hbm, ⟨73, _⟩ => ⟨S292x256x2048, .f32⟩
  | .hbm, ⟨74, _⟩ => ⟨S292x256x2048, .f32⟩
  | .hbm, ⟨75, _⟩ => ⟨S74752x2048, .f32⟩
  | .hbm, ⟨76, _⟩ => ⟨S74752x2048, .bf16⟩
  | _, _ => ⟨S292, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Kernel3.lean ====
abbrev S292 : Shape := ⟨1, ![292]⟩
abbrev S1 : Shape := ⟨1, ![1]⟩
abbrev S74752x2048 : Shape := ⟨2, ![74752, 2048]⟩
abbrev S32x2048x4096 : Shape := ⟨3, ![32, 2048, 4096]⟩
abbrev S32x1x4096 : Shape := ⟨3, ![32, 1, 4096]⟩
abbrev S74752x4096 : Shape := ⟨2, ![74752, 4096]⟩
abbrev S256x2048 : Shape := ⟨2, ![256, 2048]⟩
abbrev S1x2048x1024 : Shape := ⟨3, ![1, 2048, 1024]⟩
abbrev S1x1x1024 : Shape := ⟨3, ![1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 4
  | .vmem => 9
  | .smem => 2
  | _ => 0

abbrev bufTy : (tb : Table) → Fin (tcTables nBuf tb) → BufTy
  | .hbm, ⟨0, _⟩ => ⟨S74752x2048, .bf16⟩
  | .hbm, ⟨1, _⟩ => ⟨S32x2048x4096, .f32⟩
  | .hbm, ⟨2, _⟩ => ⟨S32x1x4096, .f32⟩
  | .hbm, ⟨3, _⟩ => ⟨S74752x4096, .f32⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .smem, ⟨0, _⟩ => ⟨S292, .i32⟩
  | .local _ .smem, ⟨1, _⟩ => ⟨S1, .i32⟩
  | _, _ => ⟨S74752x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 292], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v0 : BitVec 32) : Fin 1 → Nat :=
  let arg1 : BitVec 32 := BitVec.ofNat 32 (i 1).val
  let c1_i32 : BitVec 32 := 1#32
  let v1 : BitVec 32 := Scalar.subi v0 c1_i32
  let v2 : BitVec 32 := Scalar.minsi arg1 v1
  let v6 : Index := Scalar.indexCast v2
  ![v6.toNat]

def k0_off3 (i : grid0.Coords) (v0 : BitVec 32) : Fin 1 → Nat :=
  let arg1 : BitVec 32 := BitVec.ofNat 32 (i 1).val
  let c1_i32 : BitVec 32 := 1#32
  let v1 : BitVec 32 := Scalar.subi v0 c1_i32
  let v2 : BitVec 32 := Scalar.minsi arg1 v1
  let c1_i32_0 : BitVec 32 := 1#32
  let v3 : BitVec 32 := Scalar.subi v2 c1_i32_0
  let c0_i32 : BitVec 32 := 0#32
  let v4 : BitVec 32 := Scalar.maxsi v3 c0_i32
  let v8 : Index := Scalar.indexCast v4
  ![v8.toNat]

def k0_chk1 (i : grid0.Coords) (v0 : BitVec 32) : Prop :=
  (∀ a, (k0_off2 i v0) a + S1.size a ≤ S292.size a) ∧
  (∀ a, (k0_off3 i v0) a + S1.size a ≤ S292.size a)
theorem k0_off2_inb : ∀ (i : grid0.Coords) (v0 : BitVec 32) (k0_hw1 : k0_chk1 i v0), ∀ a, (k0_off2 i v0) a + S1.size a ≤ S292.size a := fun i v0 k0_hw1 => k0_hw1.1
theorem k0_off3_inb : ∀ (i : grid0.Coords) (v0 : BitVec 32) (k0_hw1 : k0_chk1 i v0), ∀ a, (k0_off3 i v0) a + S1.size a ≤ S292.size a := fun i v0 k0_hw1 => k0_hw1.2

def k0_cond2 (i : grid0.Coords) (v0 : BitVec 32) : BitVec 1 :=
  let arg1 : BitVec 32 := BitVec.ofNat 32 (i 1).val
  let c1_i32 : BitVec 32 := 1#32
  let v1 : BitVec 32 := Scalar.subi v0 c1_i32
  let v12 : BitVec 1 := Scalar.cmpi .sle arg1 v1
  let v16 : BitVec 32 := Scalar.extui v12
  let c0_i32_3 : BitVec 32 := 0#32
  let v17 : BitVec 1 := Scalar.cmpi .ne v16 c0_i32_3
  v17

def k0_cond3 (i : grid0.Coords) (v0 : BitVec 32) : BitVec 1 :=
  let arg1 : BitVec 32 := BitVec.ofNat 32 (i 1).val
  let c1_i32 : BitVec 32 := 1#32
  let v1 : BitVec 32 := Scalar.subi v0 c1_i32
  let v12 : BitVec 1 := Scalar.cmpi .sle arg1 v1
  let v_true : BitVec 1 := 1#1
  let v18 : BitVec 1 := Scalar.xori v12 v_true
  let v19 : BitVec 32 := Scalar.extui v18
  let c0_i32_4 : BitVec 32 := 0#32
  let v20 : BitVec 1 := Scalar.cmpi .ne v19 c0_i32_4
  v20

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S292) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S292) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S292 : Shape := ⟨1, ![292]⟩
abbrev S1 : Shape := ⟨1, ![1]⟩
abbrev S74752x2048 : Shape := ⟨2, ![74752, 2048]⟩
abbrev S32x2048x4096 : Shape := ⟨3, ![32, 2048, 4096]⟩
abbrev S32x1x4096 : Shape := ⟨3, ![32, 1, 4096]⟩
abbrev S292x256x2048 : Shape := ⟨3, ![292, 256, 2048]⟩
abbrev S_ : Shape := ⟨0, ![]⟩
abbrev S292x1 : Shape := ⟨2, ![292, 1]⟩
abbrev S292x2048x4096 : Shape := ⟨3, ![292, 2048, 4096]⟩
abbrev S292x256x4096 : Shape := ⟨3, ![292, 256, 4096]⟩
abbrev S292x1x4096 : Shape := ⟨3, ![292, 1, 4096]⟩
abbrev S292x1x1 : Shape := ⟨3, ![292, 1, 1]⟩
abbrev S74752x4096 : Shape := ⟨2, ![74752, 4096]⟩

abbrev nBuf : Space → Nat
  | .hbm => 39
  | .vmem => 0
  | .smem => 0
  | _ => 0

abbrev bufTy : (tb : Table) → Fin (tcTables nBuf tb) → BufTy
  | .hbm, ⟨0, _⟩ => ⟨S292, .i32⟩
  | .hbm, ⟨1, _⟩ => ⟨S1, .i32⟩
  | .hbm, ⟨2, _⟩ => ⟨S74752x2048, .bf16⟩
  | .hbm, ⟨3, _⟩ => ⟨S32x2048x4096, .f32⟩
  | .hbm, ⟨4, _⟩ => ⟨S32x1x4096, .f32⟩
  | .hbm, ⟨5, _⟩ => ⟨S74752x2048, .f32⟩
  | .hbm, ⟨6, _⟩ => ⟨S292x256x2048, .f32⟩
  | .hbm, ⟨7, _⟩ => ⟨S_, .i32⟩
  | .hbm, ⟨8, _⟩ => ⟨S292, .i32⟩
  | .hbm, ⟨9, _⟩ => ⟨S292, .i1⟩
  | .hbm, ⟨10, _⟩ => ⟨S_, .i32⟩
  | .hbm, ⟨11, _⟩ => ⟨S292, .i32⟩
  | .hbm, ⟨12, _⟩ => ⟨S292, .i32⟩
  | .hbm, ⟨13, _⟩ => ⟨S292, .i32⟩
  | .hbm, ⟨14, _⟩ => ⟨S292x1, .i32⟩
  | .hbm, ⟨15, _⟩ => ⟨S292x2048x4096, .f32⟩
  | .hbm, ⟨16, _⟩ => ⟨S292x256x4096, .f32⟩
  | .hbm, ⟨17, _⟩ => ⟨S_, .i32⟩
  | .hbm, ⟨18, _⟩ => ⟨S292, .i32⟩
  | .hbm, ⟨19, _⟩ => ⟨S292, .i1⟩
  | .hbm, ⟨20, _⟩ => ⟨S_, .i32⟩
  | .hbm, ⟨21, _⟩ => ⟨S292, .i32⟩
  | .hbm, ⟨22, _⟩ => ⟨S292, .i32⟩
  | .hbm, ⟨23, _⟩ => ⟨S292, .i32⟩
  | .hbm, ⟨24, _⟩ => ⟨S292x1, .i32⟩
  | .hbm, ⟨25, _⟩ => ⟨S292x1x4096, .f32⟩
  | .hbm, ⟨26, _⟩ => ⟨S292x256x4096, .f32⟩
  | .hbm, ⟨27, _⟩ => ⟨S292x256x4096, .f32⟩
  | .hbm, ⟨28, _⟩ => ⟨S292, .i32⟩
  | .hbm, ⟨29, _⟩ => ⟨S_, .i32⟩
  | .hbm, ⟨30, _⟩ => ⟨S292, .i32⟩
  | .hbm, ⟨31, _⟩ => ⟨S292, .i1⟩
  | .hbm, ⟨32, _⟩ => ⟨S292x1x1, .i1⟩
  | .hbm, ⟨33, _⟩ => ⟨S_, .f32⟩
  | .hbm, ⟨34, _⟩ => ⟨S_, .f32⟩
  | .hbm, ⟨35, _⟩ => ⟨S292x256x4096, .i1⟩
  | .hbm, ⟨36, _⟩ => ⟨S292x256x4096, .f32⟩
  | .hbm, ⟨37, _⟩ => ⟨S292x256x4096, .f32⟩
  | .hbm, ⟨38, _⟩ => ⟨S74752x4096, .f32⟩
  | _, _ => ⟨S292, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel4.lean ====
abbrev S16640x4096 : Shape := ⟨2, ![16640, 4096]⟩
abbrev S4096x8192 : Shape := ⟨2, ![4096, 8192]⟩
abbrev S1x8192 : Shape := ⟨2, ![1, 8192]⟩
abbrev S1280x4096 : Shape := ⟨2, ![1280, 4096]⟩
abbrev S4096x512 : Shape := ⟨2, ![4096, 512]⟩
abbrev S1x512 : Shape := ⟨2, ![1, 512]⟩
abbrev S1280x512 : Shape := ⟨2, ![1280, 512]⟩

abbrev nBuf : Space → Nat
  | .hbm => 4
  | .vmem => 12
  | .smem => 0
  | _ => 0

abbrev bufTy : (tb : Table) → Fin (tcTables nBuf tb) → BufTy
  | .hbm, ⟨0, _⟩ => ⟨S16640x4096, .bf16⟩
  | .hbm, ⟨1, _⟩ => ⟨S4096x8192, .bf16⟩
  | .hbm, ⟨2, _⟩ => ⟨S1x8192, .f32⟩
  | .hbm, ⟨3, _⟩ => ⟨S16640x4096, .f32⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1280x512, .f32⟩
  | .local _ .vmem, ⟨11, _⟩ => ⟨S1280x512, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1280x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16640x4096 : Shape := ⟨2, ![16640, 4096]⟩
abbrev S4096x8192 : Shape := ⟨2, ![4096, 8192]⟩
abbrev S1x8192 : Shape := ⟨2, ![1, 8192]⟩
abbrev S16640x8192 : Shape := ⟨2, ![16640, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x8192, .bf16⟩
  | .hbm, ⟨2, _⟩ => ⟨S1x8192, .f32⟩
  | .hbm, ⟨3, _⟩ => ⟨S16640x4096, .f32⟩
  | .hbm, ⟨4, _⟩ => ⟨S4096x8192, .f32⟩
  | .hbm, ⟨5, _⟩ => ⟨S16640x8192, .f32⟩
  | .hbm, ⟨6, _⟩ => ⟨S16640x8192, .f32⟩
  | .hbm, ⟨7, _⟩ => ⟨S16640x8192, .f32⟩
  | .hbm, ⟨8, _⟩ => ⟨S16640x4096, .f32⟩
  | .hbm, ⟨9, _⟩ => ⟨S16640x4096, .f32⟩
  | .hbm, ⟨10, _⟩ => ⟨S16640x4096, .f32⟩
  | .hbm, ⟨11, _⟩ => ⟨S16640x4096, .f32⟩
  | .hbm, ⟨12, _⟩ => ⟨S_, .f32⟩
  | .hbm, ⟨13, _⟩ => ⟨S16640x4096, .f32⟩
  | .hbm, ⟨14, _⟩ => ⟨S16640x4096, .f32⟩
  | .hbm, ⟨15, _⟩ => ⟨S_, .f32⟩
  | .hbm, ⟨16, _⟩ => ⟨S16640x4096, .f32⟩
  | .hbm, ⟨17, _⟩ => ⟨S16640x4096, .f32⟩
  | .hbm, ⟨18, _⟩ => ⟨S16640x4096, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S16640x4096 : Shape := ⟨2, ![16640, 4096]⟩
abbrev S4096x1024 : Shape := ⟨2, ![4096, 1024]⟩
abbrev S1x1024 : Shape := ⟨2, ![1, 1024]⟩
abbrev S16640x1024 : Shape := ⟨2, ![16640, 1024]⟩
abbrev S1280x4096 : Shape := ⟨2, ![1280, 4096]⟩
abbrev S4096x512 : Shape := ⟨2, ![4096, 512]⟩
abbrev S1x512 : Shape := ⟨2, ![1, 512]⟩
abbrev S1280x512 : Shape := ⟨2, ![1280, 512]⟩

abbrev nBuf : Space → Nat
  | .hbm => 4
  | .vmem => 8
  | .smem => 0
  | _ => 0

abbrev bufTy : (tb : Table) → Fin (tcTables nBuf tb) → BufTy
  | .hbm, ⟨0, _⟩ => ⟨S16640x4096, .bf16⟩
  | .hbm, ⟨1, _⟩ => ⟨S4096x1024, .bf16⟩
  | .hbm, ⟨2, _⟩ => ⟨S1x1024, .f32⟩
  | .hbm, ⟨3, _⟩ => ⟨S16640x1024, .f32⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1280x512, .f32⟩
  | .local _ .vmem, ⟨7, _⟩ => ⟨S1280x512, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16640x4096 : Shape := ⟨2, ![16640, 4096]⟩
abbrev S4096x1024 : Shape := ⟨2, ![4096, 1024]⟩
abbrev S1x1024 : Shape := ⟨2, ![1, 1024]⟩
abbrev S16640x1024 : Shape := ⟨2, ![16640, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x1024, .bf16⟩
  | .hbm, ⟨2, _⟩ => ⟨S1x1024, .f32⟩
  | .hbm, ⟨3, _⟩ => ⟨S16640x4096, .f32⟩
  | .hbm, ⟨4, _⟩ => ⟨S4096x1024, .f32⟩
  | .hbm, ⟨5, _⟩ => ⟨S16640x1024, .f32⟩
  | .hbm, ⟨6, _⟩ => ⟨S16640x1024, .f32⟩
  | .hbm, ⟨7, _⟩ => ⟨S16640x1024, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S16640x4096 : Shape := ⟨2, ![16640, 4096]⟩
abbrev S4096x4096 : Shape := ⟨2, ![4096, 4096]⟩
abbrev S1x4096 : Shape := ⟨2, ![1, 4096]⟩
abbrev S8x16640x512 : Shape := ⟨3, ![8, 16640, 512]⟩
abbrev S1280x4096 : Shape := ⟨2, ![1280, 4096]⟩
abbrev S4096x512 : Shape := ⟨2, ![4096, 512]⟩
abbrev S1x512 : Shape := ⟨2, ![1, 512]⟩
abbrev S1x1280x512 : Shape := ⟨3, ![1, 1280, 512]⟩
abbrev S1280x512 : Shape := ⟨2, ![1280, 512]⟩

abbrev nBuf : Space → Nat
  | .hbm => 4
  | .vmem => 8
  | .smem => 0
  | _ => 0

abbrev bufTy : (tb : Table) → Fin (tcTables nBuf tb) → BufTy
  | .hbm, ⟨0, _⟩ => ⟨S16640x4096, .bf16⟩
  | .hbm, ⟨1, _⟩ => ⟨S4096x4096, .bf16⟩
  | .hbm, ⟨2, _⟩ => ⟨S1x4096, .f32⟩
  | .hbm, ⟨3, _⟩ => ⟨S8x16640x512, .bf16⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1x1280x512, .bf16⟩
  | .local _ .vmem, ⟨7, _⟩ => ⟨S1x1280x512, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16640x4096 : Shape := ⟨2, ![16640, 4096]⟩
abbrev S4096x4096 : Shape := ⟨2, ![4096, 4096]⟩
abbrev S1x4096 : Shape := ⟨2, ![1, 4096]⟩
abbrev S16640x8x512 : Shape := ⟨3, ![16640, 8, 512]⟩
abbrev S8x16640x512 : Shape := ⟨3, ![8, 16640, 512]⟩

abbrev nBuf : Space → Nat
  | .hbm => 11
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x4096, .bf16⟩
  | .hbm, ⟨2, _⟩ => ⟨S1x4096, .f32⟩
  | .hbm, ⟨3, _⟩ => ⟨S16640x4096, .f32⟩
  | .hbm, ⟨4, _⟩ => ⟨S4096x4096, .f32⟩
  | .hbm, ⟨5, _⟩ => ⟨S16640x4096, .f32⟩
  | .hbm, ⟨6, _⟩ => ⟨S16640x4096, .f32⟩
  | .hbm, ⟨7, _⟩ => ⟨S16640x4096, .f32⟩
  | .hbm, ⟨8, _⟩ => ⟨S16640x8x512, .f32⟩
  | .hbm, ⟨9, _⟩ => ⟨S8x16640x512, .f32⟩
  | .hbm, ⟨10, _⟩ => ⟨S8x16640x512, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S1x16640x4096 : Shape := ⟨3, ![1, 16640, 4096]⟩
abbrev S1x4096x4096 : Shape := ⟨3, ![1, 4096, 4096]⟩
abbrev S1x4096 : Shape := ⟨2, ![1, 4096]⟩
abbrev S16640x4096 : Shape := ⟨2, ![16640, 4096]⟩
abbrev S520x1x24576 : Shape := ⟨3, ![520, 1, 24576]⟩
abbrev S1x1280x4096 : Shape := ⟨3, ![1, 1280, 4096]⟩
abbrev S1x4096x512 : Shape := ⟨3, ![1, 4096, 512]⟩
abbrev S1x512 : Shape := ⟨2, ![1, 512]⟩
abbrev S1280x512 : Shape := ⟨2, ![1280, 512]⟩
abbrev S40x1x512 : Shape := ⟨3, ![40, 1, 512]⟩
abbrev S1280x4096 : Shape := ⟨2, ![1280, 4096]⟩
abbrev S4096x512 : Shape := ⟨2, ![4096, 512]⟩
abbrev S40x32x512 : Shape := ⟨3, ![40, 32, 512]⟩

abbrev nBuf : Space → Nat
  | .hbm => 6
  | .vmem => 12
  | .smem => 0
  | _ => 0

abbrev bufTy : (tb : Table) → Fin (tcTables nBuf tb) → BufTy
  | .hbm, ⟨0, _⟩ => ⟨S1x16640x4096, .bf16⟩
  | .hbm, ⟨1, _⟩ => ⟨S1x4096x4096, .bf16⟩
  | .hbm, ⟨2, _⟩ => ⟨S1x4096, .f32⟩
  | .hbm, ⟨3, _⟩ => ⟨S16640x4096, .f32⟩
  | .hbm, ⟨4, _⟩ => ⟨S520x1x24576, .f32⟩
  | .hbm, ⟨5, _⟩ => ⟨S16640x4096, .f32⟩
  | .local _ .vmem, ⟨0, _⟩ => ⟨S1x1280x4096, .bf16⟩
  | .local _ .vmem, ⟨1, _⟩ => ⟨S1x1280x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512, .f32⟩
  | .local _ .vmem, ⟨5, _⟩ => ⟨S1x512, .f32⟩
  | .local _ .vmem, ⟨6, _⟩ => ⟨S1280x512, .f32⟩
  | .local _ .vmem, ⟨7, _⟩ => ⟨S1280x512, .f32⟩
  | .local _ .vmem, ⟨8, _⟩ => ⟨S40x1x512, .f32⟩
  | .local _ .vmem, ⟨9, _⟩ => ⟨S40x1x512, .f32⟩
  | .local _ .vmem, ⟨10, _⟩ => ⟨S1280x512, .f32⟩
  | .local _ .vmem, ⟨11, _⟩ => ⟨S1280x512, .f32⟩
  | _, _ => ⟨S1x16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S40x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S1x16640x4096 : Shape := ⟨3, ![1, 16640, 4096]⟩
abbrev S1x4096x4096 : Shape := ⟨3, ![1, 4096, 4096]⟩
abbrev S1x4096 : Shape := ⟨2, ![1, 4096]⟩
abbrev S16640x4096 : Shape := ⟨2, ![16640, 4096]⟩
abbrev S520x1x24576 : Shape := ⟨3, ![520, 1, 24576]⟩
abbrev S4096x4096 : Shape := ⟨2, ![4096, 4096]⟩
abbrev S520x1x4096 : Shape := ⟨3, ![520, 1, 4096]⟩
abbrev S520x4096 : Shape := ⟨2, ![520, 4096]⟩
abbrev S520x32x4096 : Shape := ⟨3, ![520, 32, 4096]⟩

abbrev nBuf : Space → Nat
  | .hbm => 18
  | .vmem => 0
  | .smem => 0
  | _ => 0

abbrev bufTy : (tb : Table) → Fin (tcTables nBuf tb) → BufTy
  | .hbm, ⟨0, _⟩ => ⟨S1x16640x4096, .bf16⟩
  | .hbm, ⟨1, _⟩ => ⟨S1x4096x4096, .bf16⟩
  | .hbm, ⟨2, _⟩ => ⟨S1x4096, .f32⟩
  | .hbm, ⟨3, _⟩ => ⟨S16640x4096, .f32⟩
  | .hbm, ⟨4, _⟩ => ⟨S520x1x24576, .f32⟩
  | .hbm, ⟨5, _⟩ => ⟨S16640x4096, .bf16⟩
  | .hbm, ⟨6, _⟩ => ⟨S16640x4096, .f32⟩
  | .hbm, ⟨7, _⟩ => ⟨S4096x4096, .bf16⟩
  | .hbm, ⟨8, _⟩ => ⟨S4096x4096, .f32⟩
  | .hbm, ⟨9, _⟩ => ⟨S16640x4096, .f32⟩
  | .hbm, ⟨10, _⟩ => ⟨S16640x4096, .f32⟩
  | .hbm, ⟨11, _⟩ => ⟨S16640x4096, .f32⟩
  | .hbm, ⟨12, _⟩ => ⟨S520x1x4096, .f32⟩
  | .hbm, ⟨13, _⟩ => ⟨S520x4096, .f32⟩
  | .hbm, ⟨14, _⟩ => ⟨S520x32x4096, .f32⟩
  | .hbm, ⟨15, _⟩ => ⟨S16640x4096, .f32⟩
  | .hbm, ⟨16, _⟩ => ⟨S16640x4096, .f32⟩
  | .hbm, ⟨17, _⟩ => ⟨S16640x4096, .f32⟩
  | _, _ => ⟨S1x16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S8x16640x512 : Shape := ⟨3, ![8, 16640, 512]⟩
abbrev S8x512x4096 : Shape := ⟨3, ![8, 512, 4096]⟩
abbrev S1x4096 : Shape := ⟨2, ![1, 4096]⟩
abbrev S16640x4096 : Shape := ⟨2, ![16640, 4096]⟩
abbrev S520x1x24576 : Shape := ⟨3, ![520, 1, 24576]⟩
abbrev S8x1280x512 : Shape := ⟨3, ![8, 1280, 512]⟩
abbrev S8x512x512 : Shape := ⟨3, ![8, 512, 512]⟩
abbrev S1x512 : Shape := ⟨2, ![1, 512]⟩
abbrev S1280x512 : Shape := ⟨2, ![1280, 512]⟩
abbrev S40x1x512 : Shape := ⟨3, ![40, 1, 512]⟩
abbrev S1x1280x512 : Shape := ⟨3, ![1, 1280, 512]⟩
abbrev S1x512x512 : Shape := ⟨3, ![1, 512, 512]⟩
abbrev S512x512 : Shape := ⟨2, ![512, 512]⟩
abbrev S40x32x512 : Shape := ⟨3, ![40, 32, 512]⟩

abbrev nBuf : Space → Nat
  | .hbm => 6
  | .vmem => 12
  | .smem => 0
  | _ => 0

abbrev bufTy : (tb : Table) → Fin (tcTables nBuf tb) → BufTy
  | .hbm, ⟨0, _⟩ => ⟨S8x16640x512, .bf16⟩
  | .hbm, ⟨1, _⟩ => ⟨S8x512x4096, .bf16⟩
  | .hbm, ⟨2, _⟩ => ⟨S1x4096, .f32⟩
  | .hbm, ⟨3, _⟩ => ⟨S16640x4096, .f32⟩
  | .hbm, ⟨4, _⟩ => ⟨S520x1x24576, .f32⟩
  | .hbm, ⟨5, _⟩ => ⟨S16640x4096, .f32⟩
  | .local _ .vmem, ⟨0, _⟩ => ⟨S8x1280x512, .bf16⟩
  | .local _ .vmem, ⟨1, _⟩ => ⟨S8x1280x512, .bf16⟩
  | .local _ .vmem, ⟨2, _⟩ => ⟨S8x512x512, .bf16⟩
  | .local _ .vmem, ⟨3, _⟩ => ⟨S8x512x512, .bf16⟩
  | .local _ .vmem, ⟨4, _⟩ => ⟨S1x512, .f32⟩
  | .local _ .vmem, ⟨5, _⟩ => ⟨S1x512, .f32⟩
  | .local _ .vmem, ⟨6, _⟩ => ⟨S1280x512, .f32⟩
  | .local _ .vmem, ⟨7, _⟩ => ⟨S1280x512, .f32⟩
  | .local _ .vmem, ⟨8, _⟩ => ⟨S40x1x512, .f32⟩
  | .local _ .vmem, ⟨9, _⟩ => ⟨S40x1x512, .f32⟩
  | .local _ .vmem, ⟨10, _⟩ => ⟨S1280x512, .f32⟩
  | .local _ .vmem, ⟨11, _⟩ => ⟨S1280x512, .f32⟩
  | _, _ => ⟨S8x16640x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1280x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S40x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8x16640x512 : Shape := ⟨3, ![8, 16640, 512]⟩
abbrev S8x512x4096 : Shape := ⟨3, ![8, 512, 4096]⟩
abbrev S1x4096 : Shape := ⟨2, ![1, 4096]⟩
abbrev S16640x4096 : Shape := ⟨2, ![16640, 4096]⟩
abbrev S520x1x24576 : Shape := ⟨3, ![520, 1, 24576]⟩
abbrev S16640x8x512 : Shape := ⟨3, ![16640, 8, 512]⟩
abbrev S4096x4096 : Shape := ⟨2, ![4096, 4096]⟩
abbrev S520x1x4096 : Shape := ⟨3, ![520, 1, 4096]⟩
abbrev S520x4096 : Shape := ⟨2, ![520, 4096]⟩
abbrev S520x32x4096 : Shape := ⟨3, ![520, 32, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x16640x512, .bf16⟩
  | .hbm, ⟨1, _⟩ => ⟨S8x512x4096, .bf16⟩
  | .hbm, ⟨2, _⟩ => ⟨S1x4096, .f32⟩
  | .hbm, ⟨3, _⟩ => ⟨S16640x4096, .f32⟩
  | .hbm, ⟨4, _⟩ => ⟨S520x1x24576, .f32⟩
  | .hbm, ⟨5, _⟩ => ⟨S8x16640x512, .f32⟩
  | .hbm, ⟨6, _⟩ => ⟨S16640x8x512, .f32⟩
  | .hbm, ⟨7, _⟩ => ⟨S16640x4096, .f32⟩
  | .hbm, ⟨8, _⟩ => ⟨S8x512x4096, .f32⟩
  | .hbm, ⟨9, _⟩ => ⟨S4096x4096, .f32⟩
  | .hbm, ⟨10, _⟩ => ⟨S16640x4096, .f32⟩
  | .hbm, ⟨11, _⟩ => ⟨S16640x4096, .f32⟩
  | .hbm, ⟨12, _⟩ => ⟨S16640x4096, .f32⟩
  | .hbm, ⟨13, _⟩ => ⟨S520x1x4096, .f32⟩
  | .hbm, ⟨14, _⟩ => ⟨S520x4096, .f32⟩
  | .hbm, ⟨15, _⟩ => ⟨S520x32x4096, .f32⟩
  | .hbm, ⟨16, _⟩ => ⟨S16640x4096, .f32⟩
  | .hbm, ⟨17, _⟩ => ⟨S16640x4096, .f32⟩
  | .hbm, ⟨18, _⟩ => ⟨S16640x4096, .f32⟩
  | _, _ => ⟨S8x16640x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Row.lean ====
module

public import Idealize.ShloMosaic.PureOps.Ideal.Laws
public import Idealize.ShloMosaic.Lib.Pointwise

@[expose] public section

noncomputable section

namespace Cert.Row

open Idealize.ShloMosaic

variable {n : ℕ}

/-- The largest score of a row, the sink among them. -/
def top (s : Fin n → EReal) (σ : EReal) : EReal :=
  max (Finset.fold max (Ideal.ofBits .f32 0xFF800000#32) s Finset.univ) σ

/-- The sum of a row's weights, the sink's among them. -/
def den (s : Fin n → EReal) (σ : EReal) : EReal :=
  ∑ c, Ideal.exp (s c - top s σ) + Ideal.exp (σ - top s σ)

/-- The weighted values of a row, divided by the sum of the weights. -/
def attn (s : Fin n → EReal) (σ : EReal) (v : Fin n → EReal) : EReal :=
  Ideal.div (∑ c, Ideal.exp (s c - top s σ) * v c) (den s σ)

theorem exp_nonneg (x : EReal) : 0 ≤ Ideal.exp x := by
  induction x with
  | bot => exact le_rfl
  | top => exact le_top
  | coe r => exact EReal.coe_nonneg.2 (Real.exp_pos r).le

theorem exp_pos {x : EReal} (h : x ≠ ⊥) : 0 < Ideal.exp x := by
  induction x with
  | bot => exact absurd rfl h
  | top => exact EReal.zero_lt_top
  | coe r => exact EReal.coe_pos.2 (Real.exp_pos r)

theorem ofBits_neg_inf : Ideal.ofBits .f32 0xFF800000#32 = ⊥ := by simp [Ideal.ofBits, Ideal.ieee]

theorem top_ne_top {s : Fin n → EReal} {σ : EReal} (hs : ∀ c, s c ≠ ⊤) (hσ : σ ≠ ⊤) : top s σ ≠ ⊤ := by
  refine (max_lt ((Finset.fold_max_lt ⊤).2 ⟨?_, fun c _ => (hs c).lt_top⟩) hσ.lt_top).ne
  rw [ofBits_neg_inf]; exact bot_lt_top

theorem den_pos {s : Fin n → EReal} {σ : EReal} (hs : ∀ c, s c ≠ ⊤) (hσ : σ ≠ ⊤) (hσ' : σ ≠ ⊥) : 0 < den s σ := by
  refine lt_of_lt_of_le (exp_pos (x := σ - top s σ) ?_) (le_add_of_nonneg_left (Finset.sum_nonneg fun c _ => exp_nonneg _))
  rw [sub_eq_add_neg]
  intro h
  rcases EReal.add_eq_bot_iff.1 h with h | h
  · exact hσ' h
  · exact top_ne_top hs hσ (EReal.neg_eq_bot_iff.1 h)

theorem sum_div {y : EReal} (hy : 0 < y) (f : Fin n → EReal) : Ideal.div (∑ c, f c) y = ∑ c, Ideal.div (f c) y := by
  unfold Ideal.div
  simp only [hy.ne', if_false]
  exact map_sum (AddMonoidHom.mk ⟨fun x : EReal => x * y⁻¹, zero_mul _⟩ fun a b =>
    EReal.right_distrib_of_nonneg_of_ne_top (EReal.inv_nonneg_of_nonneg hy.le) (EReal.inv_lt_top y).ne a b) f _

theorem div_mul {y : EReal} (hy : 0 < y) (a b : EReal) : Ideal.div (a * b) y = Ideal.div a y * b := by
  unfold Ideal.div
  simp only [hy.ne', if_false]
  exact mul_right_comm a b _

/-- Dividing the weighted sum is weighting by the divided weights. -/
theorem attn_eq {s : Fin n → EReal} {σ : EReal} (hs : ∀ c, s c ≠ ⊤) (hσ : σ ≠ ⊤) (hσ' : σ ≠ ⊥) (v : Fin n → EReal) :
    attn s σ v = ∑ c, Ideal.div (Ideal.exp (s c - top s σ)) (den s σ) * v c := by
  have h := den_pos hs hσ hσ'
  unfold attn
  rw [sum_div h]
  exact Finset.sum_congr rfl fun c _ => div_mul h _ _

/-- Only the values at columns that are not masked matter. -/
theorem attn_congr (s : Fin n → EReal) (σ : EReal) {v v' : Fin n → EReal} (h : ∀ c, s c ≠ ⊥ → v c = v' c) :
    attn s σ v = attn s σ v' := by
  unfold attn
  congr 1
  refine Finset.sum_congr rfl fun c _ => ?_
  by_cases hc : s c = ⊥
  · rw [hc, EReal.bot_sub]
    show (0 : EReal) * _ = 0 * _
    rw [zero_mul, zero_mul]
  · rw [h c hc]

end Cert.Row

end
-- ==== Proof.Spec.lean ====
module

public import proofs.«01_k».proof.Proof.Row

@[expose] public section

noncomputable section

namespace Cert.Spec

open Idealize.ShloMosaic

/-- Queries by stream, row and lane. -/
abbrev Queries : Type := Fin 8 → Fin 16640 → Fin 512 → EReal

/-- Keys (lanes below 512) and values (the other lanes) by row and lane. -/
abbrev KeyValues : Type := Fin 16640 → Fin 1024 → EReal

/-- The position bias by key head, stream, place in the chunk and band column. -/
abbrev Bias : Type := Fin 8 → Fin 8 → Fin 64 → Fin 192 → EReal

/-- The sinks by key head and stream. -/
abbrev Sinks : Type := Fin 8 → Fin 8 → EReal

/-- The row a band column stands for. -/
def bandRow (row : Fin 16384) (c : Fin 192) : Fin 16640 := ⟨row.val / 64 * 64 + c.val - 128, by omega⟩

/-- A lane of key head `n`. -/
def lane (n : Fin 8) (d : Fin 64) : Fin 512 := ⟨n.val * 64 + d.val, by omega⟩

/-- The key head a lane belongs to. -/
def headOf (l : Fin 512) : Fin 8 := ⟨l.val / 64, by omega⟩

/-- A row's place in its chunk. -/
def place (row : Fin 16384) : Fin 64 := ⟨row.val % 64, by omega⟩

/-- Where a band column falls inside the row's sequence. -/
def Valid (row : Fin 16384) (c : Fin 192) : Prop := 128 ≤ row.val % 4096 / 64 * 64 + c.val

instance (row : Fin 16384) (c : Fin 192) : Decidable (Valid row c) := by unfold Valid; infer_instance

/-- The score of a query row against a band column; −∞ before the sequence begins. -/
def score (Q : Queries) (KV : KeyValues) (B : Bias) (g : Fin 8) (row : Fin 16384) (n : Fin 8) (c : Fin 192) : EReal :=
  if Valid row c then
    (∑ d : Fin 64, Q g (row.castLE (by decide)) (lane n d) * KV (bandRow row c) ((lane n d).castLE (by decide)))
      * Ideal.ofBits .f32 0x3E000000#32 + B n g (place row) c
  else ⊥

/-- The value a band column carries for an output lane. -/
def value (KV : KeyValues) (row : Fin 16384) (l : Fin 512) (c : Fin 192) : EReal :=
  KV (bandRow row c) ⟨512 + l.val, by omega⟩

/-- One entry of the attention's result. -/
def out (Q : Queries) (KV : KeyValues) (B : Bias) (S : Sinks) (g : Fin 8) (row : Fin 16384) (l : Fin 512) : EReal :=
  Row.attn (score Q KV B g row (headOf l)) (S (headOf l) g) (value KV row l)

end Cert.Spec

end
-- ==== Proof.RefBand.lean ====
module

public import proofs.«01_k».proof.Proof.Spec
public import proofs.«01_k».proof.Proof.Gen.ReferenceIdeal.Read
public import Idealize.ShloMosaic.Lib.Pointwise
public import Idealize.ShloMosaic.Lib.KernelVsHost

@[expose] public section

set_option maxRecDepth 16384

noncomputable section

namespace Cert.ReferenceIdeal.Band

open Idealize.ShloMosaic Idealize.SL.Sem
open Cert.ReferenceIdeal Cert.ReferenceIdeal.Read

variable (x0 : FVec Ideal S8x16640x512 .bf16) (x1 : FVec Ideal S16640x1024 .f32) (x2 : FVec Ideal S64 .f32)

theorem v25_at (b : Fin 4) (a : Fin 4224) (k : Fin 8) (d : Fin 64) :
    val_main_v25 (F := Ideal) x1 (ix4 b a k d)
      = if h : a.val < 128 then (0 : EReal) else x1 (ix2 ⟨b.val * 4096 + (a.val - 128), by omega⟩ ⟨k.val * 64 + d.val, by omega⟩) := by
  pointwise [val_main_v25, val_main_v24, val_main_cst, val_main_v5, val_main_v4]

theorem v26_at (b : Fin 4) (j : Fin 66) (r : Fin 64) (k : Fin 8) (d : Fin 64) :
    val_main_v26 (F := Ideal) x1 (ix5 b j r k d) = val_main_v25 (F := Ideal) x1 (ix4 b ⟨j.val * 64 + r.val, by omega⟩ k d) := by
  unfold val_main_v26
  generalize val_main_v25 (F := Ideal) x1 = y
  refine shapeCast_apply y _ _ _ ?_
  rewrite [Shape.rowMajor_val_four, Shape.rowMajor_val_five]
  show ((b.val * 4224 + (j.val * 64 + r.val)) * 8 + k.val) * 64 + d.val
    = (((b.val * 66 + j.val) * 64 + r.val) * 8 + k.val) * 64 + d.val
  ring

theorem v27_at (b : Fin 4) (n : Fin 64) (s : Fin 64) (k : Fin 8) (d : Fin 64) :
    val_main_v27 (F := Ideal) x1 (ix5 b n s k d) = val_main_v26 (F := Ideal) x1 (ix5 b ⟨n.val, by omega⟩ s k d) := by
  rw [val_main_v27_apply]
  congr 1
  funext a
  fin_cases a <;> rfl

theorem v28_at (b : Fin 4) (n : Fin 64) (s : Fin 64) (k : Fin 8) (d : Fin 64) :
    val_main_v28 (F := Ideal) x1 (ix5 b n s k d) = val_main_v26 (F := Ideal) x1 (ix5 b ⟨1 + n.val, by omega⟩ s k d) := by
  rw [val_main_v28_apply]
  congr 1
  funext a
  fin_cases a <;> rfl

theorem v29_at (b : Fin 4) (n : Fin 64) (s : Fin 64) (k : Fin 8) (d : Fin 64) :
    val_main_v29 (F := Ideal) x1 (ix5 b n s k d) = val_main_v26 (F := Ideal) x1 (ix5 b ⟨2 + n.val, by omega⟩ s k d) := by
  rw [val_main_v29_apply]
  congr 1
  funext a
  fin_cases a <;> rfl

/-- A band column of a chunk, its key. -/
theorem v30_at (b : Fin 4) (n : Fin 64) (s : Fin 192) (k : Fin 8) (d : Fin 64) :
    val_main_v30 (F := Ideal) x1 (ix5 b n s k d)
      = if n.val * 64 + s.val < 128 then (0 : EReal)
        else x1 (ix2 ⟨(b.val * 64 + n.val) * 64 + s.val - 128, by omega⟩ ⟨k.val * 64 + d.val, by omega⟩) := by
  have e0 := v27_at x1
  have e1 := v28_at x1
  have e2 := v29_at x1
  simp only [v26_at, v25_at] at e0 e1 e2
  unfold val_main_v30
  generalize val_main_v27 (F := Ideal) x1 = A at e0 ⊢
  generalize val_main_v28 (F := Ideal) x1 = B at e1 ⊢
  generalize val_main_v29 (F := Ideal) x1 = C at e2 ⊢
  have h : ∀ (A B : ℕ) (hA : A < 16640) (hB : B < 16640), A = B → x1 (ix2 ⟨A, hA⟩ ⟨k.val * 64 + d.val, by omega⟩)
      = x1 (ix2 ⟨B, hB⟩ ⟨k.val * 64 + d.val, by omega⟩) := fun A B hA hB e => by subst e; rfl
  pointwise
  by_cases h1 : s.val < 64
  · refine (dif_pos h1).trans ((e0 b n ⟨s.val, h1⟩ k d).trans ?_)
    simp only []
    split_ifs <;> first | rfl | omega | exact h _ _ _ _ (by omega)
  by_cases h2 : s.val - 64 < 64
  · refine (dif_neg h1).trans ((dif_pos h2).trans ((e1 b n ⟨s.val - 64, h2⟩ k d).trans ?_))
    simp only []
    split_ifs <;> first | rfl | omega | exact h _ _ _ _ (by omega)
  · refine (dif_neg h1).trans ((dif_neg h2).trans ((e2 b n ⟨s.val - 64 - 64, by omega⟩ k d).trans ?_))
    simp only []
    split_ifs <;> first | rfl | omega | exact h _ _ _ _ (by omega)

theorem v32_at (b : Fin 4) (a : Fin 4224) (k : Fin 8) (d : Fin 64) :
    val_main_v32 (F := Ideal) x1 (ix4 b a k d)
      = if h : a.val < 128 then (0 : EReal) else x1 (ix2 ⟨b.val * 4096 + (a.val - 128), by omega⟩ ⟨512 + (k.val * 64 + d.val), by omega⟩) := by
  pointwise [val_main_v32, val_main_v31, val_main_cst_2, val_main_v7, val_main_v6]

theorem v33_at (b : Fin 4) (j : Fin 66) (r : Fin 64) (k : Fin 8) (d : Fin 64) :
    val_main_v33 (F := Ideal) x1 (ix5 b j r k d) = val_main_v32 (F := Ideal) x1 (ix4 b ⟨j.val * 64 + r.val, by omega⟩ k d) := by
  unfold val_main_v33
  generalize val_main_v32 (F := Ideal) x1 = y
  refine shapeCast_apply y _ _ _ ?_
  rewrite [Shape.rowMajor_val_four, Shape.rowMajor_val_five]
  show ((b.val * 4224 + (j.val * 64 + r.val)) * 8 + k.val) * 64 + d.val
    = (((b.val * 66 + j.val) * 64 + r.val) * 8 + k.val) * 64 + d.val
  ring

theorem v34_at (b : Fin 4) (n : Fin 64) (s : Fin 64) (k : Fin 8) (d : Fin 64) :
    val_main_v34 (F := Ideal) x1 (ix5 b n s k d) = val_main_v33 (F := Ideal) x1 (ix5 b ⟨n.val, by omega⟩ s k d) := by
  rw [val_main_v34_apply]
  congr 1
  funext a
  fin_cases a <;> rfl

theorem v35_at (b : Fin 4) (n : Fin 64) (s : Fin 64) (k : Fin 8) (d : Fin 64) :
    val_main_v35 (F := Ideal) x1 (ix5 b n s k d) = val_main_v33 (F := Ideal) x1 (ix5 b ⟨1 + n.val, by omega⟩ s k d) := by
  rw [val_main_v35_apply]
  congr 1
  funext a
  fin_cases a <;> rfl

theorem v36_at (b : Fin 4) (n : Fin 64) (s : Fin 64) (k : Fin 8) (d : Fin 64) :
    val_main_v36 (F := Ideal) x1 (ix5 b n s k d) = val_main_v33 (F := Ideal) x1 (ix5 b ⟨2 + n.val, by omega⟩ s k d) := by
  rw [val_main_v36_apply]
  congr 1
  funext a
  fin_cases a <;> rfl

/-- A band column of a chunk, its value. -/
theorem v37_at (b : Fin 4) (n : Fin 64) (s : Fin 192) (k : Fin 8) (d : Fin 64) :
    val_main_v37 (F := Ideal) x1 (ix5 b n s k d)
      = if n.val * 64 + s.val < 128 then (0 : EReal)
        else x1 (ix2 ⟨(b.val * 64 + n.val) * 64 + s.val - 128, by omega⟩ ⟨512 + (k.val * 64 + d.val), by omega⟩) := by
  have e0 := v34_at x1
  have e1 := v35_at x1
  have e2 := v36_at x1
  simp only [v33_at, v32_at] at e0 e1 e2
  unfold val_main_v37
  generalize val_main_v34 (F := Ideal) x1 = A at e0 ⊢
  generalize val_main_v35 (F := Ideal) x1 = B at e1 ⊢
  generalize val_main_v36 (F := Ideal) x1 = C at e2 ⊢
  have h : ∀ (A B : ℕ) (hA : A < 16640) (hB : B < 16640), A = B → x1 (ix2 ⟨A, hA⟩ ⟨512 + (k.val * 64 + d.val), by omega⟩)
      = x1 (ix2 ⟨B, hB⟩ ⟨512 + (k.val * 64 + d.val), by omega⟩) := fun A B hA hB e => by subst e; rfl
  pointwise
  by_cases h1 : s.val < 64
  · refine (dif_pos h1).trans ((e0 b n ⟨s.val, h1⟩ k d).trans ?_)
    simp only []
    split_ifs <;> first | rfl | omega | exact h _ _ _ _ (by omega)
  by_cases h2 : s.val - 64 < 64
  · refine (dif_neg h1).trans ((dif_pos h2).trans ((e1 b n ⟨s.val - 64, h2⟩ k d).trans ?_))
    simp only []
    split_ifs <;> first | rfl | omega | exact h _ _ _ _ (by omega)
  · refine (dif_neg h1).trans ((dif_neg h2).trans ((e2 b n ⟨s.val - 64 - 64, by omega⟩ k d).trans ?_))
    simp only []
    split_ifs <;> first | rfl | omega | exact h _ _ _ _ (by omega)

end Cert.ReferenceIdeal.Band

end
-- ==== Proof.RefValue.lean ====
module

public import proofs.«01_k».proof.Proof.RefBand
public import proofs.«01_k».proof.Proof.Gen.ReferenceIdeal.Read
public import Idealize.ShloMosaic.Lib.Pointwise
public import Idealize.ShloMosaic.Lib.KernelVsHost

@[expose] public section

set_option maxRecDepth 16384

noncomputable section

namespace Cert.ReferenceIdeal.Entry

open Idealize.ShloMosaic Idealize.SL.Sem
open Cert.ReferenceIdeal Cert.ReferenceIdeal.Read Cert.ReferenceIdeal.Band

variable (x0 : FVec Ideal S8x16640x512 .bf16) (x1 : FVec Ideal S16640x1024 .f32) (x2 : FVec Ideal S64 .f32)

/-- A query. -/
theorem q_at (b : Fin 4) (n q : Fin 64) (k g : Fin 8) (d : Fin 64) :
    val_main_v3 (F := Ideal) x0 (ix6 b n q k g d)
      = x0 (ix3 g ⟨b.val * 4096 + n.val * 64 + q.val, by omega⟩ ⟨k.val * 64 + d.val, by omega⟩) := by
  pointwise [val_main_v3, val_main_v2, val_main_v1, val_main_v0]

/-- The slope of a head. -/
def slope (n g : Fin 8) : EReal :=
  Ideal.exp (Ideal.ofBits .f32 0x3F317218#32 * Ideal.div (Ideal.ofBits .f32 0xC1000000#32
    * FloatOps.sitofp (F := Ideal) .f32 (IntOp.addi 1#32 (BitVec.ofNat 32 (n.val * 8 + g.val)))) (Ideal.ofBits .f32 0x42800000#32))

/-- The distance of a query and a band column. -/
def dist (n q : Fin 64) (c : Fin 192) : EReal :=
  FloatOps.sitofp (F := Ideal) .f32 (IntOp.absi (IntOp.subi (BitVec.ofNat 32 (n.val * 64 + q.val))
    (IntOp.addi (IntOp.muli (IntOp.subi (BitVec.ofNat 32 n.val) 2#32) 64#32) (BitVec.ofNat 32 c.val))))

theorem slope_at (n g : Fin 8) : val_main_v53 (F := Ideal) (ix2 n g) = slope n g := by
  unfold slope
  pointwise [val_main_v53, val_main_v52, val_main_v51, val_main_v50, val_main_v49, val_main_v48, val_main_v47, val_main_v46, val_main_v45,
   val_main_v44, val_main_v43, val_main_v42, val_main_c_4, val_main_cst_5, val_main_cst_6, val_main_cst_7]

theorem dist_at (n q : Fin 64) (c : Fin 192) : val_main_v61 (F := Ideal) (ix3 n q c) = dist n q c := by
  unfold dist
  pointwise [val_main_v61, val_main_v60, val_main_v59, val_main_v58, val_main_v57, val_main_v56, val_main_v55, val_main_v9, val_main_v8,
   val_main_v20, val_main_v19, val_main_v18, val_main_v17, val_main_v16, val_main_v15,
   val_main_v14, val_main_v13, val_main_v12, val_main_v11, val_main_v10, val_main_c, val_main_c_0, val_main_c_1]

theorem valid_int : ∀ (n : Fin 64) (c : Fin 192),
    IntOp.cmpi .sge (IntOp.addi (IntOp.muli (IntOp.subi (BitVec.ofNat 32 n.val) 2#32) 64#32) (BitVec.ofNat 32 c.val)) 0#32
      = if 128 ≤ n.val * 64 + c.val then 1#1 else 0#1 := by
  decide +kernel

theorem valid_at (n : Fin 64) (c : Fin 192) :
    val_main_v22 (F := Ideal) (ix2 n c) = if 128 ≤ n.val * 64 + c.val then 1#1 else 0#1 := by
  rw [← valid_int]
  pointwise [val_main_v22, val_main_v21, val_main_v20, val_main_v19, val_main_v18, val_main_v17, val_main_v16, val_main_v15,
   val_main_v14, val_main_v13, val_main_v12, val_main_v11, val_main_v10, val_main_c, val_main_c_0, val_main_c_1]

/-- The product of a query and a band column. -/
theorem dot_at (b : Fin 4) (n : Fin 64) (k g : Fin 8) (q : Fin 64) (c : Fin 192) :
    val_main_v39 (F := Ideal) x0 x1 (ix6 b n k g q c)
      = ∑ d : Fin 64, val_main_v30 (F := Ideal) x1 (ix5 b n c k d) * val_main_v3 (F := Ideal) x0 (ix6 b n q k g d) := by
  rw [val_main_v39_apply, val_main_v38_apply]
  refine Finset.sum_congr rfl fun d _ => ?_
  refine congr (congrArg _ (congrArg _ ?_)) (congrArg _ ?_) <;> (funext a; fin_cases a <;> rfl)

/-- A score. -/
theorem score_at (b : Fin 4) (n : Fin 64) (k g : Fin 8) (q : Fin 64) (c : Fin 192) :
    val_main_v71 (F := Ideal) x0 x1 (ix6 b n k g q c)
      = if 128 ≤ n.val * 64 + c.val then
          (∑ d : Fin 64, val_main_v30 (F := Ideal) x1 (ix5 b n c k d) * val_main_v3 (F := Ideal) x0 (ix6 b n q k g d))
            * Ideal.ofBits .f32 0x3E000000#32 - slope k g * dist n q c
        else ⊥ := by
  have hd := dot_at x0 x1 b n k g q c
  have hs := slope_at k g
  have hx := dist_at n q c
  have hv := valid_at n c
  rw [val_main_v71_apply, val_main_v70_apply, val_main_v41_apply, hd, val_main_call0_v1_apply, val_main_v69_apply, val_main_v68_apply,
    val_main_v67_apply, val_main_v65_apply, val_main_v64_apply, val_main_v54_apply, val_main_v66_apply, val_main_v62_apply,
    val_main_v63_apply, val_main_v23_apply, val_main_call0_v2_apply]
  have i1 : idx_main_v54 (idx_main_v64 (idx_main_v65 (idx_main_v68 (idx_main_v69 (ix6 b n k g q c))))) = ix2 k g := by
    funext a; fin_cases a <;> rfl
  have i2 : idx_main_v62 (idx_main_v66 (idx_main_v68 (idx_main_v69 (ix6 b n k g q c)))) = ix3 n q c := by
    funext a; fin_cases a <;> rfl
  have i3 : idx_main_v23 (idx_main_v63 (idx_main_call0_v1 (ix6 b n k g q c))) = ix2 n c := by
    funext a; fin_cases a <;> rfl
  rw [i1, i2, i3, hs, hx, hv]
  by_cases h : 128 ≤ n.val * 64 + c.val
  · rw [if_pos h, if_pos h]; rfl
  · rw [if_neg h, if_neg h]; exact Row.ofBits_neg_inf

/-- A sink. -/
theorem sink_at (b : Fin 4) (n : Fin 64) (k g : Fin 8) (q : Fin 64) :
    val_main_v77 (F := Ideal) x2 (ix6 b n k g q 0) = x2 (ix1 ⟨k.val * 8 + g.val, by omega⟩) := by
  pointwise [val_main_v77, val_main_v76, val_main_v73, val_main_v72]

theorem sink_at' (b : Fin 4) (n : Fin 64) (k g : Fin 8) (q : Fin 64) :
    val_main_v85 (F := Ideal) x2 (ix6 b n k g q 0) = x2 (ix1 ⟨k.val * 8 + g.val, by omega⟩) := by
  pointwise [val_main_v85, val_main_v84, val_main_v73, val_main_v72]

/-- The largest score of a row. -/
theorem max_at (b : Fin 4) (n : Fin 64) (k g : Fin 8) (q : Fin 64) :
    val_main_v74 (F := Ideal) x0 x1 (ix5 b n k g q)
      = Finset.fold max (Ideal.ofBits .f32 0xFF800000#32) (fun c : Fin 192 => val_main_v71 (F := Ideal) x0 x1 (ix6 b n k g q c)) Finset.univ := by
  unfold val_main_v74 val_main_cst_9
  generalize val_main_v71 (F := Ideal) x0 x1 = y
  have e : Host.reduce FloatOps.maximumf y (constant (F := Ideal) S_ .f32 0xFF800000#32) Gen.reducesTo_S4x64x8x8x64x192_S4x64x8x8x64_d5 Gen.h_S_
      = multiReduction (F := Ideal) (φ := .f32) .maximumf [5] S4x64x8x8x64 (y : FVec Ideal S4x64x8x8x64x192 .f32) 0xFF800000#32
          (by decide : S4x64x8x8x64x192.Reduces [5] S4x64x8x8x64) (.inl rfl) rfl :=
    hostReduce_maximumf_eq_multiReduction (F := Ideal) (φ := .f32) (s := S4x64x8x8x64x192) (t := S4x64x8x8x64) y _ _ _ _ _ _
  rw [e]
  pointwise
  refine Finset.fold_filter_eq_fold_of_fiber max _ (fun c : Fin 192 => ix6 b n k g q c) (fun _ _ e => congrFun e 5) (fun i => ⟨fun e => ⟨i 5, ?_⟩, ?_⟩) _ y
  · funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨c, rfl⟩
    funext a; apply Fin.ext
    fin_cases a <;> rfl

section
variable (b : Fin 4) (n : Fin 64) (k g : Fin 8) (q : Fin 64)

/-- The scores of a row. -/
abbrev row : Fin 192 → EReal := fun c => val_main_v71 (F := Ideal) x0 x1 (ix6 b n k g q c)

/-- The sink of a row. -/
abbrev sink : EReal := x2 (ix1 ⟨k.val * 8 + g.val, by omega⟩)

theorem top_at : val_main_v78 (F := Ideal) x0 x1 x2 (ix6 b n k g q 0) = Row.top (row x0 x1 b n k g q) (sink x2 k g) := by
  rw [val_main_v78_apply, sink_at, val_main_v75_apply]
  have i1 : idx_main_v75 (ix6 b n k g q 0) = ix5 b n k g q := by funext a; fin_cases a <;> rfl
  rw [i1, max_at]
  rfl

theorem weight_at (c : Fin 192) : val_main_v81 (F := Ideal) x0 x1 x2 (ix6 b n k g q c)
    = Ideal.exp (row x0 x1 b n k g q c - Row.top (row x0 x1 b n k g q) (sink x2 k g)) := by
  rw [val_main_v81_apply, val_main_v80_apply, val_main_v79_apply]
  have i1 : idx_main_v79 (ix6 b n k g q c) = ix6 b n k g q 0 := by funext a; fin_cases a <;> rfl
  rw [i1, top_at]
  rfl

theorem den_at : val_main_v88 (F := Ideal) x0 x1 x2 (ix6 b n k g q 0) = Row.den (row x0 x1 b n k g q) (sink x2 k g) := by
  rw [val_main_v88_apply, val_main_v83_apply, val_main_v82_apply, val_main_v87_apply, val_main_v86_apply, top_at, sink_at']
  have i1 : ∀ c, idx_main_v82 (idx_main_v83 (ix6 b n k g q 0)) c = ix6 b n k g q c := by intro c; funext a; fin_cases a <;> rfl
  simp only [i1, weight_at, val_main_cst_10_apply]
  unfold Row.den
  have hz : (FloatOps.ofBits .f32 0x00000000#32 : Ideal .f32) = (0 : EReal) := by
    show Ideal.ofBits .f32 0x00000000#32 = 0
    simp [Ideal.ofBits, Ideal.ieee]
  rw [hz, zero_add]
  rfl

theorem prob_at (c : Fin 192) : val_main_v90 (F := Ideal) x0 x1 x2 (ix6 b n k g q c)
    = Ideal.div (Ideal.exp (row x0 x1 b n k g q c - Row.top (row x0 x1 b n k g q) (sink x2 k g)))
        (Row.den (row x0 x1 b n k g q) (sink x2 k g)) := by
  rw [val_main_v90_apply, weight_at, val_main_v89_apply]
  have i1 : idx_main_v89 (ix6 b n k g q c) = ix6 b n k g q 0 := by funext a; fin_cases a <;> rfl
  rw [i1, den_at]
  rfl

/-- An entry of the attention. -/
theorem out_at (d : Fin 64) : val_main_v93 (F := Ideal) x0 x1 x2 (ix6 g b n q k d)
    = ∑ c : Fin 192, Ideal.div (Ideal.exp (row x0 x1 b n k g q c - Row.top (row x0 x1 b n k g q) (sink x2 k g)))
        (Row.den (row x0 x1 b n k g q) (sink x2 k g)) * val_main_v37 (F := Ideal) x1 (ix5 b n c k d) := by
  rw [val_main_v93_apply, val_main_v92_apply, val_main_v91_apply]
  refine Finset.sum_congr rfl fun c _ => ?_
  rw [mul_comm, ← prob_at]
  refine congr (congrArg _ (congrArg _ ?_)) (congrArg _ ?_) <;> (funext a; fin_cases a <;> rfl)

end

/-- The result at an index. -/
theorem result_at (g : Fin 8) (r : Fin 16640) (l : Fin 512) :
    val_main_v97 (F := Ideal) x0 x1 x2 (ix3 g r l)
      = if h : r.val < 16384 then val_main_v93 (F := Ideal) x0 x1 x2 (ix6 g ⟨r.val / 4096, by omega⟩ ⟨r.val / 64 % 64, by omega⟩
          ⟨r.val % 64, by omega⟩ ⟨l.val / 64, by omega⟩ ⟨l.val % 64, by omega⟩) else 0 := by
  have e : ∀ (g : Fin 8) (r : Fin 16384) (l : Fin 512), val_main_v94 (F := Ideal) x0 x1 x2 (ix3 g r l)
      = val_main_v93 (F := Ideal) x0 x1 x2 (ix6 g ⟨r.val / 4096, by omega⟩ ⟨r.val / 64 % 64, by omega⟩
          ⟨r.val % 64, by omega⟩ ⟨l.val / 64, by omega⟩ ⟨l.val % 64, by omega⟩) := by
    intro g r l
    unfold val_main_v94
    generalize val_main_v93 (F := Ideal) x0 x1 x2 = y
    refine shapeCast_apply y _ _ _ ?_
    rewrite [Shape.rowMajor_val_three, Shape.rowMajor_val_six]
    show ((((g.val * 4 + r.val / 4096) * 64 + r.val / 64 % 64) * 64 + r.val % 64) * 8 + l.val / 64) * 64 + l.val % 64
      = (g.val * 16384 + r.val) * 512 + l.val
    omega
  rw [val_main_v97_apply]
  unfold val_main_v96
  generalize val_main_v94 (F := Ideal) x0 x1 x2 = y at e ⊢
  pointwise [val_main_v95, val_main_cst_11]
  by_cases h : r.val < 16384
  · simp only [dif_pos h]; exact e g ⟨r.val, h⟩ l
  · simp only [dif_neg h]

end Cert.ReferenceIdeal.Entry

end
-- ==== Proof.Chunk.lean ====
module

public import proofs.«01_k».proof.Proof.Gen.KernelIdeal.Skeleton
public import Idealize.ShloMosaic.Lib.Pointwise

@[expose] public section

set_option maxRecDepth 16384

noncomputable section

namespace Cert.KernelIdeal.Chunk

open Idealize.ShloMosaic Idealize.SL.Sem
open Cert.KernelIdeal Cert.KernelIdeal.Gen

variable {F : FTy → Type} [FloatOps F] [Named F]

/-- The scores of one chunk's queries against its band, for the head whose lanes `mask` keeps. -/
def scores (mask : IVec S192x128 1) (pos : BitVec 32) (q : Vec F S8x64x128 .bf16) (k : Vec F S192x128 .f32)
    (b : Vec F S1x512x192 .f32) : FVec F S512x192 .f32 :=
  select
    (cmpi .sge (addi (iota .tc S512x192 32 [1] iota_S512x192_d1_w32) (broadcast S512x192 pos))
      (broadcast S512x192 0#32))
    (addf
      (mulf
        (matmul (φ₁ := .bf16) (φ₂ := .bf16) dot_S512x128_S192x128_S512x192_1_1_0_0_n_n none (shapeCast S512x128 q shapeCasts_S8x64x128_S512x128)
          (truncf .bf16 (select mask k (broadcast S192x128 (Scalar.ofBits .f32 0x00000000#32)) : FVec F S192x128 .f32) bitsLt_bf16_f32)
          (constant S512x192 .f32 0x00000000#32))
        (broadcast S512x192 (Scalar.ofBits .f32 0x3E000000#32)))
      (shapeCast S512x192 b shapeCasts_S1x512x192_S512x192))
    (broadcast S512x192 (Named.named κ "mask" 0xF149F2CA#32))

/-- The maximum of a row of scores and the sink. -/
def top (s : FVec F S512x192 .f32) (σ : FVec F S512x1 .f32) : FVec F S512x1 .f32 :=
  maximumf (shapeCast S512x1 (multiReduction .maximumf [1] S512 s 0xFF800000#32 reduces_S512x192_S512 (.inl rfl) rfl)
    shapeCasts_S512_S512x1) σ

/-- The exponentials of a row. -/
def expo (s : FVec F S512x192 .f32) (σ : FVec F S512x1 .f32) : FVec F S512x192 .f32 :=
  exp (subf s (broadcastTo S512x192 (top s σ) broadcasts_S512x1_S512x192))

/-- One head's output: the weighted values over the sum of the weights. -/
def head (mask : IVec S192x128 1) (pos : BitVec 32) (q : Vec F S8x64x128 .bf16) (k v : Vec F S192x128 .f32)
    (b : Vec F S1x512x192 .f32) (σ : Vec F S1x512x1 .f32) : FVec F S512x128 .f32 :=
  let s := scores mask pos q k b
  let σ' : FVec F S512x1 .f32 := shapeCast S512x1 σ shapeCasts_S1x512x1_S512x1
  divf
    (matmul dot_S512x192_S192x128_S512x128_1_0_0_1_n_n none (truncf .bf16 (expo s σ') bitsLt_bf16_f32)
      (truncf .bf16 v bitsLt_bf16_f32) (constant S512x128 .f32 0x00000000#32))
    (broadcastTo S512x128
      (addf
        (shapeCast S512x1 (multiReduction .add [1] S512 (expo s σ') 0x00000000#32 reduces_S512x192_S512 (.inl rfl) rfl)
          shapeCasts_S512_S512x1)
        (exp (subf σ' (top s σ'))))
      broadcasts_S512x1_S512x128)

/-- What the body stores for one chunk: the two heads of the pair, each in its own lanes. -/
def chunk (pos : BitVec 32) (q : Vec F S8x64x128 .bf16) (k v : Vec F S192x128 .f32)
    (b₀ : Vec F S1x512x192 .f32) (σ₀ : Vec F S1x512x1 .f32) (b₁ : Vec F S1x512x192 .f32) (σ₁ : Vec F S1x512x1 .f32) :
    FVec F S8x64x128 .bf16 :=
  let lane : IVec S192x128 32 := iota .tc S192x128 32 [1] iota_S192x128_d1_w32
  truncf .bf16
    (shapeCast S8x64x128
      (select (cmpi .slt (iota .tc S512x128 32 [1] iota_S512x128_d1_w32) (broadcast S512x128 64#32))
        (head (cmpi .slt lane (broadcast S192x128 64#32)) pos q k v b₀ σ₀)
        (head (cmpi .sge lane (broadcast S192x128 64#32)) pos q k v b₁ σ₁))
      shapeCasts_S512x128_S8x64x128 : FVec F S8x64x128 .f32)
    bitsLt_bf16_f32

abbrev laneK : IVec S192x128 32 := iota .tc S192x128 32 [1] iota_S192x128_d1_w32
abbrev laneO : IVec S512x128 32 := iota .tc S512x128 32 [1] iota_S512x128_d1_w32
abbrev col : IVec S512x192 32 := iota .tc S512x192 32 [1] iota_S512x192_d1_w32

/-- The position of a chunk's first band column in its sequence, as the body computes it. -/
abbrev pos (v35 j : BitVec 32) : BitVec 32 := Scalar.subi (Scalar.muli (Scalar.addi v35 j) 64#32) 128#32

theorem chunk0_eq (v35 : BitVec 32) (q : Vec F S8x64x128 .bf16) (k v : Vec F S192x128 .f32)
    (b₀ : Vec F S1x512x192 .f32) (σ₀ : Vec F S1x512x1 .f32) (b₁ : Vec F S1x512x192 .f32) (σ₁ : Vec F S1x512x1 .f32) :
    k0_pay17 laneO (k0_pay15 (k0_pay8 v) (k0_pay13 laneK col v35 q k b₀ σ₀) (k0_pay14 laneK col v35 q k b₀ σ₀))
      (k0_pay16 laneK col v35 (k0_pay7 q) k (k0_pay8 v) b₁ σ₁) 64#32
      = chunk (pos v35 0#32) q k v b₀ σ₀ b₁ σ₁ := rfl

theorem chunk1_eq (v35 : BitVec 32) (q : Vec F S8x64x128 .bf16) (k v : Vec F S192x128 .f32)
    (b₀ : Vec F S1x512x192 .f32) (σ₀ : Vec F S1x512x1 .f32) (b₁ : Vec F S1x512x192 .f32) (σ₁ : Vec F S1x512x1 .f32) :
    k0_pay27 laneO (k0_pay19 v) (k0_pay22 (k0_pay19 v) (k0_pay20 laneK col v35 q k b₀) (k0_pay21 σ₀)) (k0_pay24 σ₁)
      (k0_pay25 laneK col v35 (k0_pay18 q) k b₁ σ₁) (k0_pay26 laneK col v35 (k0_pay18 q) k b₁ σ₁)
      = chunk (pos v35 1#32) q k v b₀ σ₀ b₁ σ₁ := rfl

theorem chunk2_eq (v35 : BitVec 32) (q : Vec F S8x64x128 .bf16) (k v : Vec F S192x128 .f32)
    (b₀ : Vec F S1x512x192 .f32) (σ₀ : Vec F S1x512x1 .f32) (b₁ : Vec F S1x512x192 .f32) (σ₁ : Vec F S1x512x1 .f32) :
    k0_pay35 laneO (k0_pay29 v) (k0_pay32 col (k0_pay29 v) (k0_pay30 laneK q k b₀) (k0_pay31 v35) σ₀)
      (k0_pay33 laneK (k0_pay28 q) k b₁) (k0_pay34 col v35) (Named.named κ "mask" 0xF149F2CA#32) σ₁
      = chunk (pos v35 2#32) q k v b₀ σ₀ b₁ σ₁ := rfl

theorem chunk3_eq (v35 : BitVec 32) (q : Vec F S8x64x128 .bf16) (k v : Vec F S192x128 .f32)
    (b₀ : Vec F S1x512x192 .f32) (σ₀ : Vec F S1x512x1 .f32) (b₁ : Vec F S1x512x192 .f32) (σ₁ : Vec F S1x512x1 .f32) :
    k0_pay1 laneO col v35 (k0_pay37 v) (k0_pay39 col v35 (k0_pay37 v) (k0_pay38 laneK q k) b₀ σ₀)
      (k0_pay40 laneK (k0_pay36 q) k) (k0_pay41 b₁) σ₁
      = chunk (pos v35 3#32) q k v b₀ σ₀ b₁ σ₁ := rfl

end Cert.KernelIdeal.Chunk

end
-- ==== Proof.ChunkValue.lean ====
module

public import proofs.«01_k».proof.Proof.Chunk
public import proofs.«01_k».proof.Proof.Spec

@[expose] public section

set_option maxRecDepth 16384

noncomputable section

namespace Cert.KernelIdeal.Chunk

open Idealize.ShloMosaic Idealize.SL.Sem
open Cert.KernelIdeal Cert.KernelIdeal.Gen

/-- The named mask is −∞. -/
theorem named_mask : Named.named (F := Ideal) κ "mask" (φ := .f32) 0xF149F2CA#32 = (⊥ : EReal) :=
  IdealRules.named_const.ideal_named_scalar _ _ _ _ rfl

theorem ofBits_zero : Ideal.ofBits .f32 0x00000000#32 = 0 := by simp [Ideal.ofBits, Ideal.ieee]

/-- The scores at an entry, the lanes outside the head's counted as zero. -/
theorem scores_at (mask : IVec S192x128 1) (p : BitVec 32) (q : FVec Ideal S8x64x128 .bf16) (k : FVec Ideal S192x128 .f32)
    (b : FVec Ideal S1x512x192 .f32) (g : Fin 8) (r : Fin 64) (c : Fin 192) :
    scores (F := Ideal) mask p q k b (ix2 ⟨g.val * 64 + r.val, by omega⟩ c)
      = Scalar.select (IntOp.cmpi .sge (IntOp.addi (BitVec.ofNat 32 c.val) p) 0#32)
          ((∑ x : Fin 128, q (ix3 g r x) * Scalar.select (mask (ix2 c x)) (k (ix2 c x)) 0) * Ideal.ofBits .f32 0x3E000000#32
            + b (ix3 0 ⟨g.val * 64 + r.val, by omega⟩ c)) ⊥ := by
  pointwise [scores]
  rw [named_mask]

theorem head_at (mask : IVec S192x128 1) (p : BitVec 32) (q : FVec Ideal S8x64x128 .bf16) (k v : FVec Ideal S192x128 .f32)
    (b : FVec Ideal S1x512x192 .f32) (σ : FVec Ideal S1x512x1 .f32) (r : Fin 512) (l : Fin 128) :
    head (F := Ideal) mask p q k v b σ (ix2 r l)
      = Row.attn (fun c => scores (F := Ideal) mask p q k b (ix2 r c)) (σ (ix3 0 r 0)) (fun c => v (ix2 c l)) := by
  unfold Row.attn Row.den Row.top
  pointwise [head, expo, top]

theorem lane_lt (x : ℕ) (hx : x < 128) : IntOp.cmpi .slt (BitVec.ofNat 32 x) 64#32 = if x < 64 then 1#1 else 0#1 := by
  have : ∀ x : Fin 128, IntOp.cmpi .slt (BitVec.ofNat 32 x.val) 64#32 = if x.val < 64 then 1#1 else 0#1 := by decide +kernel
  exact this ⟨x, hx⟩

theorem lane_ge (x : ℕ) (hx : x < 128) : IntOp.cmpi .sge (BitVec.ofNat 32 x) 64#32 = if x < 64 then 0#1 else 1#1 := by
  have : ∀ x : Fin 128, IntOp.cmpi .sge (BitVec.ofNat 32 x.val) 64#32 = if x.val < 64 then 0#1 else 1#1 := by decide +kernel
  exact this ⟨x, hx⟩

/-- A sum over the pair's lanes that counts only the first head's. -/
theorem sum_lo (f : Fin 128 → EReal) :
    (∑ x : Fin 128, Scalar.select (IntOp.cmpi .slt (BitVec.ofNat 32 x.val) 64#32) (f x) 0)
      = ∑ d : Fin 64, f ⟨0 * 64 + d.val, by omega⟩ := by
  simp only [fun x : Fin 128 => lane_lt x.val x.isLt]
  rw [Fin.sum_univ_two_halves 64 64 rfl]
  have h : ∀ k : Fin 64, Scalar.select (if (64 + k.val) < 64 then 1#1 else 0#1) (f ⟨64 + k.val, by omega⟩) 0 = (0 : EReal) :=
    fun k => by rw [if_neg (by omega)]; rfl
  rw [Finset.sum_congr rfl fun k _ => h k, Finset.sum_const_zero, add_zero]
  refine Finset.sum_congr rfl fun k _ => ?_
  rw [if_pos k.isLt]
  exact congrArg f (Fin.ext (by simp))

/-- A sum over the pair's lanes that counts only the second head's. -/
theorem sum_hi (f : Fin 128 → EReal) :
    (∑ x : Fin 128, Scalar.select (IntOp.cmpi .sge (BitVec.ofNat 32 x.val) 64#32) (f x) 0)
      = ∑ d : Fin 64, f ⟨1 * 64 + d.val, by omega⟩ := by
  simp only [fun x : Fin 128 => lane_ge x.val x.isLt]
  rw [Fin.sum_univ_two_halves 64 64 rfl]
  have h : ∀ k : Fin 64, Scalar.select (if k.val < 64 then 0#1 else 1#1) (f ⟨k.val, by omega⟩) 0 = (0 : EReal) :=
    fun k => by rw [if_pos (by omega)]; rfl
  rw [Finset.sum_congr rfl fun k _ => h k, Finset.sum_const_zero, zero_add]
  refine Finset.sum_congr rfl fun k _ => ?_
  rw [if_neg (show ¬(64 + k.val < 64) by omega)]
  exact congrArg f (Fin.ext (by simp))

/-- An entry of the row a chunk's head computes; `w` says which of the pair's two heads. -/
def entry (w : Fin 2) (p : BitVec 32) (q : FVec Ideal S8x64x128 .bf16) (k v : FVec Ideal S192x128 .f32)
    (b : FVec Ideal S1x512x192 .f32) (σ : FVec Ideal S1x512x1 .f32) (g : Fin 8) (r : Fin 64) (l : Fin 128) : EReal :=
  Row.attn (fun c : Fin 192 =>
      Scalar.select (IntOp.cmpi .sge (IntOp.addi (BitVec.ofNat 32 c.val) p) 0#32)
          ((∑ d : Fin 64, q (ix3 g r ⟨w.val * 64 + d.val, by omega⟩) * k (ix2 c ⟨w.val * 64 + d.val, by omega⟩))
              * Ideal.ofBits .f32 0x3E000000#32
            + b (ix3 0 ⟨g.val * 64 + r.val, by omega⟩ c)) ⊥) (σ (ix3 0 ⟨g.val * 64 + r.val, by omega⟩ 0)) (fun c => v (ix2 c l))

theorem chunk_at (p : BitVec 32) (q : FVec Ideal S8x64x128 .bf16) (k v : FVec Ideal S192x128 .f32)
    (b : FVec Ideal S1x512x192 .f32) (σ : FVec Ideal S1x512x1 .f32)
    (b' : FVec Ideal S1x512x192 .f32) (σ' : FVec Ideal S1x512x1 .f32) (g : Fin 8) (r : Fin 64) (l : Fin 128) :
    chunk (F := Ideal) p q k v b σ b' σ' (ix3 g r l)
      = if l.val < 64 then entry 0 p q k v b σ g r l else entry 1 p q k v b' σ' g r l := by
  pointwise [chunk, head_at, scores_at]
  simp only [sum_lo (fun x => q (ix3 g r x) * k (ix2 _ x)), sum_hi (fun x => q (ix3 g r x) * k (ix2 _ x)), lane_lt l.val l.isLt]
  split <;> rfl

/-- A chunk's row is the attention's row, when what the chunk loads is what the row's arrays hold. -/
theorem entry_eq (w : Fin 2) (p : BitVec 32) (q : FVec Ideal S8x64x128 .bf16) (k v : FVec Ideal S192x128 .f32)
    (b : FVec Ideal S1x512x192 .f32) (σ : FVec Ideal S1x512x1 .f32) (g : Fin 8) (r : Fin 64) (l : Fin 128)
    (Q : Spec.Queries) (KV : Spec.KeyValues) (B : Spec.Bias) (S : Spec.Sinks) (row : Fin 16384) (L : Fin 512)
    (hr : row.val % 64 = r.val) (hL : L.val / 128 * 128 + l.val = L.val) (hw : l.val / 64 = w.val)
    (hp : ∀ c : Fin 192, IntOp.cmpi .sge (IntOp.addi (BitVec.ofNat 32 c.val) p) 0#32 = if Spec.Valid row c then 1#1 else 0#1)
    (hq : ∀ x : Fin 128, q (ix3 g r x) = Q g (row.castLE (by decide)) ⟨L.val / 128 * 128 + x.val, by omega⟩)
    (hk : ∀ (c : Fin 192) (x : Fin 128), Spec.Valid row c → k (ix2 c x) = KV (Spec.bandRow row c) ⟨L.val / 128 * 128 + x.val, by omega⟩)
    (hv : ∀ (c : Fin 192) (x : Fin 128), Spec.Valid row c → v (ix2 c x) = KV (Spec.bandRow row c) ⟨512 + (L.val / 128 * 128 + x.val), by omega⟩)
    (hb : ∀ c : Fin 192, b (ix3 0 ⟨g.val * 64 + r.val, by omega⟩ c) = B (Spec.headOf L) g r c)
    (hσ : σ (ix3 0 ⟨g.val * 64 + r.val, by omega⟩ 0) = S (Spec.headOf L) g) :
    entry w p q k v b σ g r l = Spec.out Q KV B S g row L := by
  have hs : (fun c : Fin 192 =>
      Scalar.select (IntOp.cmpi .sge (IntOp.addi (BitVec.ofNat 32 c.val) p) 0#32)
          ((∑ d : Fin 64, q (ix3 g r ⟨w.val * 64 + d.val, by omega⟩) * k (ix2 c ⟨w.val * 64 + d.val, by omega⟩))
              * Ideal.ofBits .f32 0x3E000000#32
            + b (ix3 0 ⟨g.val * 64 + r.val, by omega⟩ c)) ⊥) = Spec.score Q KV B g row (Spec.headOf L) := by
    funext c
    rw [hp c]
    unfold Spec.score
    by_cases hc : Spec.Valid row c
    · rw [if_pos hc, if_pos hc, hb]
      show _ * _ + _ = _
      have hr' : r = Spec.place row := Fin.ext hr.symm
      rw [← hr']
      congr 2
      refine Finset.sum_congr rfl fun d _ => ?_
      rw [hq, hk c _ hc]
      have e : L.val / 128 * 128 + (w.val * 64 + d.val) = L.val / 64 * 64 + d.val := by omega
      exact congr (congrArg HMul.hMul (congrArg (Q g _) (Fin.ext e))) (congrArg (KV _) (Fin.ext e))
    · rw [if_neg hc, if_neg hc]; rfl
  unfold entry Spec.out
  rw [hs, hσ]
  refine Row.attn_congr _ _ fun c hc => ?_
  have hc' : Spec.Valid row c := by
    by_contra h
    exact hc (by unfold Spec.score; rw [if_neg h])
  rw [hv c l hc']
  unfold Spec.value
  exact congrArg _ (Fin.ext (by simp only []; omega))

end Cert.KernelIdeal.Chunk

end
-- ==== Proof.Blocks.lean ====
module

public import proofs.«01_k».proof.Proof.ChunkValue
public import proofs.«01_k».proof.Proof.Gen.KernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Blocks

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The block each window stages at a grid point. -/
theorem idx : ∀ t : Fin cfg0.N,
    win0_0.index t = ![0, t.val % 65, t.val / 65] ∧ win0_1.index t = ![t.val % 65, t.val / 65]
    ∧ win0_2.index t = ![t.val % 65 * 2 - 1, t.val / 65] ∧ win0_3.index t = ![t.val % 65, 4 + t.val / 65]
    ∧ win0_4.index t = ![t.val % 65 * 2 - 1, 4 + t.val / 65] ∧ win0_5.index t = ![t.val / 65, 0, 0]
    ∧ win0_6.index t = ![t.val / 65, 0, 0] ∧ win0_7.index t = ![0, t.val % 65, t.val / 65] :=
  (by decide +kernel : ∀ t : Fin grid0.N, _)

theorem N_lt (t : Fin cfg0.N) : t.val < 260 := t.isLt

/-- The queries a point stages. -/
theorem blk0 (c : Dev nD) (t : Fin cfg0.N) (g : Fin 8) (a : Fin 256) (l : Fin 128) :
    iblk m c 0 t (ix3 g a l) = m ((c.tc : Thread nD τ).loc main_arg0)
      (ix3 g ⟨t.val % 65 * 256 + a.val, by omega⟩ ⟨t.val / 65 * 128 + l.val, by have := N_lt t; omega⟩) := by
  rw [← V_main_arg0 m c]
  blk_simp [iblk]
  blk_ext [iblk, idx t]

/-- The keys of a point’s own rows. -/
theorem blk1 (c : Dev nD) (t : Fin cfg0.N) (a : Fin 256) (l : Fin 128) :
    iblk m c 1 t (ix2 a l) = m ((c.tc : Thread nD τ).loc main_arg1)
      (ix2 ⟨t.val % 65 * 256 + a.val, by omega⟩ ⟨t.val / 65 * 128 + l.val, by have := N_lt t; omega⟩) := by
  rw [← V_main_arg1 m c]
  blk_simp [iblk]
  blk_ext [iblk, idx t]

/-- The keys of the rows before. -/
theorem blk2 (c : Dev nD) (t : Fin cfg0.N) (a : Fin 128) (l : Fin 128) :
    iblk m c 2 t (ix2 a l) = m ((c.tc : Thread nD τ).loc main_arg1)
      (ix2 ⟨(t.val % 65 * 2 - 1) * 128 + a.val, by omega⟩ ⟨t.val / 65 * 128 + l.val, by have := N_lt t; omega⟩) := by
  rw [← V_main_arg1 m c]
  blk_simp [iblk]
  blk_ext [iblk, idx t]

/-- The values of a point’s own rows. -/
theorem blk3 (c : Dev nD) (t : Fin cfg0.N) (a : Fin 256) (l : Fin 128) :
    iblk m c 3 t (ix2 a l) = m ((c.tc : Thread nD τ).loc main_arg1)
      (ix2 ⟨t.val % 65 * 256 + a.val, by omega⟩ ⟨512 + (t.val / 65 * 128 + l.val), by have := N_lt t; omega⟩) := by
  rw [← V_main_arg1 m c]
  blk_simp [iblk]
  blk_ext [iblk, idx t]

/-- The values of the rows before. -/
theorem blk4 (c : Dev nD) (t : Fin cfg0.N) (a : Fin 128) (l : Fin 128) :
    iblk m c 4 t (ix2 a l) = m ((c.tc : Thread nD τ).loc main_arg1)
      (ix2 ⟨(t.val % 65 * 2 - 1) * 128 + a.val, by omega⟩ ⟨512 + (t.val / 65 * 128 + l.val), by have := N_lt t; omega⟩) := by
  rw [← V_main_arg1 m c]
  blk_simp [iblk]
  blk_ext [iblk, idx t]

/-- The bias of the point's two heads. -/
theorem blk5 (c : Dev nD) (t : Fin cfg0.N) (a : Fin 2) (r : Fin 512) (l : Fin 192) :
    iblk m c 5 t (ix3 a r l) = V m c main_v28 (ix3 ⟨t.val / 65 * 2 + a.val, by have := N_lt t; omega⟩ r l) := by
  blk_simp [iblk]
  blk_ext [iblk, idx t]

/-- The sinks of the point's two heads. -/
theorem blk6 (c : Dev nD) (t : Fin cfg0.N) (a : Fin 2) (r : Fin 512) :
    iblk m c 6 t (ix3 a r 0) = V m c main_v31 (ix3 ⟨t.val / 65 * 2 + a.val, by have := N_lt t; omega⟩ r 0) := by
  blk_simp [iblk]
  blk_ext [iblk, idx t]

/-- The slope of a query head, as the host computes it. -/
def slope (n g : Fin 8) : EReal :=
  Ideal.exp (Ideal.ofBits .f32 0x3F317218#32 * Ideal.div
    (Ideal.ofBits .f32 0xC1000000#32 * (1 + FloatOps.sitofp (F := Ideal) .f32 (BitVec.ofNat 32 (n.val * 8 + g.val))))
    (Ideal.ofBits .f32 0x42800000#32))

/-- The distance of a band column from a query, as the host computes it. -/
def dist (r : Fin 64) (x : Fin 192) : EReal :=
  FloatOps.sitofp (F := Ideal) .f32
    (IntOp.absi (IntOp.subi (IntOp.addi 128#32 (BitVec.ofNat 32 r.val)) (BitVec.ofNat 32 x.val)))

/-- The bias the host computes. -/
def bias : Spec.Bias := fun n g r x => -slope n g * dist r x

theorem bias_at (c : Dev nD) (n g : Fin 8) (r : Fin 64) (x : Fin 192) :
    V m c main_v28 (ix3 n ⟨g.val * 64 + r.val, by omega⟩ x) = bias n g r x := by
  entry_read
  pointwise
  rfl

theorem sink_at (c : Dev nD) (n g : Fin 8) (r : Fin 64) :
    V m c main_v31 (ix3 n ⟨g.val * 64 + r.val, by omega⟩ 0)
      = m ((c.tc : Thread nD τ).loc main_arg2) (ix1 ⟨n.val * 8 + g.val, by omega⟩) := by
  entry_read
  pointwise

/-- The scratch rows: the rows before, then the point's own. -/
def band (kh : FVec Ideal S128x128 .f32) (km : FVec Ideal S256x128 .f32) : FVec Ideal S384x128 .f32 := fun y =>
  if h : (y 0).val < 128 then kh (ix2 ⟨(y 0).val, h⟩ (y 1))
  else km (ix2 ⟨(y 0).val - 128, by have : (y 0).val < 384 := (y 0).isLt; omega⟩ (y 1))

theorem canon_band (inb inb') (kh : FVec Ideal S128x128 .f32) (km : FVec Ideal S256x128 .f32) :
    View.canon (Val := Elt Ideal) (s := S384x128) (e := .f32)
      [⟨Rect.unit ![128, 0] ![256, 128] inb, km⟩, ⟨Rect.unit ![0, 0] ![128, 128] inb', kh⟩] = band kh km := by
  funext y
  have h0 : (y 0).val < 384 := (y 0).isLt
  have h1 : (y 1).val < 128 := (y 1).isLt
  have hc : ∃ p ∈ ([⟨Rect.unit ![128, 0] ![256, 128] inb, km⟩, ⟨Rect.unit ![0, 0] ![128, 128] inb', kh⟩] :
      List (View.Piece (Elt Ideal) S384x128 .f32)), y ∈ p.1.set := by
    by_cases h : (y 0).val < 128
    · refine ⟨_, List.mem_cons_of_mem _ List.mem_cons_self, (Rect.mem_set_unit (inb := inb')).2 fun a => ?_⟩
      fin_cases a
      · exact ⟨Nat.zero_le _, by simpa using h⟩
      · exact ⟨Nat.zero_le _, by simpa using h1⟩
    · refine ⟨_, List.mem_cons_self, (Rect.mem_set_unit (inb := inb)).2 fun a => ?_⟩
      fin_cases a
      · exact ⟨by simpa using h, by simpa using h0⟩
      · exact ⟨Nat.zero_le _, by simpa using h1⟩
  canon_tiles x h using hc
  · unfold band
    rw [dif_neg (by omega)]
    congr 1; funext a
    fin_cases a
    · exact Fin.ext (by show (x 0).val = (y 0).val - 128; omega)
    · exact Fin.ext (by show (x 1).val = (y 1).val; omega)
  · unfold band
    rw [dif_pos (by omega)]
    congr 1; funext a
    fin_cases a
    · exact Fin.ext (by show (x 0).val = (y 0).val; omega)
    · exact Fin.ext (by show (x 1).val = (y 1).val; omega)

end Cert.KernelIdeal.Blocks

end
-- ==== Proof.KernelPoint.lean ====
module

public import proofs.«01_k».proof.Proof.Blocks

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Chunk Cert.KernelIdeal.Blocks

variable (m : (ℓ : Loc nD τ sig) → Buf (Elt Ideal) ℓ)

/-- The queries. -/
def Q (c : Dev nD) : Spec.Queries := fun g r l => m ((c.tc : Thread nD τ).loc main_arg0) (ix3 g r l)

/-- The keys and values. -/
def KV (c : Dev nD) : Spec.KeyValues := fun r l => m ((c.tc : Thread nD τ).loc main_arg1) (ix2 r l)

/-- The sinks. -/
def Sk (c : Dev nD) : Spec.Sinks := fun n g => m ((c.tc : Thread nD τ).loc main_arg2) (ix1 ⟨n.val * 8 + g.val, by omega⟩)

/-- An entry of the result: the attention on the prompt's rows, zero on the others. -/
def entryOf (c : Dev nD) (g : Fin 8) (row : Fin 16640) (l : Fin 512) : EReal :=
  if h : row.val < 16384 then Spec.out (Q m c) (KV m c) bias (Sk m c) g ⟨row.val, h⟩ l else 0

/-- Whether a band column is inside the sequence, in the body's integers. -/
theorem valid_int : ∀ (a : Fin 64) (c : Fin 192),
    IntOp.cmpi .sge (IntOp.addi (BitVec.ofNat 32 c.val)
      (Scalar.subi (Scalar.muli (BitVec.ofNat 32 a.val) 64#32) 128#32)) 0#32
      = if 128 ≤ a.val * 64 + c.val then 1#1 else 0#1 := by
  decide +kernel

theorem pos_eq : ∀ (i : Fin 64) (j : Fin 4),
    pos (BitVec.ofNat 32 (i.val % 16 * 4)) (BitVec.ofNat 32 j.val)
      = Scalar.subi (Scalar.muli (BitVec.ofNat 32 (i.val % 16 * 4 + j.val)) 64#32) 128#32 := by
  decide +kernel

/-- One stored chunk at an entry. -/
theorem piece (c : Dev nD) (t : Fin cfg0.N) (ht : t.val % 65 ≤ 63) (j : Fin 4) (v35 : BitVec 32)
    (hv35 : v35 = BitVec.ofNat 32 (t.val % 65 % 16 * 4))
    (q : FVec Ideal S8x64x128 .bf16) (k v : FVec Ideal S192x128 .f32)
    (b : FVec Ideal S1x512x192 .f32) (σ : FVec Ideal S1x512x1 .f32)
    (b' : FVec Ideal S1x512x192 .f32) (σ' : FVec Ideal S1x512x1 .f32)
    (hq : ∀ (g : Fin 8) (r : Fin 64) (x : Fin 128), q (ix3 g r x) = iblk m c 0 t (ix3 g ⟨64 * j.val + r.val, by omega⟩ x))
    (hk : ∀ (a : Fin 192) (x : Fin 128), k (ix2 a x) = band (iblk m c 2 t) (iblk m c 1 t) (ix2 ⟨64 * j.val + a.val, by omega⟩ x))
    (hv : ∀ (a : Fin 192) (x : Fin 128), v (ix2 a x) = band (iblk m c 4 t) (iblk m c 3 t) (ix2 ⟨64 * j.val + a.val, by omega⟩ x))
    (hb : ∀ (r : Fin 512) (x : Fin 192), b (ix3 0 r x) = iblk m c 5 t (ix3 (0 : Fin 2) r x))
    (hσ : ∀ (r : Fin 512), σ (ix3 0 r 0) = iblk m c 6 t (ix3 (0 : Fin 2) r 0))
    (hb' : ∀ (r : Fin 512) (x : Fin 192), b' (ix3 0 r x) = iblk m c 5 t (ix3 (1 : Fin 2) r x))
    (hσ' : ∀ (r : Fin 512), σ' (ix3 0 r 0) = iblk m c 6 t (ix3 (1 : Fin 2) r 0))
    (g : Fin 8) (r : Fin 64) (l : Fin 128) :
    chunk (F := Ideal) (pos v35 (BitVec.ofNat 32 j.val)) q k v b σ b' σ' (ix3 g r l)
      = entryOf m c g ⟨t.val % 65 * 256 + (64 * j.val + r.val), by omega⟩
          ⟨t.val / 65 * 128 + l.val, by have := N_lt t; omega⟩ := by
  have hN := N_lt t
  have hp : pos v35 (BitVec.ofNat 32 j.val)
      = Scalar.subi (Scalar.muli (BitVec.ofNat 32 (t.val % 65 % 16 * 4 + j.val)) 64#32) 128#32 := by
    rw [hv35]; exact pos_eq ⟨t.val % 65, by omega⟩ j
  have hrow : t.val % 65 * 256 + (64 * j.val + r.val) < 16384 := by omega
  have hq' : ∀ x : Fin 128, q (ix3 g r x) = Q m c g ⟨t.val % 65 * 256 + (64 * j.val + r.val), by omega⟩
      ⟨(t.val / 65 * 128 + l.val) / 128 * 128 + x.val, by omega⟩ := fun x => by
    rw [hq, blk0]
    exact congrArg _ (congrArg _ (Fin.ext (by simp only []; omega)))
  have band_row : ∀ (kh : FVec Ideal S128x128 .f32) (km : FVec Ideal S256x128 .f32) (o : ℕ) (ho : o = 0 ∨ o = 512),
      (∀ (a : Fin 128) (x : Fin 128), kh (ix2 a x) = KV m c ⟨(t.val % 65 * 2 - 1) * 128 + a.val, by omega⟩ ⟨o + (t.val / 65 * 128 + x.val), by omega⟩) →
      (∀ (a : Fin 256) (x : Fin 128), km (ix2 a x) = KV m c ⟨t.val % 65 * 256 + a.val, by omega⟩ ⟨o + (t.val / 65 * 128 + x.val), by omega⟩) →
      ∀ (a : Fin 192) (x : Fin 128), Spec.Valid ⟨t.val % 65 * 256 + (64 * j.val + r.val), hrow⟩ a →
        band kh km (ix2 ⟨64 * j.val + a.val, by omega⟩ x)
          = KV m c (Spec.bandRow ⟨t.val % 65 * 256 + (64 * j.val + r.val), hrow⟩ a) ⟨o + ((t.val / 65 * 128 + l.val) / 128 * 128 + x.val), by omega⟩ := by
    intro kh km o ho h1 h2 a x ha
    have ha' : 128 ≤ (t.val % 65 * 256 + (64 * j.val + r.val)) % 4096 / 64 * 64 + a.val := ha
    unfold band
    by_cases h : 64 * j.val + a.val < 128
    · refine (dif_pos h).trans ((h1 _ _).trans ?_)
      refine congr (congrArg (KV m c) (Fin.ext ?_)) (Fin.ext ?_)
      · show (t.val % 65 * 2 - 1) * 128 + (64 * j.val + a.val) = (t.val % 65 * 256 + (64 * j.val + r.val)) / 64 * 64 + a.val - 128
        omega
      · show o + (t.val / 65 * 128 + x.val) = o + ((t.val / 65 * 128 + l.val) / 128 * 128 + x.val)
        omega
    · refine (dif_neg h).trans ((h2 _ _).trans ?_)
      refine congr (congrArg (KV m c) (Fin.ext ?_)) (Fin.ext ?_)
      · show t.val % 65 * 256 + (64 * j.val + a.val - 128) = (t.val % 65 * 256 + (64 * j.val + r.val)) / 64 * 64 + a.val - 128
        omega
      · show o + (t.val / 65 * 128 + x.val) = o + ((t.val / 65 * 128 + l.val) / 128 * 128 + x.val)
        omega
  have main : ∀ (w : Fin 2) (b : FVec Ideal S1x512x192 .f32) (σ : FVec Ideal S1x512x1 .f32),
      l.val / 64 = w.val →
      (∀ (r : Fin 512) (x : Fin 192), b (ix3 0 r x) = iblk m c 5 t (ix3 w r x)) →
      (∀ (r : Fin 512), σ (ix3 0 r 0) = iblk m c 6 t (ix3 w r 0)) →
      entry w (pos v35 (BitVec.ofNat 32 j.val)) q k v b σ g r l
        = entryOf m c g ⟨t.val % 65 * 256 + (64 * j.val + r.val), by omega⟩ ⟨t.val / 65 * 128 + l.val, by omega⟩ := by
    intro w b σ hw hb hσ
    have hh : Spec.headOf ⟨t.val / 65 * 128 + l.val, by omega⟩ = ⟨t.val / 65 * 2 + w.val, by omega⟩ :=
      Fin.ext (by show (t.val / 65 * 128 + l.val) / 64 = _; simp only []; omega)
    unfold entryOf
    rw [dif_pos hrow]
    refine entry_eq w _ q k v b σ g r l (Q m c) (KV m c) bias (Sk m c) ⟨_, hrow⟩ ⟨t.val / 65 * 128 + l.val, by omega⟩
      ?_ ?_ hw ?_ hq' ?_ ?_ ?_ ?_
    · show (t.val % 65 * 256 + (64 * j.val + r.val)) % 64 = r.val; omega
    · show (t.val / 65 * 128 + l.val) / 128 * 128 + l.val = t.val / 65 * 128 + l.val; omega
    · intro a
      rw [hp, valid_int ⟨t.val % 65 % 16 * 4 + j.val, by omega⟩ a]
      refine if_congr ?_ rfl rfl
      show 128 ≤ (t.val % 65 % 16 * 4 + j.val) * 64 + a.val ↔ 128 ≤ (t.val % 65 * 256 + (64 * j.val + r.val)) % 4096 / 64 * 64 + a.val
      omega
    · intro a x ha
      rw [hk, band_row _ _ 0 (.inl rfl) (fun a x => (blk2 m c t a x).trans ?_) (fun a x => (blk1 m c t a x).trans ?_) a x ha]
      · exact congrArg _ (Fin.ext (Nat.zero_add _))
      · exact congrArg (m ((c.tc : Thread nD τ).loc main_arg1)) (congrArg _ (Fin.ext (Nat.zero_add _).symm))
      · exact congrArg (m ((c.tc : Thread nD τ).loc main_arg1)) (congrArg _ (Fin.ext (Nat.zero_add _).symm))
    · intro a x ha
      rw [hv, band_row _ _ 512 (.inr rfl) (fun a x => blk4 m c t a x) (fun a x => blk3 m c t a x) a x ha]
    · intro a
      rw [hb, blk5, hh]
      exact bias_at m c _ g r a
    · rw [hσ, blk6, hh]
      exact sink_at m c _ g r
  rw [chunk_at]
  by_cases hl : l.val < 64
  · rw [if_pos hl]; exact main 0 b σ (by show l.val / 64 = 0; omega) hb hσ
  · rw [if_neg hl]; exact main 1 b' σ' (by show l.val / 64 = 1; omega) hb' hσ'

end Cert.KernelIdeal.Point

end
-- ==== Proof.Equal.lean ====
module

public import proofs.«01_k».proof.Proof.RefValue
public import proofs.«01_k».proof.Proof.KernelPoint

@[expose] public section

set_option maxRecDepth 16384

noncomputable section

namespace Cert.Equal

open Idealize.ShloMosaic
open Cert.ReferenceIdeal Cert.ReferenceIdeal.Read Cert.ReferenceIdeal.Entry

variable (x0 : FVec Ideal S8x16640x512 .bf16) (x1 : FVec Ideal S16640x1024 .f32) (x2 : FVec Ideal S64 .f32)

abbrev Q : Spec.Queries := fun g r l => x0 (ix3 g r l)
abbrev KV : Spec.KeyValues := fun r l => x1 (ix2 r l)
abbrev Sk : Spec.Sinks := fun n g => x2 (ix1 ⟨n.val * 8 + g.val, by omega⟩)

theorem toInt_succ : ∀ a : Fin 64, (IntOp.addi 1#32 (BitVec.ofNat 32 a.val)).toInt = 1 + (BitVec.ofNat 32 a.val).toInt := by
  decide +kernel

theorem slope_eq (n g : Fin 8) : Entry.slope n g = KernelIdeal.Blocks.slope n g := by
  unfold Entry.slope KernelIdeal.Blocks.slope
  have h := toInt_succ ⟨n.val * 8 + g.val, by omega⟩
  have e : FloatOps.sitofp (F := Ideal) .f32 (IntOp.addi 1#32 (BitVec.ofNat 32 (n.val * 8 + g.val)))
      = 1 + FloatOps.sitofp (F := Ideal) .f32 (BitVec.ofNat 32 (n.val * 8 + g.val)) := by
    show (((IntOp.addi 1#32 (BitVec.ofNat 32 (n.val * 8 + g.val))).toInt : ℝ) : EReal) = 1 + (((BitVec.ofNat 32 (n.val * 8 + g.val)).toInt : ℝ) : EReal)
    rw [h]; push_cast; rfl
  rw [e]

theorem dist_word (n q : Fin 64) (c : Fin 192) :
    IntOp.subi (BitVec.ofNat 32 (n.val * 64 + q.val)) (IntOp.addi (IntOp.muli (IntOp.subi (BitVec.ofNat 32 n.val) 2#32) 64#32) (BitVec.ofNat 32 c.val))
      = IntOp.subi (IntOp.addi 128#32 (BitVec.ofNat 32 q.val)) (BitVec.ofNat 32 c.val) := by
  simp only [IntOp.subi, IntOp.addi, IntOp.muli]
  bv_omega

theorem dist_eq (n q : Fin 64) (c : Fin 192) : Entry.dist n q c = KernelIdeal.Blocks.dist q c := by
  unfold Entry.dist KernelIdeal.Blocks.dist
  rw [dist_word]

theorem slope_real (n g : Fin 8) : ∃ r : ℝ, KernelIdeal.Blocks.slope n g = r := by
  unfold KernelIdeal.Blocks.slope
  have h1 : Ideal.ofBits .f32 0x3F317218#32 = ((11629080 / 16777216 : ℝ) : EReal) := by
    simp [Ideal.ofBits, Ideal.ieee, -EReal.coe_mul]; norm_num
  have h2 : Ideal.ofBits .f32 0xC1000000#32 = ((-8 : ℝ) : EReal) := by
    simp [Ideal.ofBits, Ideal.ieee, -EReal.coe_mul]; norm_num
  have h3 : Ideal.ofBits .f32 0x42800000#32 = ((64 : ℝ) : EReal) := by
    simp [Ideal.ofBits, Ideal.ieee, -EReal.coe_mul]; norm_num
  have h4 : FloatOps.sitofp (F := Ideal) .f32 (BitVec.ofNat 32 (n.val * 8 + g.val)) = (((BitVec.ofNat 32 (n.val * 8 + g.val)).toInt : ℝ) : EReal) := rfl
  have h5 : (1 : EReal) = ((1 : ℝ) : EReal) := rfl
  rw [h1, h2, h3, h4, h5, Ideal.div_coe (by norm_num)]
  simp only [← EReal.coe_add, ← EReal.coe_mul, Ideal.exp_coe]
  exact ⟨_, rfl⟩

theorem dist_real (q : Fin 64) (c : Fin 192) : ∃ r : ℝ, KernelIdeal.Blocks.dist q c = r := ⟨_, rfl⟩

/-- A sum of real products is real. -/
theorem sum_real {n : ℕ} {f g : Fin n → EReal} (hf : ∀ i, ∃ r : ℝ, f i = r) (hg : ∀ i, ∃ r : ℝ, g i = r) :
    ∃ r : ℝ, ∑ i, f i * g i = r := by
  refine Finset.sum_induction _ (fun x : EReal => ∃ r : ℝ, x = r) ?_ ⟨0, rfl⟩ fun i _ => ?_
  · rintro _ _ ⟨a, rfl⟩ ⟨b, rfl⟩
    exact ⟨a + b, (EReal.coe_add a b).symm⟩
  · obtain ⟨a, ha⟩ := hf i
    obtain ⟨b, hb⟩ := hg i
    exact ⟨a * b, by rw [ha, hb, EReal.coe_mul]⟩

/-- No score is +∞. -/
theorem score_ne_top (hQ : ∀ g r l, ∃ a : ℝ, x0 (ix3 g r l) = (a : EReal))
    (hK : ∀ (r : Fin 16640) (l : Fin 512), ∃ a : ℝ, x1 (ix2 r (l.castLE (by decide))) = (a : EReal))
    (g : Fin 8) (row : Fin 16384) (n : Fin 8) (c : Fin 192) :
    Spec.score (Q x0) (KV x1) KernelIdeal.Blocks.bias g row n c ≠ ⊤ := by
  unfold Spec.score
  split_ifs
  · obtain ⟨s, hs⟩ := sum_real (f := fun d : Fin 64 => Q x0 g (row.castLE (by decide)) (Spec.lane n d))
      (g := fun d : Fin 64 => KV x1 (Spec.bandRow row c) ((Spec.lane n d).castLE (by decide))) (fun d => hQ _ _ _) (fun d => hK _ _)
    have h8 : Ideal.ofBits .f32 0x3E000000#32 = ((1 / 8 : ℝ) : EReal) := by
      simp [Ideal.ofBits, Ideal.ieee, -EReal.coe_mul]; norm_num
    obtain ⟨a, ha⟩ := slope_real n g
    obtain ⟨b, hb⟩ := dist_real (Spec.place row) c
    unfold KernelIdeal.Blocks.bias
    rw [hs, h8, ha, hb, ← EReal.coe_neg, ← EReal.coe_mul, ← EReal.coe_mul, ← EReal.coe_add]
    exact EReal.coe_ne_top _
  · exact bot_ne_top

/-- The reference's scores are the attention's. -/
theorem row_eq (g : Fin 8) (r : Fin 16384) (k : Fin 8) :
    row x0 x1 ⟨r.val / 4096, by omega⟩ ⟨r.val / 64 % 64, by omega⟩ k g ⟨r.val % 64, by omega⟩
      = Spec.score (Q x0) (KV x1) KernelIdeal.Blocks.bias g r k := by
  funext c
  show val_main_v71 (F := Ideal) x0 x1 _ = _
  rw [score_at]
  unfold Spec.score
  have hv : Spec.Valid r c ↔ 128 ≤ r.val / 64 % 64 * 64 + c.val := by
    show 128 ≤ r.val % 4096 / 64 * 64 + c.val ↔ _
    omega
  by_cases h : Spec.Valid r c
  · rw [if_pos (hv.1 h), if_pos h, slope_eq, dist_eq, sub_eq_add_neg, ← EReal.neg_mul]
    refine congr (congrArg _ (congrArg (· * _) (Finset.sum_congr rfl fun d _ => ?_))) rfl
    rw [Band.v30_at, q_at, mul_comm, if_neg (by have := hv.1 h; simp only []; omega)]
    refine congr (congrArg _ (congrArg x0 ?_)) (congrArg x1 ?_)
    · refine congr (congrArg (ix3 g) (Fin.ext ?_)) rfl
      show r.val / 4096 * 4096 + r.val / 64 % 64 * 64 + r.val % 64 = r.val
      omega
    · refine congr (congrArg ix2 (Fin.ext ?_)) rfl
      show (r.val / 4096 * 64 + r.val / 64 % 64) * 64 + c.val - 128 = r.val / 64 * 64 + c.val - 128
      omega
  · rw [if_neg (fun h' => h (hv.2 h')), if_neg h]

/-- The reference's entry. -/
theorem entry_eq (hQ : ∀ g r l, ∃ a : ℝ, x0 (ix3 g r l) = (a : EReal))
    (hK : ∀ (r : Fin 16640) (l : Fin 512), ∃ a : ℝ, x1 (ix2 r (l.castLE (by decide))) = (a : EReal))
    (hS : ∀ i, ∃ a : ℝ, x2 (ix1 i) = (a : EReal)) (g : Fin 8) (r : Fin 16640) (l : Fin 512) :
    val_main_v97 (F := Ideal) x0 x1 x2 (ix3 g r l)
      = if h : r.val < 16384 then Spec.out (Q x0) (KV x1) KernelIdeal.Blocks.bias (Sk x2) g ⟨r.val, h⟩ l else 0 := by
  rw [result_at]
  by_cases h : r.val < 16384
  · rw [dif_pos h, dif_pos h, out_at]
    have hrow := row_eq x0 x1 g ⟨r.val, h⟩ (Spec.headOf l)
    change row x0 x1 _ _ ⟨l.val / 64, _⟩ g _ = _ at hrow
    rw [hrow]
    obtain ⟨σ, hσ⟩ := hS ⟨(Spec.headOf l).val * 8 + g.val, by have := (Spec.headOf l).isLt; omega⟩
    have hσ' : sink x2 ⟨l.val / 64, by omega⟩ g = (σ : EReal) := hσ
    rw [← Row.attn_eq (fun c => score_ne_top x0 x1 hQ hK g ⟨r.val, h⟩ (Spec.headOf l) c)
      (by rw [hσ']; exact EReal.coe_ne_top _) (by rw [hσ']; exact EReal.coe_ne_bot _)
      (fun c => val_main_v37 (F := Ideal) x1 (ix5 ⟨r.val / 4096, by omega⟩ ⟨r.val / 64 % 64, by omega⟩ c ⟨l.val / 64, by omega⟩ ⟨l.val % 64, by omega⟩))]
    refine Row.attn_congr _ _ fun c hc => ?_
    have hv : Spec.Valid ⟨r.val, h⟩ c := by
      by_contra hn
      exact hc (by unfold Spec.score; rw [if_neg hn])
    have hv' : 128 ≤ r.val % 4096 / 64 * 64 + c.val := hv
    rw [Band.v37_at, if_neg (by simp only []; omega)]
    refine congrArg x1 (congr (congrArg ix2 (Fin.ext ?_)) (Fin.ext ?_))
    · show (r.val / 4096 * 64 + r.val / 64 % 64) * 64 + c.val - 128 = r.val / 64 * 64 + c.val - 128
      omega
    · show 512 + (l.val / 64 * 64 + l.val % 64) = 512 + l.val
      omega
  · rw [dif_neg h, dif_neg h]

end Cert.Equal

end
-- ==== Proof.Finite.lean ====
module

public import proofs.«01_k».proof.Proof.Spec
public import proofs.«01_k».proof.Proof.Gen.Pre_finite_scores
public import Idealize.ShloMosaic.Lib.Pointwise
public import Idealize.ShloMosaic.Lib.ReduceAll

@[expose] public section

set_option maxRecDepth 16384

noncomputable section

namespace Cert.Finite

open Idealize.ShloMosaic
open Cert.Pre_finite_scores

/-- A number whose magnitude compares below +∞ is real. -/
theorem real_of_abs_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have hlt : max x (-x) < ⊤ := by
    by_contra hn
    simp [Ideal.cmp, hn] at h
  induction x with
  | bot => simp at hlt
  | coe r => exact ⟨r, rfl⟩
  | top => simp at hlt

theorem and_one {a b : BitVec 1} (h : a &&& b = 1#1) : a = 1#1 ∧ b = 1#1 := by
  revert a b; decide

instance : Subsingleton S_.Idx := ⟨fun a b => funext fun i => i.elim0⟩

/-- What the condition says of the arguments. -/
theorem decode {x0 : FVec Ideal S8x16640x512 .bf16} {x1 : FVec Ideal S16640x1024 .f32} {x2 : FVec Ideal S64 .f32}
    (h : Cert.Pre_finite_scores.fn (F := Ideal) x0 x1 x2 = fun _ => 1#1) :
    (∀ g r l, ∃ a : ℝ, x0 (ix3 g r l) = (a : EReal))
    ∧ (∀ (r : Fin 16640) (l : Fin 512), ∃ a : ℝ, x1 (ix2 r (l.castLE (by decide))) = (a : EReal))
    ∧ (∀ i, ∃ a : ℝ, x2 (ix1 i) = (a : EReal)) := by
  have h0 := congrFun h (Shape.Idx.first Gen.h_S_)
  unfold Cert.Pre_finite_scores.fn at h0
  obtain ⟨h12, h3⟩ := and_one h0
  obtain ⟨h1, h2⟩ := and_one h12
  refine ⟨fun g r l => ?_, fun r l => ?_, fun i => ?_⟩
  · have e := Host.reduce_andi_all _ _ _ _ _ h1 (ix3 g r l)
    exact real_of_abs_lt e
  · have e := Host.reduce_andi_all _ _ _ _ _ h2 (ix2 r l)
    refine real_of_abs_lt (Eq.trans ?_ e)
    pointwise
    congr 4
  · have e := Host.reduce_andi_all _ _ _ _ _ h3 (ix1 i)
    exact real_of_abs_lt e

end Cert.Finite

end
-- ==== Proof.KernelValue.lean ====
module

public import proofs.«01_k».proof.Proof.KernelPoint

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Chunk Cert.KernelIdeal.Blocks
open Idealize.ShloMosaic.Pipeline (Dat)

variable (m : (ℓ : Loc nD τ sig) → Buf (Elt Ideal) ℓ)

theorem coords1 : ∀ t : Fin cfg0.N, (grid0.coords t 1).val = t.val % 65 :=
  (by decide +kernel : ∀ t : Fin grid0.N, _)

/-- The chunk number of a row block's first chunk in its sequence, as the body computes it. -/
theorem first_chunk : ∀ i : Fin 65,
    (let w := Scalar.remsi (BitVec.ofNat 32 i.val) 16#32
     Scalar.muli (Scalar.select (Scalar.andi (Scalar.xori (Scalar.cmpi .slt w 0#32) 0#1) (Scalar.cmpi .ne w 0#32))
      (Scalar.addi w 16#32) w) 4#32) = BitVec.ofNat 32 (i.val % 16 * 4) := by
  decide +kernel

theorem ix3_self (x : S8x64x128.Idx) : (ix3 (x 0) (x 1) (x 2) : S8x64x128.Idx) = x := by
  funext a; fin_cases a <;> rfl

theorem pay3_eq (x : FVec Ideal S128x128 .f32) : k0_pay3 (F := Ideal) x = x := by
  funext i; unfold k0_pay3; idx_vars i; pointwise

theorem pay4_eq (x : FVec Ideal S128x128 .f32) : k0_pay4 (F := Ideal) x = x := by
  funext i; unfold k0_pay4; idx_vars i; pointwise

theorem pay5_eq (x : FVec Ideal S256x128 .f32) : k0_pay5 (F := Ideal) x = x := by
  funext i; unfold k0_pay5; idx_vars i; pointwise

theorem pay6_eq (x : FVec Ideal S256x128 .f32) : k0_pay6 (F := Ideal) x = x := by
  funext i; unfold k0_pay6; idx_vars i; pointwise

theorem v35_eq (t : Fin cfg0.N) :
    (let w := Scalar.remsi (BitVec.ofNat 32 (grid0.coords t 1).val) 16#32
     Scalar.muli (Scalar.select (Scalar.andi (Scalar.xori (Scalar.cmpi .slt w 0#32) 0#1) (Scalar.cmpi .ne w 0#32))
      (Scalar.addi w 16#32) w) 4#32) = BitVec.ofNat 32 (t.val % 65 % 16 * 4) := by
  rw [coords1]; exact first_chunk ⟨t.val % 65, by omega⟩

/-- One stored chunk at an index of its block. -/
theorem chunk_x (c : Dev nD) (t : Fin cfg0.N) (ht : t.val % 65 ≤ 63) (j : Fin 4) (v35 : BitVec 32)
    (hv35 : v35 = BitVec.ofNat 32 (t.val % 65 % 16 * 4))
    (q : FVec Ideal S8x64x128 .bf16) (k v : FVec Ideal S192x128 .f32)
    (b : FVec Ideal S1x512x192 .f32) (σ : FVec Ideal S1x512x1 .f32)
    (b' : FVec Ideal S1x512x192 .f32) (σ' : FVec Ideal S1x512x1 .f32)
    (hq : ∀ (g : Fin 8) (r : Fin 64) (x : Fin 128), q (ix3 g r x) = iblk m c 0 t (ix3 g ⟨64 * j.val + r.val, by omega⟩ x))
    (hk : ∀ (a : Fin 192) (x : Fin 128), k (ix2 a x) = band (iblk m c 2 t) (iblk m c 1 t) (ix2 ⟨64 * j.val + a.val, by omega⟩ x))
    (hv : ∀ (a : Fin 192) (x : Fin 128), v (ix2 a x) = band (iblk m c 4 t) (iblk m c 3 t) (ix2 ⟨64 * j.val + a.val, by omega⟩ x))
    (hb : ∀ (r : Fin 512) (x : Fin 192), b (ix3 0 r x) = iblk m c 5 t (ix3 (0 : Fin 2) r x))
    (hσ : ∀ (r : Fin 512), σ (ix3 0 r 0) = iblk m c 6 t (ix3 (0 : Fin 2) r 0))
    (hb' : ∀ (r : Fin 512) (x : Fin 192), b' (ix3 0 r x) = iblk m c 5 t (ix3 (1 : Fin 2) r x))
    (hσ' : ∀ (r : Fin 512), σ' (ix3 0 r 0) = iblk m c 6 t (ix3 (1 : Fin 2) r 0))
    (x : S8x64x128.Idx) (y : S8x256x128.Idx) (h0 : (y 0).val = (x 0).val) (h1 : (y 1).val = 64 * j.val + (x 1).val)
    (h2 : (y 2).val = (x 2).val) :
    chunk (F := Ideal) (pos v35 (BitVec.ofNat 32 j.val)) q k v b σ b' σ' x
      = entryOf m c (y 0)
      ⟨t.val % 65 * 256 + (y 1).val, by have : (y 1).val < 256 := (y 1).isLt; omega⟩
      ⟨t.val / 65 * 128 + (y 2).val, by have : (y 2).val < 128 := (y 2).isLt; have := N_lt t; omega⟩ := by
  have h := piece m c t ht j v35 hv35 q k v b σ b' σ' hq hk hv hb hσ hb' hσ' (x 0) (x 1) (x 2)
  rw [ix3_self] at h
  refine h.trans ?_
  refine congr (congr (congrArg (entryOf m c) (Fin.ext h0.symm)) (Fin.ext ?_)) (Fin.ext ?_)
  · show _ + (64 * j.val + (x 1).val) = _ + (y 1).val; rw [h1]
  · show _ + (x 2).val = _ + (y 2).val; rw [h2]

theorem band_k (c : Dev nD) (t : Fin cfg0.N) {o : ℕ} (inb : ∀ a : Fin 2, (![o, 0] : Fin 2 → ℕ) a + S192x128.size a ≤ S384x128.size a) (a : Fin 192) (x : Fin 128) :
    (View.whole cc0_scratch0).readCov (Val := Elt Ideal)
      [⟨Rect.unit ![128, 0] ![256, 128] inb_S384x128_S256x128_128_0, k0_pay5 (F := Ideal) (iblk m c 1 t)⟩,
        ⟨Rect.unit ![0, 0] ![128, 128] inb_S384x128_S128x128_0_0, k0_pay3 (F := Ideal) (iblk m c 2 t)⟩]
      (Rect.unit (s := S384x128) ![o, 0] S192x128.size inb).toLoadRect (ix2 a x)
      = band (iblk m c 2 t) (iblk m c 1 t) (ix2 ⟨o + a.val, by have h : o + 192 ≤ 384 := inb 0; omega⟩ x) := by
  rw [View.readCov_eq_canon', pay5_eq, pay3_eq, canon_band]
  show band _ _ _ = band _ _ _
  congr 1
  funext i
  refine Fin.ext ?_
  rw [Rect.idx_unit_val]
  fin_cases i
  · rfl
  · exact Nat.zero_add _

theorem band_v (c : Dev nD) (t : Fin cfg0.N) {o : ℕ} (inb : ∀ a : Fin 2, (![o, 0] : Fin 2 → ℕ) a + S192x128.size a ≤ S384x128.size a) (a : Fin 192) (x : Fin 128) :
    (View.whole cc0_scratch1).readCov (Val := Elt Ideal)
      [⟨Rect.unit ![128, 0] ![256, 128] inb_S384x128_S256x128_128_0, k0_pay6 (F := Ideal) (iblk m c 3 t)⟩,
        ⟨Rect.unit ![0, 0] ![128, 128] inb_S384x128_S128x128_0_0, k0_pay4 (F := Ideal) (iblk m c 4 t)⟩]
      (Rect.unit (s := S384x128) ![o, 0] S192x128.size inb).toLoadRect (ix2 a x)
      = band (iblk m c 4 t) (iblk m c 3 t) (ix2 ⟨o + a.val, by have h : o + 192 ≤ 384 := inb 0; omega⟩ x) := by
  rw [View.readCov_eq_canon', pay6_eq, pay4_eq, canon_band]
  show band _ _ _ = band _ _ _
  congr 1
  funext i
  refine Fin.ext ?_
  rw [Rect.idx_unit_val]
  fin_cases i
  · rfl
  · exact Nat.zero_add _

theorem point_A (c : Dev nD) (t : Fin cfg0.N) (hA : t.val % 65 ≤ 63) (hB : ¬t.val % 65 = 64) (y : S8x256x128.Idx) :
    outsAt0 m c t.val t.isLt y = entryOf m c (y 0)
      ⟨t.val % 65 * 256 + (y 1).val, by have : (y 1).val < 256 := (y 1).isLt; omega⟩
      ⟨t.val / 65 * 128 + (y 2).val, by have : (y 2).val < 128 := (y 2).isLt; have := N_lt t; omega⟩ := by
  rw [outsAt0_A m c t hA hB]
  frame_open
  simp (disch := decide) only [↓ View.readCov_skip, ↓ View.readCov_cons_toLoadRect, ↓ View.readCov_fill]
  frame_out
  canon_tiles x h
  · rw [chunk3_eq]
    refine chunk_x m c t hA 3 _ (v35_eq t) _ _ _ _ _ _ _ ?_ (band_k m c t inb_S384x128_S192x128_192_0) (band_v m c t inb_S384x128_S192x128_192_0) ?_ ?_ ?_ ?_ x y h0 ?_ h2
    · intro g r a; pointwise
    · intro r a; pointwise
    · intro r; pointwise
    · intro r a; pointwise
    · intro r; pointwise
    · omega
  · rw [chunk2_eq]
    refine chunk_x m c t hA 2 _ (v35_eq t) _ _ _ _ _ _ _ ?_ (band_k m c t inb_S384x128_S192x128_128_0) (band_v m c t inb_S384x128_S192x128_128_0) ?_ ?_ ?_ ?_ x y h0 ?_ h2
    · intro g r a; pointwise
    · intro r a; pointwise
    · intro r; pointwise
    · intro r a; pointwise
    · intro r; pointwise
    · omega
  · rw [chunk1_eq]
    refine chunk_x m c t hA 1 _ (v35_eq t) _ _ _ _ _ _ _ ?_ (band_k m c t inb_S384x128_S192x128_64_0) (band_v m c t inb_S384x128_S192x128_64_0) ?_ ?_ ?_ ?_ x y h0 ?_ h2
    · intro g r a; pointwise
    · intro r a; pointwise
    · intro r; pointwise
    · intro r a; pointwise
    · intro r; pointwise
    · omega
  · rw [chunk0_eq]
    refine chunk_x m c t hA 0 _ (v35_eq t) _ _ _ _ _ _ _ ?_ (band_k m c t inb_S384x128_S192x128_0_0) (band_v m c t inb_S384x128_S192x128_0_0) ?_ ?_ ?_ ?_ x y h0 ?_ h2
    · intro g r a; pointwise
    · intro r a; pointwise
    · intro r; pointwise
    · intro r a; pointwise
    · intro r; pointwise
    · omega
/-- What a point past the prompt writes. -/
theorem point_B (c : Dev nD) (t : Fin cfg0.N) (hA : ¬t.val % 65 ≤ 63) (hB : t.val % 65 = 64) (y : S8x256x128.Idx) :
    outsAt0 m c t.val t.isLt y = entryOf m c (y 0)
      ⟨t.val % 65 * 256 + (y 1).val, by have : (y 1).val < 256 := (y 1).isLt; omega⟩
      ⟨t.val / 65 * 128 + (y 2).val, by have : (y 2).val < 128 := (y 2).isLt; have := N_lt t; omega⟩ := by
  rw [outsAt0_B m c t hA hB]
  frame_open
  frame_out
  unfold entryOf
  rw [dif_neg (by show ¬(t.val % 65 * 256 + _ < 16384); omega)]
  idx_vars y
  pointwise [k0_pay2]

theorem final (c : Dev nD) :
    (dats m 0 c).arrAt 7 cfg0.N = fun i => entryOf m c (i 0) (i 1) (i 2) := by
  refine (dats m 0 c).arrAt_eq_of_covers 7 _ (by decide +kernel) fun t hf y => ?_
  blk_simp
  rw [after0_7]
  have e : outsAt0 m c t.val t.isLt y = entryOf m c (y 0)
      ⟨t.val % 65 * 256 + (y 1).val, by have : (y 1).val < 256 := (y 1).isLt; omega⟩
      ⟨t.val / 65 * 128 + (y 2).val, by have : (y 2).val < 128 := (y 2).isLt; have := N_lt t; omega⟩ := by
    by_cases hB : t.val % 65 = 64
    · exact point_B m c t (by omega) hB y
    · exact point_A m c t (by omega) hB y
  refine e.trans ?_
  refine congr (congr (congrArg (entryOf m c) (Fin.ext ?_)) (Fin.ext ?_)) (Fin.ext ?_)
  · blk_simp [idx t]
  · blk_simp [idx t]
  · blk_simp [idx t]

end Cert.KernelIdeal.Point

end
-- ==== Proof.Attention.lean ====
module

public import proofs.«01_k».proof.Defs
public import proofs.«01_k».proof.Proof.Equal
public import proofs.«01_k».proof.Proof.Finite
public import proofs.«01_k».proof.Proof.KernelValue
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import Idealize.ShloMosaic.Lib.Quiescent
public import Idealize.ShloMosaic.Adequacy
public import Idealize.ShloMosaic.Init

@[expose] public section

set_option maxRecDepth 16384

noncomputable section

namespace Cert.Attention

open Idealize.ShloMosaic Idealize.ShloMosaic.TcCoe Idealize.ShloMosaic.Tactic Idealize.SL.Sem

/-- The kernel's result and the reference's are one array. -/
theorem result (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : Cert.Pre_finite_scores.fn (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2)) = fun _ => 1#1)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2)) :
    ReferenceIdeal.Value.res_main_v97 m' c = (KernelIdeal.Gen.dats m 0 c).arrAt 7 KernelIdeal.cfg0.N := by
  rw [KernelIdeal.Point.final m c, ReferenceIdeal.Read.val_main_v97_eq m' c, h0, h1, h2]
  obtain ⟨hQ, hK, hS⟩ := Finite.decode h
  funext i
  obtain ⟨g, r, l, rfl⟩ : ∃ g r l, i = ix3 g r l := ⟨i 0, i 1, i 2, by funext a; fin_cases a <;> rfl⟩
  exact Equal.entry_eq _ _ _ hQ hK hS g r l

theorem frame_kernel : Cert.quiescent_Kernel (hKernel := Kernel.Gen.facts) := fun m g _ => Kernel.Gen.frame m g

theorem frame_ideal : Cert.quiescent_KernelIdeal (hKernelIdeal := KernelIdeal.Gen.facts) := fun m g _ => KernelIdeal.Gen.frame m g

theorem frame_reference : Cert.quiescent_ReferenceIdeal (hReferenceIdeal := ReferenceIdeal.Gen.facts) := fun m g _ =>
  (θ_run ReferenceIdeal.defs _ _).mono (fun r h => ⟨fun c => (h c).2, sem_eq_zero_of_no_sems rfl r.2⟩) (ReferenceIdeal.Value.run m g)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_scores (hKernelIdeal := KernelIdeal.Gen.facts)
    (hReferenceIdeal := ReferenceIdeal.Gen.facts) (hPre_finite_scores := Pre_finite_scores.Gen.facts) := by
  intro m g m' g' hpre hagree
  refine ⟨fun c => (KernelIdeal.Gen.dats m 0 c).arrAt 7 KernelIdeal.cfg0.N, ?_, ?_⟩
  · exact (θ_run KernelIdeal.defs _ _).mono (fun r h c => h c) (KernelIdeal.Value.run_blocks m g)
  · refine (θ_run ReferenceIdeal.defs _ _).mono (fun r h c => ?_) (ReferenceIdeal.Value.run m' g')
    obtain ⟨h0, h1, h2⟩ := hagree c
    have hr := result m m' c (hpre c) h0 h1 h2
    exact ⟨(h c).1.trans hr, (h c).2⟩

end Cert.Attention

end
-- ==== Proof.Moe.lean ====
module

public import Idealize.ShloMosaic.Lib.Pointwise
public import Idealize.ShloMosaic.PureOps

/-! The two tables that steer the expert kernels — which expert owns each block of rows, and how many blocks are in use —
and what the kernels compute of them with 32-bit words. -/

@[expose] public section

noncomputable section

namespace Cert.Moe

open Idealize.ShloMosaic

/-- Tables as the routing makes them: every block has one of the 32 experts, and at least one block is in use. -/
structure Tables where
  experts : (⟨1, ![292]⟩ : Shape).Idx → BitVec 32
  used : (⟨1, ![1]⟩ : Shape).Idx → BitVec 32
  expert_lt : ∀ x, (experts x).toNat < 32
  used_pos : 1 ≤ (used (ix1 0)).toNat
  used_lt : (used (ix1 0)).toNat < 2 ^ 31

variable (T : Tables)

/-- How many blocks are in use. -/
def Tables.count : ℕ := (T.used (ix1 0)).toNat

/-- The expert of a block. -/
def Tables.expert (b : Fin 292) : Fin 32 := ⟨(T.experts (ix1 b)).toNat, T.expert_lt _⟩

theorem toInt_small {x : BitVec 32} (h : x.toNat < 2 ^ 31) : x.toInt = x.toNat :=
  BitVec.toInt_eq_toNat_of_lt (by omega)

theorem toNat_ofNat {b : ℕ} (h : b < 292) : (BitVec.ofNat 32 b).toNat = b := by
  rw [BitVec.toNat_ofNat]; omega

theorem toNat_pred : (T.used (ix1 0) - 1#32).toNat = T.count - 1 := by
  have := T.used_pos; unfold Tables.count; bv_omega

/-- The smaller of a block's number and the last block in use. -/
theorem min_pred {b : ℕ} (h : b < 292) :
    (IntOp.minsi (BitVec.ofNat 32 b) (T.used (ix1 0) - 1#32)).toNat = min b (T.count - 1) := by
  have hn := toNat_pred T
  have hl : T.count < 2 ^ 31 := T.used_lt
  have hb := toNat_ofNat h
  unfold IntOp.minsi
  rw [BitVec.slt_eq_decide, toInt_small (by omega), toInt_small (by omega), hn, hb]
  by_cases hlt : b < T.count - 1
  · rw [if_pos (by simpa using hlt), hb]; omega
  · rw [if_neg (by simpa using hlt), hn]; omega

/-- The block before, as the kernels compute it. -/
theorem max_pred {b : ℕ} (h : b < 292) :
    (IntOp.maxsi (IntOp.minsi (BitVec.ofNat 32 b) (T.used (ix1 0) - 1#32) - 1#32) 0#32).toNat = min b (T.count - 1) - 1 := by
  have hm := min_pred T h
  generalize IntOp.minsi (BitVec.ofNat 32 b) (T.used (ix1 0) - 1#32) = w at hm ⊢
  unfold IntOp.maxsi
  by_cases h0 : w.toNat = 0
  · have : w = 0#32 := by bv_omega
    subst this
    rw [if_neg (by decide)]
    simp at hm ⊢; omega
  · have hw : (w - 1#32).toNat = w.toNat - 1 := by bv_omega
    rw [BitVec.slt_eq_decide, toInt_small (x := w - 1#32) (by omega), hw]
    by_cases h1 : (0#32 : BitVec 32).toInt < ((w.toNat - 1 : ℕ) : ℤ)
    · rw [if_pos (by simpa using h1), hw, hm]
    · rw [if_neg (by simpa using h1)]
      simp at h1 ⊢; omega

/-- A block is in use: the comparison the kernels make. -/
theorem live_bit {b : ℕ} (h : b < 292) :
    IntOp.cmpi .sle (BitVec.ofNat 32 b) (T.used (ix1 0) - 1#32) = BitVec.ofBool (decide (b < T.count)) := by
  have hn := toNat_pred T
  have hp : 1 ≤ T.count := T.used_pos
  have hl : T.count < 2 ^ 31 := T.used_lt
  have hb := toNat_ofNat h
  unfold IntOp.cmpi
  simp only [BitVec.sle_eq_decide]
  rw [toInt_small (by omega), toInt_small (by omega), hn, hb]
  congr 1
  simp only [decide_eq_decide]
  omega

theorem eq_zero_bit {b : ℕ} (h : b < 292) :
    IntOp.cmpi .eq (BitVec.ofNat 32 b) 0#32 = BitVec.ofBool (decide (b = 0)) := by
  have hb := toNat_ofNat h
  unfold IntOp.cmpi
  congr 1
  rw [show ((BitVec.ofNat 32 b == 0#32) = decide (BitVec.ofNat 32 b = 0#32)) from rfl, decide_eq_decide]
  constructor
  · intro e; rw [e] at hb; simpa using hb.symm
  · intro e; rw [e]

theorem ne_bit (x y : BitVec 32) : IntOp.cmpi .ne x y = BitVec.ofBool (decide (x ≠ y)) := by
  unfold IntOp.cmpi
  congr 1
  by_cases h : x = y <;> simp [h]

theorem ext_ne (p : Bool) : IntOp.cmpi .ne ((BitVec.ofBool p).setWidth 32) 0#32 = BitVec.ofBool p := by
  revert p; decide

theorem not_bit (p : Bool) : BitVec.ofBool p ^^^ 1#1 = BitVec.ofBool !p := by revert p; decide
theorem and_bit (p q : Bool) : BitVec.ofBool p &&& BitVec.ofBool q = BitVec.ofBool (p && q) := by revert p q; decide
theorem or_bit (p q : Bool) : BitVec.ofBool p ||| BitVec.ofBool q = BitVec.ofBool (p || q) := by revert p q; decide
theorem bit_one (p : Bool) : BitVec.ofBool p = 1#1 ↔ p = true := by revert p; decide

theorem and_one {a b : BitVec 1} (h : a &&& b = 1#1) : a = 1#1 ∧ b = 1#1 := by revert a b; decide

theorem sge_one {x : BitVec 32} {n : ℕ} (hn : n < 2 ^ 31) (h : IntOp.cmpi .sge x (BitVec.ofNat 32 n) = 1#1) : n ≤ x.toNat ∧ x.toNat < 2 ^ 31 := by
  unfold IntOp.cmpi at h
  simp only [BitVec.sle_eq_decide, bit_one, decide_eq_true_eq, BitVec.toInt_eq_toNat_cond, BitVec.toNat_ofNat] at h
  have := x.isLt
  split_ifs at h <;> omega

theorem slt_one {x : BitVec 32} {n : ℕ} (hn : n < 2 ^ 31) (hx : x.toNat < 2 ^ 31) (h : IntOp.cmpi .slt x (BitVec.ofNat 32 n) = 1#1) : x.toNat < n := by
  unfold IntOp.cmpi at h
  simp only [BitVec.slt_eq_decide, bit_one, decide_eq_true_eq, BitVec.toInt_eq_toNat_cond, BitVec.toNat_ofNat] at h
  have := x.isLt
  split_ifs at h <;> omega

/-- Words that pass the routing's three comparisons are tables. -/
theorem tables_of {x0 : (⟨1, ![292]⟩ : Shape).Idx → BitVec 32} {x1 : (⟨1, ![1]⟩ : Shape).Idx → BitVec 32}
    (h1 : ∀ i, IntOp.cmpi .sge (x0 i) 0#32 = 1#1) (h2 : ∀ i, IntOp.cmpi .slt (x0 i) 32#32 = 1#1)
    (h3 : IntOp.cmpi .sge (x1 (ix1 0)) 1#32 = 1#1) : ∃ T : Tables, x0 = T.experts ∧ x1 = T.used := by
  have h4 := sge_one (n := 1) (by omega) h3
  exact ⟨⟨x0, x1, fun i => slt_one (n := 32) (by omega) (sge_one (n := 0) (by omega) (h1 i)).2 (h2 i), h4.1, h4.2⟩, rfl, rfl⟩

/-- A block is in use: the comparison the references make. -/
theorem lt_bit {b : ℕ} (h : b < 292) :
    IntOp.cmpi .slt (BitVec.ofNat 32 b) (T.used (ix1 0)) = BitVec.ofBool (decide (b < T.count)) := by
  have hl : T.count < 2 ^ 31 := T.used_lt
  have hb := toNat_ofNat h
  unfold IntOp.cmpi
  simp only [BitVec.slt_eq_decide]
  rw [toInt_small (by omega), toInt_small (x := T.used (ix1 0)) hl, hb]
  congr 1
  simp only [decide_eq_decide]
  unfold Tables.count
  omega

/-- An expert's number is not negative. -/
theorem neg_bit (x) : IntOp.cmpi .slt (T.experts x) 0#32 = 0#1 := by
  have h := T.expert_lt x
  unfold IntOp.cmpi
  rw [BitVec.slt_eq_decide, toInt_small (by omega), decide_eq_false (by simp)]
  rfl

/-- An expert's number, read signed and clamped to the 32 experts, is itself. -/
theorem clamp_expert (b : Fin 292) : min (T.experts (ix1 b)).toInt.toNat (32 - 1) = (T.expert b).val := by
  have h := T.expert_lt (ix1 b)
  rw [toInt_small (by omega), Int.toNat_natCast]
  unfold Tables.expert
  simp only []
  omega

/-- An entry of the second projection of the experts: a row's block has an expert, whose weights and bias it takes; rows of
blocks not in use are zero. -/
def downEntry (x : (⟨2, ![74752, 2048]⟩ : Shape).Idx → EReal) (w : (⟨3, ![32, 2048, 4096]⟩ : Shape).Idx → EReal)
    (b : (⟨3, ![32, 1, 4096]⟩ : Shape).Idx → EReal) (r : Fin 74752) (j : Fin 4096) : EReal :=
  if r.val / 256 < T.count then
    (∑ k : Fin 2048, x (ix2 r k) * w (ix3 (T.expert ⟨r.val / 256, by omega⟩) k j)) + b (ix3 (T.expert ⟨r.val / 256, by omega⟩) 0 j)
  else 0

end Cert.Moe

end
-- ==== Proof.GuTables.lean ====
module

public import proofs.«01_k».proof.Proof.Moe
public import proofs.«01_k».proof.Proof.Gen.Pre_gate_up_tables
public import Idealize.ShloMosaic.Lib.ReduceAll

/-! What the condition on the gate and up projection's tables says of them. -/

@[expose] public section

set_option maxRecDepth 16384

noncomputable section

namespace Cert.GuTables

open Idealize.ShloMosaic Cert.Moe
open Cert.Pre_gate_up_tables

instance : Subsingleton S_.Idx := ⟨fun a b => funext fun i => i.elim0⟩

variable {F : FTy → Type} [FloatOps F]

/-- Arrays that meet the condition are tables of the routing. -/
theorem decode {x0 : IVec S292 32} {x1 : IVec S1 32} {x2 : IVec S74752x2048 32} {x3 : FVec F S32x4096x4096 .f32}
    {x4 : FVec F S32x1x4096 .f32} (h : Cert.Pre_gate_up_tables.fn (F := F) x0 x1 x2 x3 x4 = fun _ => 1#1) :
    ∃ T : Tables, x0 = T.experts ∧ x1 = T.used := by
  have h0 := congrFun h (Shape.Idx.first Gen.h_S_)
  unfold Cert.Pre_gate_up_tables.fn at h0
  obtain ⟨h12, h3⟩ := and_one h0
  obtain ⟨h1, h2⟩ := and_one h12
  refine tables_of (fun i => ?_) (fun i => ?_) ?_
  · exact Host.reduce_andi_all _ _ _ _ _ h1 i
  · exact Host.reduce_andi_all _ _ _ _ _ h2 i
  · refine Eq.trans ?_ h3
    show IntOp.cmpi .sge (x1 (ix1 0)) 1#32 = IntOp.cmpi .sge (x1 _) 1#32
    refine congrArg (fun i => IntOp.cmpi .sge (x1 i) 1#32) (funext fun a => ?_)
    fin_cases a
    exact Subsingleton.elim (α := Fin 1) _ _

end Cert.GuTables

end
-- ==== Proof.GuMath.lean ====
module

public import proofs.«01_k».proof.Proof.Moe

/-! The first projection of the experts and its activation, entry by entry. -/

@[expose] public section

noncomputable section

namespace Cert.Moe

open Idealize.ShloMosaic

variable (T : Tables)

abbrev Packed := (⟨2, ![74752, 2048]⟩ : Shape).Idx → BitVec 32
abbrev Weights := (⟨3, ![32, 4096, 4096]⟩ : Shape).Idx → EReal
abbrev Biases := (⟨3, ![32, 1, 4096]⟩ : Shape).Idx → EReal

/-- The low half of a packed word, as a number. -/
def lowHalf (w : BitVec 32) : EReal := Ideal.ofBits .f32 (w <<< (16#32))

/-- The high half of a packed word, as a number. -/
def highHalf (w : BitVec 32) : EReal := Ideal.ofBits .f32 (w &&& 4294901760#32)

/-- An entry of the projection before its activation: the low halves of a row's words meet the first half of the weights, the
high halves the second. -/
def proj (x : Packed) (w : Weights) (b : Biases) (e : Fin 32) (r : Fin 74752) (j : Fin 4096) : EReal :=
  ((∑ k : Fin 2048, lowHalf (x (ix2 r k)) * w (ix3 e ⟨k.val, by omega⟩ j))
    + ∑ k : Fin 2048, highHalf (x (ix2 r k)) * w (ix3 e ⟨2048 + k.val, by omega⟩ j)) + b (ix3 e 0 j)

/-- The activation of a gate and an up entry, both clipped at 7. -/
def swiglu (g u : EReal) : EReal :=
  (min (Ideal.ofBits .f32 0x40E00000#32) (max (Ideal.ofBits .f32 0xC0E00000#32) u) + Ideal.ofBits .f32 0x3F800000#32)
    * (min g (Ideal.ofBits .f32 0x40E00000#32) * Ideal.logistic (Ideal.ofBits .f32 0x3FD9DB23#32 * min g (Ideal.ofBits .f32 0x40E00000#32)))

/-- An entry of the first projection of the experts, activated; rows of blocks not in use are zero. -/
def gateUpEntry (x : Packed) (w : Weights) (b : Biases) (r : Fin 74752) (j : Fin 2048) : EReal :=
  if r.val / 256 < T.count then
    swiglu (proj x w b (T.expert ⟨r.val / 256, by omega⟩) r ⟨j.val, by omega⟩)
      (proj x w b (T.expert ⟨r.val / 256, by omega⟩) r ⟨2048 + j.val, by omega⟩)
  else 0

end Cert.Moe

end
-- ==== Proof.Linear.lean ====
module

public import Idealize.ShloMosaic.Lib.Pipeline.ValueKit

/-! A row times a column plus a bias, as every dense projection computes it; and the logistic function. -/

@[expose] public section

set_option maxRecDepth 16384

noncomputable section

namespace Cert.Linear

open Idealize.ShloMosaic

/-- A row times a column of the weights, plus the column's bias. -/
def affine {n : Nat} (x w : Fin n → EReal) (b : EReal) : EReal := (∑ k, x k * w k) + b

theorem one_word : Ideal.ofBits .f32 0x3F800000#32 = 1 := by
  simp [Ideal.ofBits, Ideal.ieee, -EReal.coe_mul]; norm_num

/-- One over one plus the exponential of the negative is the logistic function. -/
theorem logistic_at (x : EReal) :
    Ideal.div (Ideal.ofBits .f32 0x3F800000#32) (Ideal.ofBits .f32 0x3F800000#32 + Ideal.exp (-x)) = Ideal.logistic x := by
  rw [one_word]; rfl

end Cert.Linear

end
-- ==== Proof.GuRef.lean ====
module

public import proofs.«01_k».proof.Proof.GuMath
public import proofs.«01_k».proof.Proof.Linear
public import proofs.«01_k».proof.Proof.Gen.Reference2Ideal.Read

/-! The reference's first projection of the experts, entry by entry. -/

@[expose] public section

set_option maxRecDepth 16384

noncomputable section

namespace Cert.Reference2Ideal.Entry

open Idealize.ShloMosaic Cert.Moe
open Cert.Reference2Ideal Cert.Reference2Ideal.Gen Cert.Reference2Ideal.Read

variable (T : Tables) (x2 : IVec S74752x2048 32) (x3 : FVec Ideal S32x4096x4096 .f32) (x4 : FVec Ideal S32x1x4096 .f32)

theorem index_at (b : Fin 292) (z : Fin 1) : val_main_v13 (F := Ideal) T.experts (ix2 b z) = T.experts (ix1 b) := by
  rw [val_main_v13_apply, val_main_v12_apply, val_main_v9_apply, val_main_v8_apply, val_main_c_1_apply]
  rw [neg_bit]
  refine congrArg T.experts ?_
  funext a; fin_cases a; rfl

theorem index_at' (b : Fin 292) (z : Fin 1) : val_main_v21 (F := Ideal) T.experts (ix2 b z) = T.experts (ix1 b) := by
  rw [val_main_v21_apply, val_main_v20_apply, val_main_v17_apply, val_main_v16_apply, val_main_c_3_apply]
  rw [neg_bit]
  refine congrArg T.experts ?_
  funext a; fin_cases a; rfl

/-- A block's weights are its expert's. -/
theorem weights_at (b : Fin 292) (k : Fin 4096) (j : Fin 4096) :
    val_main_v14 (F := Ideal) T.experts x3 (ix3 b k j) = x3 (ix3 (T.expert b) k j) := by
  unfold val_main_v14
  refine congrArg x3 ?_
  funext a
  refine Fin.ext ?_
  fin_cases a
  · refine Eq.trans ?_ (clamp_expert T b)
    refine Eq.trans ?_ (congrArg (fun w : BitVec 32 => min w.toInt.toNat (32 - 1)) (index_at T b 0))
    refine congrArg (fun q : S292x1.Idx => min (BitVec.toInt (val_main_v13 (F := Ideal) T.experts q)).toNat (32 - 1)) ?_
    funext a; fin_cases a <;> rfl
  · exact Nat.zero_add _
  · exact Nat.zero_add _

theorem bias_at (b : Fin 292) (z : Fin 1) (j : Fin 4096) :
    val_main_v22 (F := Ideal) T.experts x4 (ix3 b z j) = x4 (ix3 (T.expert b) z j) := by
  unfold val_main_v22
  refine congrArg x4 ?_
  funext a
  refine Fin.ext ?_
  fin_cases a
  · refine Eq.trans ?_ (clamp_expert T b)
    refine Eq.trans ?_ (congrArg (fun w : BitVec 32 => min w.toInt.toNat (32 - 1)) (index_at' T b 0))
    refine congrArg (fun q : S292x1.Idx => min (BitVec.toInt (val_main_v21 (F := Ideal) T.experts q)).toNat (32 - 1)) ?_
    funext a; fin_cases a <;> rfl
  · exact Nat.zero_add _
  · exact Nat.zero_add _

theorem live_at (b : Fin 292) : val_main_v45 (F := Ideal) T.used (ix1 b) = BitVec.ofBool (decide (b.val < T.count)) := by
  rw [val_main_v45_apply, val_main_v42_apply, val_main_v44_apply]
  refine Eq.trans ?_ (lt_bit T b.isLt)
  refine congrArg (fun i => IntOp.cmpi .slt (BitVec.ofNat 32 b.val) (T.used i)) (funext fun a => ?_)
  fin_cases a
  exact Subsingleton.elim (α := Fin 1) _ _

/-- The unpacked rows: the low halves of the words, then the high ones. -/
theorem low_at (r : Fin 74752) (k : Fin 2048) : val_main_v6 (F := Ideal) x2 (ix2 r (⟨k.val, by omega⟩ : Fin 4096)) = lowHalf (x2 (ix2 r k)) := by
  unfold val_main_v6
  refine (concatenate_pair_apply_left (t := S74752x4096) (s₁ := S74752x2048) (s₂ := S74752x2048) (1 : Fin 2) _ _ _
    (ix2 r (⟨k.val, by omega⟩ : Fin 4096)) rfl (ix2 r k) (fun b => ?_)).trans ?_
  · fin_cases b <;> rfl
  rw [val_main_v2_apply, val_main_v1_apply, val_main_v0_apply, val_main_c_apply]
  show Ideal.ofBits .f32 (IntOp.shli .host _ 16#32) = _
  unfold IntOp.shli lowHalf
  rw [if_pos (by decide)]

theorem high_at (r : Fin 74752) (k : Fin 2048) : val_main_v6 (F := Ideal) x2 (ix2 r (⟨2048 + k.val, by omega⟩ : Fin 4096)) = highHalf (x2 (ix2 r k)) := by
  unfold val_main_v6
  refine (concatenate_pair_apply_right (t := S74752x4096) (s₁ := S74752x2048) (s₂ := S74752x2048) (1 : Fin 2) _ _ _
    (ix2 r (⟨2048 + k.val, by omega⟩ : Fin 4096)) rfl rfl (ix2 r k) (fun b hb => ?_) (Nat.add_comm k.val 2048)).trans ?_
  · fin_cases b
    · rfl
    · exact absurd rfl hb
  rw [val_main_v5_apply, val_main_v4_apply, val_main_v3_apply, val_main_c_0_apply]
  rfl

/-- A sum over the rows' 4096 entries, half by half. -/
theorem sum_halves (f : Fin 4096 → EReal) :
    ∑ k, f k = (∑ k : Fin 2048, f ⟨k.val, by omega⟩) + ∑ k : Fin 2048, f ⟨2048 + k.val, by omega⟩ :=
  Fin.sum_univ_add (a := 2048) (b := 2048) f

theorem row_at (b : Fin 292) (a : Fin 256) (k : Fin 4096) :
    val_main_v7 (F := Ideal) x2 (ix3 b a k) = val_main_v6 (F := Ideal) x2 (ix2 (⟨b.val * 256 + a.val, by omega⟩ : Fin 74752) k) := by
  rw [val_main_v7_apply]
  refine congrArg _ ?_
  funext q; refine Fin.ext ?_
  fin_cases q
  · show ((b.val * 256 + a.val) * 4096 + k.val) / 4096 = b.val * 256 + a.val; omega
  · show ((b.val * 256 + a.val) * 4096 + k.val) % 4096 = k.val; omega

/-- The projection before its activation. -/
theorem proj_at (b : Fin 292) (a : Fin 256) (j : Fin 4096) :
    val_main_v24 (F := Ideal) T.experts x2 x3 x4 (ix3 b a j) = proj x2 x3 x4 (T.expert b) ⟨b.val * 256 + a.val, by omega⟩ j := by
  rw [val_main_v24_apply, val_main_v15_apply, val_main_v23_apply]
  have h2 : idx_main_v23 (ix3 b a j) = ix3 b (0 : Fin 1) j := by funext a; fin_cases a <;> rfl
  have h3 : ∀ k, lidx_main_v15 (ix3 b a j) k = ix3 b a k := fun k => by funext a; fin_cases a <;> rfl
  have h4 : ∀ k, ridx_main_v15 (ix3 b a j) k = ix3 b k j := fun k => by funext a; fin_cases a <;> rfl
  rw [h2, bias_at, sum_halves]
  unfold proj
  simp only [h3, h4, weights_at, row_at, low_at, high_at]
  rfl

/-- The activation. -/
theorem swiglu_at (b : Fin 292) (a : Fin 256) (j : Fin 2048) :
    val_main_v41 (F := Ideal) T.experts x2 x3 x4 (ix3 b a j)
      = swiglu (val_main_v24 (F := Ideal) T.experts x2 x3 x4 (ix3 b a (⟨j.val, by omega⟩ : Fin 4096)))
        (val_main_v24 (F := Ideal) T.experts x2 x3 x4 (ix3 b a (⟨2048 + j.val, by omega⟩ : Fin 4096))) := by
  have hg : idx_main_v25 (ix3 b a j) = ix3 b a (⟨j.val, by omega⟩ : Fin 4096) := by funext a; fin_cases a <;> rfl
  have hu : idx_main_v26 (ix3 b a j) = ix3 b a (⟨2048 + j.val, by omega⟩ : Fin 4096) := by funext a; fin_cases a <;> rfl
  rw [val_main_v41_apply, val_main_v40_apply, val_main_v39_apply, val_main_v37_apply, val_main_v35_apply, val_main_v34_apply,
    val_main_v33_apply, val_main_v31_apply, val_main_v29_apply, val_main_v28_apply, val_main_call0_v2_apply,
    val_main_call0_v4_apply, val_main_call0_v3_apply, val_main_call0_v1_apply, val_main_call0_v0_apply, val_main_cst_5_apply,
    val_main_cst_6_apply, val_main_v25_apply, val_main_v26_apply, val_main_v27_apply, val_main_cst_apply, val_main_v30_apply,
    val_main_cst_7_apply, val_main_v32_apply, val_main_cst_8_apply, val_main_v36_apply, val_main_cst_9_apply, val_main_v38_apply,
    val_main_cst_10_apply, hg, hu]
  generalize val_main_v24 (F := Ideal) T.experts x2 x3 x4 (ix3 b a (⟨j.val, by omega⟩ : Fin 4096)) = g
  generalize val_main_v24 (F := Ideal) T.experts x2 x3 x4 (ix3 b a (⟨2048 + j.val, by omega⟩ : Fin 4096)) = u
  exact congrArg (fun l : EReal => (min (Ideal.ofBits .f32 0x40E00000#32) (max (Ideal.ofBits .f32 0xC0E00000#32) u) + Ideal.ofBits .f32 0x3F800000#32)
    * (min g (Ideal.ofBits .f32 0x40E00000#32) * l)) (Linear.logistic_at _)

/-- The reference's result at an index. -/
theorem result_at (r : Fin 74752) (j : Fin 2048) :
    val_main_v49 (F := Ideal) T.experts T.used x2 x3 x4 (ix2 r j) = gateUpEntry T x2 x3 x4 r j := by
  have hi : idx_main_v48 (ix2 r j) = ix3 (⟨r.val / 256, by omega⟩ : Fin 292) (⟨r.val % 256, by omega⟩ : Fin 256) j := by
    funext a; refine Fin.ext ?_
    fin_cases a
    · show (r.val * 2048 + j.val) / 524288 = r.val / 256; omega
    · show (r.val * 2048 + j.val) / 2048 % 256 = r.val % 256; omega
    · show (r.val * 2048 + j.val) % 2048 = j.val; omega
  rw [val_main_v49_apply]
  show val_main_v48 (F := Ideal) T.experts T.used x2 x3 x4 (ix2 r j) = _
  rw [val_main_v48_apply, hi, val_main_v47_apply, val_main_call1_v1_apply, val_main_v46_apply]
  have h1 : idx_main_v46 (idx_main_call1_v1 (ix3 (⟨r.val / 256, by omega⟩ : Fin 292) (⟨r.val % 256, by omega⟩ : Fin 256) j))
      = ix1 (⟨r.val / 256, by omega⟩ : Fin 292) := by funext a; fin_cases a; rfl
  rw [h1, live_at]
  have hrow : (⟨r.val / 256 * 256 + r.val % 256, by omega⟩ : Fin 74752) = r := Fin.ext (by show r.val / 256 * 256 + r.val % 256 = r.val; omega)
  unfold gateUpEntry
  by_cases hl : r.val / 256 < T.count
  · rw [if_pos hl, decide_eq_true (by exact hl)]
    show val_main_v41 (F := Ideal) T.experts x2 x3 x4 _ = _
    rw [swiglu_at, proj_at, proj_at]
    rw [show (⟨(⟨r.val / 256, by omega⟩ : Fin 292).val * 256 + (⟨r.val % 256, by omega⟩ : Fin 256).val, by omega⟩ : Fin 74752) = r from hrow]
  · rw [if_neg hl, decide_eq_false (by exact hl)]
    show val_main_call1_v2 (F := Ideal) (ix3 (⟨r.val / 256, by omega⟩ : Fin 292) (⟨r.val % 256, by omega⟩ : Fin 256) j) = 0
    rw [val_main_call1_v2_apply, val_main_call1_v0_apply, val_main_cst_11_apply]
    show Ideal.ofBits .f32 0x00000000#32 = 0
    simp [Ideal.ofBits, Ideal.ieee]

end Cert.Reference2Ideal.Entry

end
-- ==== Proof.GuBody.lean ====
module

public import proofs.«01_k».proof.Proof.Moe
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Exec
public import Idealize.ShloMosaic.Lib.Tactic
public import Idealize.ShloMosaic.PureOps.Ideal
public import Idealize.ShloMosaic.Adequacy
public import Idealize.ShloMosaic.Init

/-! One grid point of the gate and up projection, for any tables: a block whose expert differs from the block before
loads that expert's weights into the scratch, a block in use multiplies by the scratch, adds the bias and takes the activation, a block not
in use writes zeros. -/

@[expose] public section

set_option maxRecDepth 16384
set_option Elab.async false

noncomputable section

namespace Cert.Kernel2Ideal.GateUp

open Cert.Kernel2Ideal Cert.Kernel2Ideal.Gen Cert.Moe
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev expertsM : Memref sig .tc .smem S292 .i32 := Memref.whole main_arg0
abbrev usedM : Memref sig .tc .smem S1 .i32 := Memref.whole main_arg1
abbrev gateM : Memref sig .tc .vmem S4096x512 .bf16 := Memref.whole cc0_scratch0
abbrev upM : Memref sig .tc .vmem S4096x512 .bf16 := Memref.whole cc0_scratch1

/-- The lower and the upper half of the rows of the weights in a scratch buffer. -/
abbrev lowR : (Shape.Idx S2048x512) → (Shape.Idx S4096x512) := fun x => ix2 ⟨(x 0).val, lt_of_lt_of_le (x 0).isLt (show 2048 ≤ 4096 by decide)⟩ (x 1)
abbrev highR : (Shape.Idx S2048x512) → (Shape.Idx S4096x512) := fun x => ix2 ⟨2048 + (x 0).val, by have : (x 0).val < 2048 := (x 0).isLt; show _ < 4096; omega⟩ (x 1)

/-- The word the body reads of the second table. -/
abbrev usedW (T1 : S1.Idx → Elt Ideal .i32) : BitVec 32 :=
  View.readAt (Elt Ideal) usedM.view (Rect.unit (s := S1) ![0] S1.size inb_S1_S1_0).toLoadRect T1 (Shape.Idx.first (numel1_S1.symm ▸ Nat.one_pos))

/-- A word the body reads of the first table. -/
abbrev expertW (T0 : S292.Idx → Elt Ideal .i32) (o : Fin 1 → ℕ) (h : ∀ a, o a + S1.size a ≤ S292.size a) : BitVec 32 :=
  View.readAt (Elt Ideal) expertsM.view (Rect.unit (s := S292) o S1.size h).toLoadRect T0 (Shape.Idx.first (numel1_S1.symm ▸ Nat.one_pos))

/-- Whether the body loads the weights, as it computes it. -/
abbrev loadsW (i : grid0.Coords) (T0 : S292.Idx → Elt Ideal .i32) (T1 : S1.Idx → Elt Ideal .i32) (hw : k0_chk1 i (usedW T1)) : BitVec 1 :=
  Scalar.cmpi .ne (Scalar.extui (Scalar.andi (Scalar.cmpi .sle (BitVec.ofNat 32 (i 1).val) (Scalar.subi (usedW T1) 1#32))
    (Scalar.ori (Scalar.cmpi .eq (BitVec.ofNat 32 (i 1).val) 0#32)
      (Scalar.cmpi .ne (expertW T0 (k0_off2 i (usedW T1)) (k0_off2_inb i (usedW T1) hw))
        (expertW T0 (k0_off3 i (usedW T1)) (k0_off3_inb i (usedW T1) hw)))))) 0#32

section Runs

variable (c : Dev nD) (i : grid0.Coords) (arg4 : Memref sig .tc .vmem S256x2048 .i32) (harg4 : arg4.IsWhole)
  (arg5 : Memref sig .tc .vmem S1x4096x512 .f32) (harg5 : arg5.IsWhole) (arg6 : Memref sig .tc .vmem S1x4096x512 .f32) (harg6 : arg6.IsWhole)
  (arg7 : Memref sig .tc .vmem S1x1x512 .f32) (harg7 : arg7.IsWhole) (arg8 : Memref sig .tc .vmem S1x1x512 .f32) (harg8 : arg8.IsWhole)
  (arg9 : Memref sig .tc .vmem S256x512 .bf16) (harg9 : arg9.IsWhole)
  (T0 : S292.Idx → Elt Ideal .i32) (T1 : S1.Idx → Elt Ideal .i32)
  (x0 : S256x2048.Idx → Elt Ideal .i32)
  (x1 : S1x4096x512.Idx → Elt Ideal .f32)
  (x2 : S1x4096x512.Idx → Elt Ideal .f32)
  (x3 : S1x1x512.Idx → Elt Ideal .f32)
  (x4 : S1x1x512.Idx → Elt Ideal .f32)

set_option backward.proofsInPublic true in
set_option maxHeartbeats 16000000 in
/-- A point that loads its weights. What it stores in the output's buffer and leaves in the two scratch buffers, with the run. -/
noncomputable def runLoad (hw : k0_chk1 i (usedW T1)) (h1 : loadsW i T0 T1 hw = 1#1) (h2 : k0_cond2 i (usedW T1) = 1#1) (h3 : ¬k0_cond3 i (usedW T1) = 1#1) :
    Σ' (out : List (View.Piece (Elt Ideal) S256x512 .bf16)), { scr : Buf (Elt Ideal) ((c : Thread nD τ).loc cc0_scratch0) × Buf (Elt Ideal) ((c : Thread nD τ).loc cc0_scratch1) //
      ∀ (a : Buf (Elt Ideal) ((c : Thread nD τ).loc cc0_scratch0)) (b : Buf (Elt Ideal) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (expertsM.view.loc (c : Thread nD τ) ↦{fullShare.right} T0)
          ∗ (usedM.view.loc (c : Thread nD τ) ↦{fullShare.right} T1)
          ∗ (∃ d, owns (c : Thread nD τ) arg9 fullShare d)
          ∗ (gateM.view.loc (c : Thread nD τ) ↦{fullShare} a)
          ∗ (upM.view.loc (c : Thread nD τ) ↦{fullShare} b)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (expertsM.view.loc (c : Thread nD τ) ↦{fullShare.right} T0)
              ∗ (usedM.view.loc (c : Thread nD τ) ↦{fullShare.right} T1)
              ∗ (∃ f, arg9.view.loc (c : Thread nD τ) ↦[arg9.view.set]{fullShare} arg9.view.writes (Elt Ideal) f out)
              ∗ (gateM.view.loc (c : Thread nD τ) ↦{fullShare} scr.1)
              ∗ (upM.view.loc (c : Thread nD τ) ↦{fullShare} scr.2)) -∗ K ⟨⟩))
          ⊢ wp frame (wpE (defs₀ (F := Ideal)) Variants.none c none) Set.univ (cc0_moe_gate_up i expertsM (Memref.isWhole_whole _) usedM (Memref.isWhole_whole _) arg4 harg4 arg5 harg5 arg6 harg6 arg7 harg7 arg8 harg8 arg9 harg9 gateM (Memref.isWhole_whole _) upM (Memref.isWhole_whole _)) K } :=
  ⟨_, (_, _), fun a b K => by
    unfold owns
    rw [cc0_moe_gate_up_eq_skeleton]; unfold cc0_moe_gate_up_skel
    rw [k0_part1_eq_skeleton]; unfold k0_part1_skel
    iintro ⟨H0, H1, H2, H3, H4, HT0, HT1, ⟨%d5, %f5, -, HO⟩, HS, HU, Hk⟩
    have hS : gateM.IsWhole := Memref.isWhole_whole _
    have hU : upM.IsWhole := Memref.isWhole_whole _
    have hT0 : expertsM.IsWhole := Memref.isWhole_whole _
    have hT1 : usedM.IsWhole := Memref.isWhole_whole _
    sl_exec! (disch := first | (guard_target = k0_chk1 _ _; exact hw) | (guard_target = (k0_cond2 _ _ = _); exact h2) | (guard_target = ¬(k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS]; · iexact HS
    iexact HU⟩

set_option backward.proofsInPublic true in
set_option maxHeartbeats 16000000 in
/-- A point that keeps the weights of the point before. What it stores in the output's buffer and leaves in the two scratch buffers, with the run. -/
noncomputable def runKeep (a : Buf (Elt Ideal) ((c : Thread nD τ).loc cc0_scratch0)) (b : Buf (Elt Ideal) ((c : Thread nD τ).loc cc0_scratch1)) (hw : k0_chk1 i (usedW T1)) (h1 : ¬loadsW i T0 T1 hw = 1#1) (h2 : k0_cond2 i (usedW T1) = 1#1) (h3 : ¬k0_cond3 i (usedW T1) = 1#1) :
    Σ' (out : List (View.Piece (Elt Ideal) S256x512 .bf16)), { scr : Buf (Elt Ideal) ((c : Thread nD τ).loc cc0_scratch0) × Buf (Elt Ideal) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (expertsM.view.loc (c : Thread nD τ) ↦{fullShare.right} T0)
          ∗ (usedM.view.loc (c : Thread nD τ) ↦{fullShare.right} T1)
          ∗ (∃ d, owns (c : Thread nD τ) arg9 fullShare d)
          ∗ (gateM.view.loc (c : Thread nD τ) ↦{fullShare} a)
          ∗ (upM.view.loc (c : Thread nD τ) ↦{fullShare} b)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (expertsM.view.loc (c : Thread nD τ) ↦{fullShare.right} T0)
              ∗ (usedM.view.loc (c : Thread nD τ) ↦{fullShare.right} T1)
              ∗ (∃ f, arg9.view.loc (c : Thread nD τ) ↦[arg9.view.set]{fullShare} arg9.view.writes (Elt Ideal) f out)
              ∗ (gateM.view.loc (c : Thread nD τ) ↦{fullShare} scr.1)
              ∗ (upM.view.loc (c : Thread nD τ) ↦{fullShare} scr.2)) -∗ K ⟨⟩))
          ⊢ wp frame (wpE (defs₀ (F := Ideal)) Variants.none c none) Set.univ (cc0_moe_gate_up i expertsM (Memref.isWhole_whole _) usedM (Memref.isWhole_whole _) arg4 harg4 arg5 harg5 arg6 harg6 arg7 harg7 arg8 harg8 arg9 harg9 gateM (Memref.isWhole_whole _) upM (Memref.isWhole_whole _)) K } :=
  ⟨_, (_, _), fun K => by
    unfold owns
    rw [cc0_moe_gate_up_eq_skeleton]; unfold cc0_moe_gate_up_skel
    rw [k0_part1_eq_skeleton]; unfold k0_part1_skel
    iintro ⟨H0, H1, H2, H3, H4, HT0, HT1, ⟨%d5, %f5, -, HO⟩, HS, HU, Hk⟩
    have hS : gateM.IsWhole := Memref.isWhole_whole _
    have hU : upM.IsWhole := Memref.isWhole_whole _
    have hT0 : expertsM.IsWhole := Memref.isWhole_whole _
    have hT1 : usedM.IsWhole := Memref.isWhole_whole _
    sl_exec! (disch := first | (guard_target = k0_chk1 _ _; exact hw) | (guard_target = (k0_cond2 _ _ = _); exact h2) | (guard_target = ¬(k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS]; · iexact HS
    iexact HU⟩

set_option backward.proofsInPublic true in
set_option maxHeartbeats 16000000 in
/-- A point whose block is not in use. What it stores in the output's buffer and leaves in the two scratch buffers, with the run. -/
noncomputable def runIdle (a : Buf (Elt Ideal) ((c : Thread nD τ).loc cc0_scratch0)) (b : Buf (Elt Ideal) ((c : Thread nD τ).loc cc0_scratch1)) (hw : k0_chk1 i (usedW T1)) (h1 : ¬loadsW i T0 T1 hw = 1#1) (h2 : ¬k0_cond2 i (usedW T1) = 1#1) (h3 : k0_cond3 i (usedW T1) = 1#1) :
    Σ' (out : List (View.Piece (Elt Ideal) S256x512 .bf16)), { scr : Buf (Elt Ideal) ((c : Thread nD τ).loc cc0_scratch0) × Buf (Elt Ideal) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (expertsM.view.loc (c : Thread nD τ) ↦{fullShare.right} T0)
          ∗ (usedM.view.loc (c : Thread nD τ) ↦{fullShare.right} T1)
          ∗ (∃ d, owns (c : Thread nD τ) arg9 fullShare d)
          ∗ (gateM.view.loc (c : Thread nD τ) ↦{fullShare} a)
          ∗ (upM.view.loc (c : Thread nD τ) ↦{fullShare} b)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (expertsM.view.loc (c : Thread nD τ) ↦{fullShare.right} T0)
              ∗ (usedM.view.loc (c : Thread nD τ) ↦{fullShare.right} T1)
              ∗ (∃ f, arg9.view.loc (c : Thread nD τ) ↦[arg9.view.set]{fullShare} arg9.view.writes (Elt Ideal) f out)
              ∗ (gateM.view.loc (c : Thread nD τ) ↦{fullShare} scr.1)
              ∗ (upM.view.loc (c : Thread nD τ) ↦{fullShare} scr.2)) -∗ K ⟨⟩))
          ⊢ wp frame (wpE (defs₀ (F := Ideal)) Variants.none c none) Set.univ (cc0_moe_gate_up i expertsM (Memref.isWhole_whole _) usedM (Memref.isWhole_whole _) arg4 harg4 arg5 harg5 arg6 harg6 arg7 harg7 arg8 harg8 arg9 harg9 gateM (Memref.isWhole_whole _) upM (Memref.isWhole_whole _)) K } :=
  ⟨_, (_, _), fun K => by
    unfold owns
    rw [cc0_moe_gate_up_eq_skeleton]; unfold cc0_moe_gate_up_skel
    rw [k0_part1_eq_skeleton]; unfold k0_part1_skel
    iintro ⟨H0, H1, H2, H3, H4, HT0, HT1, ⟨%d5, %f5, -, HO⟩, HS, HU, Hk⟩
    have hS : gateM.IsWhole := Memref.isWhole_whole _
    have hU : upM.IsWhole := Memref.isWhole_whole _
    have hT0 : expertsM.IsWhole := Memref.isWhole_whole _
    have hT1 : usedM.IsWhole := Memref.isWhole_whole _
    sl_exec! (disch := first | (guard_target = k0_chk1 _ _; exact hw) | (guard_target = ¬(k0_cond2 _ _ = _); exact h2) | (guard_target = (k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS]; · iexact HS
    iexact HU⟩

/-! The halves of a scratch buffer, as the body loads them. -/

theorem low_at (x : S2048x512.Idx) (h) : (Rect.unit (s := S4096x512) ![0, 0] S2048x512.size h).toLoadRect.idx x = lowR x := by
  funext a; fin_cases a
  · exact Fin.ext (by show 0 + 1 * (x 0).val = (x 0).val; omega)
  · exact Fin.ext (by show 0 + 1 * (x 1).val = (x 1).val; omega)

theorem high_at (x : S2048x512.Idx) (h) : (Rect.unit (s := S4096x512) ![2048, 0] S2048x512.size h).toLoadRect.idx x = highR x := by
  funext a; fin_cases a
  · exact Fin.ext (by show 2048 + 1 * (x 0).val = 2048 + (x 0).val; omega)
  · exact Fin.ext (by show 0 + 1 * (x 1).val = (x 1).val; omega)

section Halves

variable (v : View sig .tc .vmem S4096x512 .bf16)

theorem low_read (f : v.ty.Contents (Elt Ideal)) (h) :
    v.readAt (Elt Ideal) (Rect.unit (s := S4096x512) ![0, 0] S2048x512.size h).toLoadRect f = fun x => v.read (Elt Ideal) f (lowR x) := by
  funext x; exact congrArg (v.read (Elt Ideal) f) (low_at x h)

theorem high_read (f : v.ty.Contents (Elt Ideal)) (h) :
    v.readAt (Elt Ideal) (Rect.unit (s := S4096x512) ![2048, 0] S2048x512.size h).toLoadRect f = fun x => v.read (Elt Ideal) f (highR x) := by
  funext x; exact congrArg (v.read (Elt Ideal) f) (high_at x h)

theorem low_cov (w : S4096x512.Idx → Elt Ideal .bf16) (g h) :
    v.readCov (Val := Elt Ideal) [⟨Rect.unit (s := S4096x512) ![0, 0] S4096x512.size g, w⟩] (Rect.unit (s := S4096x512) ![0, 0] S2048x512.size h).toLoadRect
      = fun x => w (lowR x) := by
  refine (low_read v (v.writes (Elt Ideal) v.junk _) h).trans ?_
  rw [View.read_writes_full (s := S4096x512)]

theorem high_cov (w : S4096x512.Idx → Elt Ideal .bf16) (g h) :
    v.readCov (Val := Elt Ideal) [⟨Rect.unit (s := S4096x512) ![0, 0] S4096x512.size g, w⟩] (Rect.unit (s := S4096x512) ![2048, 0] S2048x512.size h).toLoadRect
      = fun x => w (highR x) := by
  refine (high_read v (v.writes (Elt Ideal) v.junk _) h).trans ?_
  rw [View.read_writes_full (s := S4096x512)]

end Halves

/-- What a point in use writes, from its rows, its two column blocks of weights and its biases. -/
def act (x0 : S256x2048.Idx → Elt Ideal .i32) (g u : S4096x512.Idx → Elt Ideal .bf16) (x3 x4 : S1x1x512.Idx → Elt Ideal .f32) :
    S256x512.Idx → Elt Ideal .bf16 :=
  k0_pay3 (k0_pay7 x0 (fun x => g (lowR x)) (fun x => g (highR x)) x3) (k0_pay8 x0 (fun x => u (lowR x)) (fun x => u (highR x)) x4) (k0_pay9 (F := Ideal))

set_option maxHeartbeats 1000000 in
theorem runLoad_out (hw h1 h2 h3) (f) :
    arg9.view.read (Elt Ideal) (arg9.view.writes (Elt Ideal) f (runLoad c i arg4 harg4 arg5 harg5 arg6 harg6 arg7 harg7 arg8 harg8 arg9 harg9 T0 T1 x0 x1 x2 x3 x4 hw h1 h2 h3).1)
      = act x0 (k0_pay1 x1) (k0_pay2 x2) x3 x4 := by
  unfold runLoad
  dsimp only
  unfold runLoad.sl.HO_1
  refine (View.read_writes_full (s := S256x512) arg9.view _ _ _ _).trans ?_
  rw [View.readAt_rep_full (s := S256x2048), View.readAt_rep_full (s := S1x1x512), View.readAt_rep_full (s := S1x1x512)]
  unfold runLoad.sl.v30 runLoad.sl.v32 runLoad.sl.v39 runLoad.sl.v41 runLoad.sl.HS_1 runLoad.sl.HU_1
  rw [low_cov, high_cov, low_cov, high_cov, View.readAt_rep_full (s := S1x4096x512), View.readAt_rep_full (s := S1x4096x512)]
  rfl

set_option maxHeartbeats 1000000 in
theorem runLoad_gate (hw h1 h2 h3) : (runLoad c i arg4 harg4 arg5 harg5 arg6 harg6 arg7 harg7 arg8 harg8 arg9 harg9 T0 T1 x0 x1 x2 x3 x4 hw h1 h2 h3).2.1.1 = k0_pay1 x1 := by
  unfold runLoad
  dsimp only
  unfold runLoad.sl.HS_1
  refine (View.read_whole (Val := Elt Ideal) cc0_scratch0 _).symm.trans ?_
  rw [View.read_writes_full (s := S4096x512) (View.whole cc0_scratch0)]
  rw [View.readAt_rep_full (s := S1x4096x512)]

set_option maxHeartbeats 1000000 in
theorem runLoad_up (hw h1 h2 h3) : (runLoad c i arg4 harg4 arg5 harg5 arg6 harg6 arg7 harg7 arg8 harg8 arg9 harg9 T0 T1 x0 x1 x2 x3 x4 hw h1 h2 h3).2.1.2 = k0_pay2 x2 := by
  unfold runLoad
  dsimp only
  unfold runLoad.sl.HU_1
  refine (View.read_whole (Val := Elt Ideal) cc0_scratch1 _).symm.trans ?_
  rw [View.read_writes_full (s := S4096x512) (View.whole cc0_scratch1)]
  rw [View.readAt_rep_full (s := S1x4096x512)]

set_option maxHeartbeats 1000000 in
theorem runKeep_scr (a b hw h1 h2 h3) : (runKeep c i arg4 harg4 arg5 harg5 arg6 harg6 arg7 harg7 arg8 harg8 arg9 harg9 T0 T1 x0 x1 x2 x3 x4 a b hw h1 h2 h3).2.1 = (a, b) := by
  unfold runKeep
  dsimp only

set_option maxHeartbeats 1000000 in
theorem runKeep_out (a b hw h1 h2 h3) (f) :
    arg9.view.read (Elt Ideal) (arg9.view.writes (Elt Ideal) f (runKeep c i arg4 harg4 arg5 harg5 arg6 harg6 arg7 harg7 arg8 harg8 arg9 harg9 T0 T1 x0 x1 x2 x3 x4 a b hw h1 h2 h3).1)
      = act x0 a b x3 x4 := by
  unfold runKeep
  dsimp only
  unfold runKeep.sl.HO_1
  refine (View.read_writes_full (s := S256x512) arg9.view _ _ _ _).trans ?_
  rw [View.readAt_rep_full (s := S256x2048), View.readAt_rep_full (s := S1x1x512), View.readAt_rep_full (s := S1x1x512)]
  rw [low_read gateM.view, high_read gateM.view, low_read upM.view, high_read upM.view, View.read_whole, View.read_whole]
  rfl

set_option maxHeartbeats 1000000 in
theorem runIdle_out (a b hw h1 h2 h3) (f) :
    arg9.view.read (Elt Ideal) (arg9.view.writes (Elt Ideal) f (runIdle c i arg4 harg4 arg5 harg5 arg6 harg6 arg7 harg7 arg8 harg8 arg9 harg9 T0 T1 x0 x1 x2 x3 x4 a b hw h1 h2 h3).1)
      = k0_pay4 (F := Ideal) := by
  unfold runIdle
  dsimp only
  unfold runIdle.sl.HO_1
  exact View.read_writes_full (s := S256x512) arg9.view _ _ _ _

end Runs

end Cert.Kernel2Ideal.GateUp
-- ==== Proof.GuGrid.lean ====
module

public import proofs.«01_k».proof.Proof.GuBody
public import Idealize.ShloMosaic.Lib.Affine
public import Idealize.ShloMosaic.Lib.Pipeline.ReadBack

/-! The gate and up projection's grid at given tables: which blocks a point stages, and which of the three paths its body takes. -/

@[expose] public section

set_option maxRecDepth 16384
set_option Elab.async false

noncomputable section

namespace Cert.Kernel2Ideal.GateUp

open Cert.Kernel2Ideal Cert.Kernel2Ideal.Gen Cert.Moe
open Idealize.ShloMosaic
open Idealize.ShloMosaic.TcCoe Idealize.ShloMosaic.Tactic
open Idealize.SL.Sem
open Idealize.ShloMosaic.Pipeline (Dat Cfg)

variable (T : Tables)

/-- The two tables as the call prefetches them. -/
def pf : pre0.Contents (Elt Ideal) := fun | ⟨0, _⟩ => T.experts | ⟨1, _⟩ => T.used | ⟨_ + 2, h⟩ => absurd h (by simp)

theorem usedW_eq : usedW T.used = T.used (ix1 0) := by
  refine congrArg T.used ?_
  funext a; fin_cases a; rfl

theorem expertW_eq (o : Fin 1 → ℕ) (h) (k : Fin 292) (hk : o 0 = k.val) : expertW T.experts o h = T.experts (ix1 k) := by
  refine congrArg T.experts ?_
  funext a; fin_cases a; exact Fin.ext hk

theorem at1 : (pf T).at 1 (Rect.unit (s := S1) ![0] S1.size inb_S1_S1_0) numel1_S1 = T.used (ix1 0) := by
  refine congrArg T.used ?_
  funext a; fin_cases a; rfl

theorem at0 (o : Fin 1 → ℕ) (h) (k : Fin 292) (hk : o 0 = k.val) :
    (pf T).at 0 (Rect.unit (s := S292) o S1.size h) numel1_S1 = T.experts (ix1 k) := by
  refine congrArg T.experts ?_
  funext a; fin_cases a; exact Fin.ext hk

theorem atD1 : (pf T).atD 1 ![0] = T.used (ix1 0) := by
  refine (dif_pos (fun a => by fin_cases a; decide)).trans ?_
  refine congrArg T.used ?_
  funext a; fin_cases a; rfl

theorem c0_lt (i : grid0.Coords) : (i 0).val < 4 := (i 0).isLt
theorem c1_lt (i : grid0.Coords) : (i 1).val < 292 := (i 1).isLt

theorem toNat0 (i : grid0.Coords) : (BitVec.ofNat 32 (i 0).val).toNat = (i 0).val := by
  rw [BitVec.toNat_ofNat]; have := c0_lt i; omega

/-- The block of rows a point stages: its own, or the last one in use. -/
theorem tr0 (i : grid0.Coords) : cc0_transform_0 inb_S1_S1_0 numel1_S1 (pf T) i = ![min (i 1).val (T.count - 1), 0] := by
  unfold cc0_transform_0
  dsimp only
  rw [at1]
  exact congrArg (fun n => ![n, 0]) (min_pred T (c1_lt i))

theorem tr1 (i : grid0.Coords) : cc0_transform_1 k0_off1_inb numel1_S1 (pf T) i = ![(T.expert ⟨(i 1).val, c1_lt i⟩).val, 0, (i 0).val] := by
  show ![((pf T).at 0 (Rect.unit (s := S292) (k0_off1 i) S1.size (k0_off1_inb i)) numel1_S1).toNat, 0, (BitVec.ofNat 32 (i 0).val).toNat] = _
  rw [at0 T (k0_off1 i) (k0_off1_inb i) ⟨(i 1).val, c1_lt i⟩ (toNat_ofNat (c1_lt i)), toNat0]
  rfl

theorem add4 (i : grid0.Coords) : (Scalar.addi (BitVec.ofNat 32 (i 0).val) 4#32).toNat = (i 0).val + 4 := by
  have := c0_lt i
  show (BitVec.ofNat 32 (i 0).val + 4#32).toNat = _
  rw [BitVec.toNat_add, toNat0]
  show ((i 0).val + 4) % 4294967296 = _
  omega

theorem tr2 (i : grid0.Coords) : cc0_transform_2 k0_off1_inb numel1_S1 (pf T) i = ![(T.expert ⟨(i 1).val, c1_lt i⟩).val, 0, (i 0).val + 4] := by
  show ![((pf T).at 0 (Rect.unit (s := S292) (k0_off1 i) S1.size (k0_off1_inb i)) numel1_S1).toNat, 0, (Scalar.addi (BitVec.ofNat 32 (i 0).val) 4#32).toNat] = _
  rw [at0 T (k0_off1 i) (k0_off1_inb i) ⟨(i 1).val, c1_lt i⟩ (toNat_ofNat (c1_lt i)), add4]
  rfl

theorem tr3 (i : grid0.Coords) : cc0_transform_3 k0_off1_inb numel1_S1 (pf T) i = ![(T.expert ⟨(i 1).val, c1_lt i⟩).val, 0, (i 0).val] := tr1 T i

theorem tr4 (i : grid0.Coords) : cc0_transform_4 k0_off1_inb numel1_S1 (pf T) i = ![(T.expert ⟨(i 1).val, c1_lt i⟩).val, 0, (i 0).val + 4] := tr2 T i

theorem tr5 (i : grid0.Coords) : cc0_transform_5 i = ![(i 1).val, (i 0).val] := by
  unfold cc0_transform_5
  dsimp only
  rw [toNat0, toNat_ofNat (c1_lt i)]

/-- Every block the tables name lies inside its array. -/
theorem ok : ok0 (F := Ideal) (pf T) := by
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  · rw [tr0]; have := c1_lt i
    fin_cases a
    · show (min (i 1).val (T.count - 1) + 1) * 256 ≤ 74752; omega
    · show (0 + 1) * 2048 ≤ 2048; omega
  · rw [tr1]; have := (T.expert ⟨(i 1).val, c1_lt i⟩).isLt; have := c0_lt i
    fin_cases a
    · show ((T.expert ⟨(i 1).val, c1_lt i⟩).val + 1) * 1 ≤ 32; omega
    · show (0 + 1) * _ ≤ _; decide
    · show ((i 0).val + 1) * 512 ≤ 4096; omega
  · rw [tr2]; have := (T.expert ⟨(i 1).val, c1_lt i⟩).isLt; have := c0_lt i
    fin_cases a
    · show ((T.expert ⟨(i 1).val, c1_lt i⟩).val + 1) * 1 ≤ 32; omega
    · show (0 + 1) * _ ≤ _; decide
    · show ((i 0).val + 4 + 1) * 512 ≤ 4096; omega
  · rw [tr3]; have := (T.expert ⟨(i 1).val, c1_lt i⟩).isLt; have := c0_lt i
    fin_cases a
    · show ((T.expert ⟨(i 1).val, c1_lt i⟩).val + 1) * 1 ≤ 32; omega
    · show (0 + 1) * _ ≤ _; decide
    · show ((i 0).val + 1) * 512 ≤ 4096; omega
  · rw [tr4]; have := (T.expert ⟨(i 1).val, c1_lt i⟩).isLt; have := c0_lt i
    fin_cases a
    · show ((T.expert ⟨(i 1).val, c1_lt i⟩).val + 1) * 1 ≤ 32; omega
    · show (0 + 1) * _ ≤ _; decide
    · show ((i 0).val + 4 + 1) * 512 ≤ 4096; omega

def adm : (pcfg0 (F := Ideal)).Adm := ⟨pf T, ok T⟩
abbrev cfgA : Pipeline.Cfg sig Λ₀ := cfg0 (F := Ideal) (adm T)
abbrev pcs : Fin 1 → Pipeline.Cfg sig Λ₀ := Pipeline.pin (pcfgs (F := Ideal)) fun _ => adm T

/-- A point's coordinates. -/
abbrev crd (t : Fin (cfgA T).N) : grid0.Coords := grid0.coords t

theorem crd_all : ∀ t : Fin grid0.N, (grid0.coords t 0).val = t.val / 292 ∧ (grid0.coords t 1).val = t.val % 292 := by decide +kernel

theorem N_lt (t : Fin (cfgA T).N) : t.val < 1168 := t.isLt

/-- The block of rows and the block of columns a point computes. -/
def rowB (t : Fin (cfgA T).N) : Fin 292 := ⟨t.val % 292, by omega⟩
def colB (t : Fin (cfgA T).N) : Fin 4 := ⟨t.val / 292, by have := N_lt T t; omega⟩

theorem crd1 (t : Fin (cfgA T).N) : (⟨(crd T t 1).val, c1_lt _⟩ : Fin 292) = rowB T t := Fin.ext (crd_all t).2
theorem crd1v (t : Fin (cfgA T).N) : (crd T t 1).val = (rowB T t).val := (crd_all t).2
theorem crd0v (t : Fin (cfgA T).N) : (crd T t 0).val = (colB T t).val := (crd_all t).1

/-- A point whose block is in use. -/
def live (t : Fin (cfgA T).N) : Prop := (rowB T t).val < T.count

instance (t : Fin (cfgA T).N) : Decidable (live T t) := inferInstanceAs (Decidable (_ < _))

/-! The words the body computes at a point. -/

theorem chk (i : grid0.Coords) : k0_chk1 i (usedW T.used) := by
  rw [usedW_eq]
  have := c1_lt i
  refine ⟨fun a => ?_, fun a => ?_⟩ <;> fin_cases a
  · show (IntOp.minsi (BitVec.ofNat 32 (i 1).val) (T.used (ix1 0) - 1#32)).toNat + 1 ≤ 292
    rw [min_pred T (c1_lt i)]; omega
  · show (IntOp.maxsi (IntOp.minsi (BitVec.ofNat 32 (i 1).val) (T.used (ix1 0) - 1#32) - 1#32) 0#32).toNat + 1 ≤ 292
    rw [max_pred T (c1_lt i)]; omega

theorem cond2_eq (i : grid0.Coords) : k0_cond2 i (usedW T.used) = BitVec.ofBool (decide ((i 1).val < T.count)) := by
  rw [usedW_eq]
  show IntOp.cmpi .ne ((IntOp.cmpi .sle (BitVec.ofNat 32 (i 1).val) (T.used (ix1 0) - 1#32)).setWidth 32) 0#32 = _
  rw [live_bit T (c1_lt i), ext_ne]

theorem cond3_eq (i : grid0.Coords) : k0_cond3 i (usedW T.used) = BitVec.ofBool (!decide ((i 1).val < T.count)) := by
  rw [usedW_eq]
  show IntOp.cmpi .ne ((IntOp.cmpi .sle (BitVec.ofNat 32 (i 1).val) (T.used (ix1 0) - 1#32) ^^^ 1#1).setWidth 32) 0#32 = _
  rw [live_bit T (c1_lt i), not_bit, ext_ne]

/-- The body loads the weights at a block in use that is the first or whose expert is not the one before. -/
theorem loads_eq (i : grid0.Coords) (hw) : loadsW i T.experts T.used hw = BitVec.ofBool (decide ((i 1).val < T.count)
    && (decide ((i 1).val = 0) || decide (T.experts (ix1 ⟨min (i 1).val (T.count - 1), by have := c1_lt i; omega⟩)
        ≠ T.experts (ix1 ⟨min (i 1).val (T.count - 1) - 1, by have := c1_lt i; omega⟩)))) := by
  unfold loadsW
  rw [expertW_eq T (k0_off2 i (usedW T.used)) _ ⟨min (i 1).val (T.count - 1), by have := c1_lt i; omega⟩
      (by rw [usedW_eq]; exact min_pred T (c1_lt i)),
    expertW_eq T (k0_off3 i (usedW T.used)) _ ⟨min (i 1).val (T.count - 1) - 1, by have := c1_lt i; omega⟩
      (by rw [usedW_eq]; exact max_pred T (c1_lt i)), usedW_eq]
  show IntOp.cmpi .ne ((IntOp.cmpi .sle (BitVec.ofNat 32 (i 1).val) (T.used (ix1 0) - 1#32)
    &&& (IntOp.cmpi .eq (BitVec.ofNat 32 (i 1).val) 0#32 ||| IntOp.cmpi .ne _ _)).setWidth 32) 0#32 = _
  rw [live_bit T (c1_lt i), eq_zero_bit (c1_lt i), ne_bit (T.experts _), or_bit, and_bit, ext_ne]

/-- Every point writes its block of the output. -/
theorem not_idle (t : Fin (cfgA T).N) : (cfgA T).idle (5 : Fin 6) ((cfgA T).grid.coords t) = false := by
  have h2 := cond2_eq T (crd T t)
  have h3 := cond3_eq T (crd T t)
  rw [usedW_eq, ← atD1] at h2 h3
  show (!(k0_cond2 (crd T t) ((pf T).atD 1 ![0]) == 1#1) && !(k0_cond3 (crd T t) ((pf T).atD 1 ![0]) == 1#1)) = false
  rw [h2, h3]
  by_cases h : (crd T t 1).val < T.count <;> simp [h]

end Cert.Kernel2Ideal.GateUp
-- ==== Proof.GuBlocks.lean ====
module

public import proofs.«01_k».proof.Proof.GuGrid

/-! What each window of the gate and up projection stages, read off the arrays at launch. -/

@[expose] public section

set_option maxRecDepth 16384
set_option Elab.async false

noncomputable section

namespace Cert.Kernel2Ideal.GateUp

open Cert.Kernel2Ideal Cert.Kernel2Ideal.Gen Cert.Moe
open Idealize.ShloMosaic
open Idealize.ShloMosaic.TcCoe Idealize.ShloMosaic.Tactic
open Idealize.SL.Sem
open Idealize.ShloMosaic.Pipeline (Dat Cfg)

variable (T : Tables) (m : (ℓ : Loc nD τ sig) → Buf (Elt Ideal) ℓ) (ρ : Dev nD → PrngReg)

/-- Window `w`'s block at point `t`. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

theorem index0 (t : Fin (cfgA T).N) : ((cfgA T).win (0 : Fin 6)).index t = ![min (rowB T t).val (T.count - 1), 0] := by
  rw [← crd1v]; exact tr0 T (crd T t)
theorem index1 (t : Fin (cfgA T).N) : ((cfgA T).win (1 : Fin 6)).index t = ![(T.expert (rowB T t)).val, 0, (colB T t).val] := by
  rw [← crd1, ← crd0v]; exact tr1 T (crd T t)
theorem index2 (t : Fin (cfgA T).N) : ((cfgA T).win (2 : Fin 6)).index t = ![(T.expert (rowB T t)).val, 0, (colB T t).val + 4] := by
  rw [← crd1, ← crd0v]; exact tr2 T (crd T t)
theorem index3 (t : Fin (cfgA T).N) : ((cfgA T).win (3 : Fin 6)).index t = ![(T.expert (rowB T t)).val, 0, (colB T t).val] := by
  rw [← crd1, ← crd0v]; exact tr3 T (crd T t)
theorem index4 (t : Fin (cfgA T).N) : ((cfgA T).win (4 : Fin 6)).index t = ![(T.expert (rowB T t)).val, 0, (colB T t).val + 4] := by
  rw [← crd1, ← crd0v]; exact tr4 T (crd T t)
theorem index5 (t : Fin (cfgA T).N) : ((cfgA T).win (5 : Fin 6)).index t = ![(rowB T t).val, (colB T t).val] := by
  rw [← crd1v, ← crd0v]; exact tr5 (crd T t)

/-- The packed rows a point in use stages. -/
theorem blk0 (c : Dev nD) (t : Fin (cfgA T).N) (ht : live T t) (a : Fin 256) (k : Fin 2048) :
    iblk T m ρ c (0 : Fin 6) t (ix2 a k) = m ((c.tc : Thread nD τ).loc main_arg2) (ix2 ⟨(rowB T t).val * 256 + a.val, by omega⟩ k) := by
  have hm : min (rowB T t).val (T.count - 1) = (rowB T t).val := by unfold live at ht; omega
  have hi := index0 T t
  rw [hm] at hi
  blk_simp [iblk]
  blk_ext [iblk, hi]

/-- The expert's gate weights a point stages. -/
theorem blk1 (c : Dev nD) (t : Fin (cfgA T).N) (z : Fin 1) (a : Fin 4096) (k : Fin 512) :
    iblk T m ρ c (1 : Fin 6) t (ix3 z a k) = m ((c.tc : Thread nD τ).loc main_arg3)
      (ix3 (T.expert (rowB T t)) a ⟨(colB T t).val * 512 + k.val, by omega⟩) := by
  blk_simp [iblk]
  blk_ext [iblk, index1 T t]

/-- The expert's up weights a point stages. -/
theorem blk2 (c : Dev nD) (t : Fin (cfgA T).N) (z : Fin 1) (a : Fin 4096) (k : Fin 512) :
    iblk T m ρ c (2 : Fin 6) t (ix3 z a k) = m ((c.tc : Thread nD τ).loc main_arg3)
      (ix3 (T.expert (rowB T t)) a ⟨((colB T t).val + 4) * 512 + k.val, by omega⟩) := by
  blk_simp [iblk]
  blk_ext [iblk, index2 T t]

/-- The expert's gate bias a point stages. -/
theorem blk3 (c : Dev nD) (t : Fin (cfgA T).N) (z : Fin 1) (a : Fin 1) (k : Fin 512) :
    iblk T m ρ c (3 : Fin 6) t (ix3 z a k) = m ((c.tc : Thread nD τ).loc main_arg4)
      (ix3 (T.expert (rowB T t)) a ⟨(colB T t).val * 512 + k.val, by omega⟩) := by
  blk_simp [iblk]
  blk_ext [iblk, index3 T t]

/-- The expert's up bias a point stages. -/
theorem blk4 (c : Dev nD) (t : Fin (cfgA T).N) (z : Fin 1) (a : Fin 1) (k : Fin 512) :
    iblk T m ρ c (4 : Fin 6) t (ix3 z a k) = m ((c.tc : Thread nD τ).loc main_arg4)
      (ix3 (T.expert (rowB T t)) a ⟨((colB T t).val + 4) * 512 + k.val, by omega⟩) := by
  blk_simp [iblk]
  blk_ext [iblk, index4 T t]

end Cert.Kernel2Ideal.GateUp
-- ==== Proof.GuFrame.lean ====
module

public import proofs.«01_k».proof.Proof.GuBlocks
public import Idealize.ShloMosaic.Lib.Pipeline.Quiescent
public import Idealize.ShloMosaic.Lib.Claim

/-! The gate and up projection's call, run to its end at given tables. The scratch buffers hold, before a point, the weights of the
point before if that point's block was in use; so a block whose expert is that of the block before finds its own
expert's weights there. -/

@[expose] public section

set_option maxRecDepth 16384
set_option Elab.async false

noncomputable section

namespace Cert.Kernel2Ideal.GateUp

open Cert.Kernel2Ideal Cert.Kernel2Ideal.Gen Cert.Moe
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (T : Tables) (m : (ℓ : Loc nD τ sig) → Buf (Elt Ideal) ℓ) (ρ : Dev nD → PrngReg)

/-- Each window's staging buffer at a point. -/
abbrev st0 (t : Fin (cfgA T).N) : Memref sig .tc .vmem S256x2048 .i32 := spec0_0.stage ((cfgA T).slots t (0 : Fin 6))
abbrev hst0 (t : Fin (cfgA T).N) : (st0 T t).IsWhole := hstage0_0 (((cfgA T).slots t (0 : Fin 6)).cast nbuf0_0)
abbrev st1 (t : Fin (cfgA T).N) : Memref sig .tc .vmem S1x4096x512 .f32 := spec0_1.stage ((cfgA T).slots t (1 : Fin 6))
abbrev hst1 (t : Fin (cfgA T).N) : (st1 T t).IsWhole := hstage0_1 (((cfgA T).slots t (1 : Fin 6)).cast nbuf0_1)
abbrev st2 (t : Fin (cfgA T).N) : Memref sig .tc .vmem S1x4096x512 .f32 := spec0_2.stage ((cfgA T).slots t (2 : Fin 6))
abbrev hst2 (t : Fin (cfgA T).N) : (st2 T t).IsWhole := hstage0_2 (((cfgA T).slots t (2 : Fin 6)).cast nbuf0_2)
abbrev st3 (t : Fin (cfgA T).N) : Memref sig .tc .vmem S1x1x512 .f32 := spec0_3.stage ((cfgA T).slots t (3 : Fin 6))
abbrev hst3 (t : Fin (cfgA T).N) : (st3 T t).IsWhole := hstage0_3 (((cfgA T).slots t (3 : Fin 6)).cast nbuf0_3)
abbrev st4 (t : Fin (cfgA T).N) : Memref sig .tc .vmem S1x1x512 .f32 := spec0_4.stage ((cfgA T).slots t (4 : Fin 6))
abbrev hst4 (t : Fin (cfgA T).N) : (st4 T t).IsWhole := hstage0_4 (((cfgA T).slots t (4 : Fin 6)).cast nbuf0_4)
abbrev st5 (t : Fin (cfgA T).N) : Memref sig .tc .vmem S256x512 .bf16 := spec0_5.stage ((cfgA T).slots t (5 : Fin 6))
abbrev hst5 (t : Fin (cfgA T).N) : (st5 T t).IsWhole := hstage0_5 (((cfgA T).slots t (5 : Fin 6)).cast nbuf0_5)

/-- The two blocks of weights a point multiplies by. -/
def gateW (c : Dev nD) (t : Fin (cfgA T).N) : S4096x512.Idx → Elt Ideal .bf16 := k0_pay1 (iblk T m ρ c (1 : Fin 6) t)
def upW (c : Dev nD) (t : Fin (cfgA T).N) : S4096x512.Idx → Elt Ideal .bf16 := k0_pay2 (iblk T m ρ c (2 : Fin 6) t)

/-- What a point writes. -/
def outBlk (c : Dev nD) (t : Fin (cfgA T).N) : S256x512.Idx → Elt Ideal .bf16 :=
  if live T t then act (iblk T m ρ c (0 : Fin 6) t) (gateW T m ρ c t) (upW T m ρ c t) (iblk T m ρ c (3 : Fin 6) t) (iblk T m ρ c (4 : Fin 6) t)
  else k0_pay4 (F := Ideal)

/-- Points of one column block with one expert have the same weights. -/
theorem wts_eq (c : Dev nD) (s t : Fin (cfgA T).N) (hc : colB T s = colB T t) (he : T.expert (rowB T s) = T.expert (rowB T t)) :
    gateW T m ρ c s = gateW T m ρ c t ∧ upW T m ρ c s = upW T m ρ c t := by
  unfold gateW upW
  refine ⟨congrArg (k0_pay1 (F := Ideal)) ?_, congrArg (k0_pay2 (F := Ideal)) ?_⟩ <;> funext x
  · obtain ⟨z, a, k, rfl⟩ : ∃ (z : Fin 1) (a : Fin 4096) (k : Fin 512), x = ix3 z a k := ⟨x 0, x 1, x 2, by funext q; fin_cases q <;> rfl⟩
    refine (blk1 T m ρ c s z a k).trans (Eq.trans ?_ (blk1 T m ρ c t z a k).symm)
    rw [he]; simp only [hc]
  · obtain ⟨z, a, k, rfl⟩ : ∃ (z : Fin 1) (a : Fin 4096) (k : Fin 512), x = ix3 z a k := ⟨x 0, x 1, x 2, by funext q; fin_cases q <;> rfl⟩
    refine (blk2 T m ρ c s z a k).trans (Eq.trans ?_ (blk2 T m ρ c t z a k).symm)
    rw [he]; simp only [hc]

/-- What the scratch buffers are known to hold before position `n`. -/
def Held (c : Dev nD) (n : ℕ) (a b : S4096x512.Idx → Elt Ideal .bf16) : Prop :=
  ∀ s : Fin (cfgA T).N, s.val + 1 = n → live T s → a = gateW T m ρ c s ∧ b = upW T m ρ c s

def Phi (c : Dev nD) (t : Fin ((cfgA T).N + 1)) : sProp 𝕄 :=
  iprop((∃ a b, ⌜Held T m ρ c t.val a b⌝ ∗ (gateM.view.loc (c : Thread nD τ) ↦{fullShare} a) ∗ (upM.view.loc (c : Thread nD τ) ↦{fullShare} b))
    ∗ (expertsM.view.loc (c : Thread nD τ) ↦{fullShare.right} T.experts) ∗ (usedM.view.loc (c : Thread nD τ) ↦{fullShare.right} T.used))

/-- The call's data. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 6) t
    | ⟨1, _⟩ => iblk T m ρ c (1 : Fin 6) t
    | ⟨2, _⟩ => iblk T m ρ c (2 : Fin 6) t
    | ⟨3, _⟩ => iblk T m ρ c (3 : Fin 6) t
    | ⟨4, _⟩ => iblk T m ρ c (4 : Fin 6) t
    | ⟨5, _⟩ => outBlk T m ρ c t
  Φ t := Phi T m ρ c t
  q w := Pipeline.shareOf spec0 w
  owed _ := 0

theorem after0 (c : Dev nD) (t : Fin (cfgA T).N) : (dats T m ρ 0 c).after (0 : Fin 6) t = iblk T m ρ c (0 : Fin 6) t := rfl
theorem after1 (c : Dev nD) (t : Fin (cfgA T).N) : (dats T m ρ 0 c).after (1 : Fin 6) t = iblk T m ρ c (1 : Fin 6) t := rfl
theorem after2 (c : Dev nD) (t : Fin (cfgA T).N) : (dats T m ρ 0 c).after (2 : Fin 6) t = iblk T m ρ c (2 : Fin 6) t := rfl
theorem after3 (c : Dev nD) (t : Fin (cfgA T).N) : (dats T m ρ 0 c).after (3 : Fin 6) t = iblk T m ρ c (3 : Fin 6) t := rfl
theorem after4 (c : Dev nD) (t : Fin (cfgA T).N) : (dats T m ρ 0 c).after (4 : Fin 6) t = iblk T m ρ c (4 : Fin 6) t := rfl
theorem after5 (c : Dev nD) (t : Fin (cfgA T).N) : (dats T m ρ 0 c).after (5 : Fin 6) t = outBlk T m ρ c t := rfl

/-- A staged input holds its block. -/
theorem before0 (c : Dev nD) (t : Fin (cfgA T).N) (d) : (dats T m ρ 0 c).before (0 : Fin 6) t d = iblk T m ρ c (0 : Fin 6) t :=
  ((dats T m ρ 0 c).before_in_eq_fetched (0 : Fin 6) rfl (fun _ => rfl) (fun _ _ _ => rfl)
    (fun t => by rw [after0]; unfold Dat.blockOf iblk; rfl) t d).trans (by unfold Dat.fetched Dat.blockOf iblk; rfl)
theorem before1 (c : Dev nD) (t : Fin (cfgA T).N) (d) : (dats T m ρ 0 c).before (1 : Fin 6) t d = iblk T m ρ c (1 : Fin 6) t :=
  ((dats T m ρ 0 c).before_in_eq_fetched (1 : Fin 6) rfl (fun _ => rfl) (fun _ _ _ => rfl)
    (fun t => by rw [after1]; unfold Dat.blockOf iblk; rfl) t d).trans (by unfold Dat.fetched Dat.blockOf iblk; rfl)
theorem before2 (c : Dev nD) (t : Fin (cfgA T).N) (d) : (dats T m ρ 0 c).before (2 : Fin 6) t d = iblk T m ρ c (2 : Fin 6) t :=
  ((dats T m ρ 0 c).before_in_eq_fetched (2 : Fin 6) rfl (fun _ => rfl) (fun _ _ _ => rfl)
    (fun t => by rw [after2]; unfold Dat.blockOf iblk; rfl) t d).trans (by unfold Dat.fetched Dat.blockOf iblk; rfl)
theorem before3 (c : Dev nD) (t : Fin (cfgA T).N) (d) : (dats T m ρ 0 c).before (3 : Fin 6) t d = iblk T m ρ c (3 : Fin 6) t :=
  ((dats T m ρ 0 c).before_in_eq_fetched (3 : Fin 6) rfl (fun _ => rfl) (fun _ _ _ => rfl)
    (fun t => by rw [after3]; unfold Dat.blockOf iblk; rfl) t d).trans (by unfold Dat.fetched Dat.blockOf iblk; rfl)
theorem before4 (c : Dev nD) (t : Fin (cfgA T).N) (d) : (dats T m ρ 0 c).before (4 : Fin 6) t d = iblk T m ρ c (4 : Fin 6) t :=
  ((dats T m ρ 0 c).before_in_eq_fetched (4 : Fin 6) rfl (fun _ => rfl) (fun _ _ _ => rfl)
    (fun t => by rw [after4]; unfold Dat.blockOf iblk; rfl) t d).trans (by unfold Dat.fetched Dat.blockOf iblk; rfl)

theorem held_here (c : Dev nD) (t : Fin (cfgA T).N) : Held T m ρ c (t.val + 1) (gateW T m ρ c t) (upW T m ρ c t) := by
  intro s hs _
  have : s = t := Fin.ext (by omega)
  rw [this]
  exact ⟨rfl, rfl⟩

theorem held_idle (c : Dev nD) (t : Fin (cfgA T).N) (ht : ¬live T t) (a b) : Held T m ρ c (t.val + 1) a b := by
  intro s hs hl
  have : s = t := Fin.ext (by omega)
  exact absurd (this ▸ hl) ht

/-- At a point in use that loads nothing, the scratch buffers already hold the point's weights. -/
theorem held_keep (c : Dev nD) (t : Fin (cfgA T).N) (ht : live T t) (h1 : ¬loadsW (crd T t) T.experts T.used (chk T (crd T t)) = 1#1)
    (a b) (ha : Held T m ρ c t.val a b) : a = gateW T m ρ c t ∧ b = upW T m ρ c t := by
  rw [loads_eq, bit_one] at h1
  have hr := crd1v T t
  have hl : (crd T t 1).val < T.count := by rw [hr]; exact ht
  simp only [hl, decide_true, Bool.true_and, Bool.or_eq_true, decide_eq_true_eq, not_or, not_not] at h1
  obtain ⟨h0, he⟩ := h1
  have hN := N_lt T t
  have hv : (rowB T t).val = t.val % 292 := rfl
  have hs : t.val - 1 < (cfgA T).N := lt_of_le_of_lt (Nat.sub_le _ _) t.isLt
  have hne : t.val % 292 ≠ 0 := by rw [← hv, ← hr]; exact h0
  have hls : live T ⟨t.val - 1, hs⟩ := by
    show (t.val - 1) % 292 < T.count
    have : t.val % 292 < T.count := ht
    omega
  obtain ⟨ea, eb⟩ := ha ⟨t.val - 1, hs⟩ (by show t.val - 1 + 1 = t.val; omega) hls
  rw [ea, eb]
  refine wts_eq T m ρ c _ _ (Fin.ext ?_) (Fin.ext ?_)
  · show (t.val - 1) / 292 = t.val / 292; omega
  · show (T.experts (ix1 _)).toNat = (T.experts (ix1 _)).toNat
    have e1 : (⟨min (crd T t 1).val (T.count - 1), by have := c1_lt (crd T t); omega⟩ : Fin 292) = rowB T t :=
      Fin.ext (by show min (crd T t 1).val (T.count - 1) = (rowB T t).val; omega)
    have e2 : (⟨min (crd T t 1).val (T.count - 1) - 1, by have := c1_lt (crd T t); omega⟩ : Fin 292) = rowB T ⟨t.val - 1, hs⟩ :=
      Fin.ext (by show min (crd T t 1).val (T.count - 1) - 1 = (t.val - 1) % 292; omega)
    rw [e1, e2] at he
    rw [he]

/-- The body at a point, as the call runs it. -/
abbrev bodyAt (t : Fin (cfgA T).N) : Prog (TpuEff nD τ sig (Elt Ideal) Λ₀ .tc) PUnit :=
  cc0_moe_gate_up (crd T t) expertsM (Memref.isWhole_whole _) usedM (Memref.isWhole_whole _) (st0 T t) (hst0 T t) (st1 T t) (hst1 T t)
    (st2 T t) (hst2 T t) (st3 T t) (hst3 T t) (st4 T t) (hst4 T t) (st5 T t) (hst5 T t) gateM (Memref.isWhole_whole _) upM (Memref.isWhole_whole _)

set_option maxHeartbeats 4000000 in
theorem sound_body (c : Dev nD) (t : Fin (cfgA T).N) :
    iprop((dats T m ρ 0 c).Φ t.castSucc ∗ (dats T m ρ 0 c).owesAt () t.castSucc
        ∗ (∃ d, owns (c : Thread nD τ) (st0 T t) fullShare ((dats T m ρ 0 c).before (0 : Fin 6) t d))
        ∗ (∃ d, owns (c : Thread nD τ) (st1 T t) fullShare ((dats T m ρ 0 c).before (1 : Fin 6) t d))
        ∗ (∃ d, owns (c : Thread nD τ) (st2 T t) fullShare ((dats T m ρ 0 c).before (2 : Fin 6) t d))
        ∗ (∃ d, owns (c : Thread nD τ) (st3 T t) fullShare ((dats T m ρ 0 c).before (3 : Fin 6) t d))
        ∗ (∃ d, owns (c : Thread nD τ) (st4 T t) fullShare ((dats T m ρ 0 c).before (4 : Fin 6) t d))
        ∗ (∃ d, owns (c : Thread nD τ) (st5 T t) fullShare ((dats T m ρ 0 c).before (5 : Fin 6) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i5 := not_idle T t
  have hw := chk T (crd T t)
  have c2 := cond2_eq T (crd T t)
  have c3 := cond3_eq T (crd T t)
  rw [crd1v] at c2 c3
  rewrite [i5]
  simp only [before0, before1, before2, before3, before4, after0, after1, after2, after3, after4, after5]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  rewrite [Fin.val_castSucc, Fin.val_succ]
  iintro ⟨⟨⟨%a, %b, %ha, HS, HU⟩, HT0, HT1⟩, Ho, ⟨%d0, H0⟩, ⟨%d1, H1⟩, ⟨%d2, H2⟩, ⟨%d3, H3⟩, ⟨%d4, H4⟩, ⟨%d5, H5⟩⟩
  by_cases hl : live T t
  · have hn : (rowB T t).val < T.count := hl
    have h2 : k0_cond2 (crd T t) (usedW T.used) = 1#1 := by rw [c2, decide_eq_true hn]; rfl
    have h3 : ¬k0_cond3 (crd T t) (usedW T.used) = 1#1 := by rw [c3, decide_eq_true hn]; decide
    by_cases h1 : loadsW (crd T t) T.experts T.used hw = 1#1
    · iapply ((runLoad c (crd T t) (st0 T t) (hst0 T t) (st1 T t) (hst1 T t) (st2 T t) (hst2 T t) (st3 T t) (hst3 T t) (st4 T t) (hst4 T t) (st5 T t) (hst5 T t) T.experts T.used
        (iblk T m ρ c (0 : Fin 6) t) (iblk T m ρ c (1 : Fin 6) t) (iblk T m ρ c (2 : Fin 6) t) (iblk T m ρ c (3 : Fin 6) t) (iblk T m ρ c (4 : Fin 6) t) hw h1 h2 h3).2.2 a b _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS]; · iexact HS
      isplitl [HU]; · iexact HU
      iintro ⟨H0, H1, H2, H3, H4, HT0, HT1, ⟨%e5, H5⟩, HS, HU⟩
      isplitl [HS HU HT0 HT1]
      · isplitl [HS HU]
        · iexists _; iexists _; isplitr; swap
          · isplitl [HS]
            · iexact HS
            iexact HU
          · ipureintro; rw [runLoad_gate, runLoad_up]; exact held_here T m ρ c t
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; unfold outBlk gateW upW; rw [if_pos hl]; exact runLoad_out c _ _ _ _ _ _ _ _ _ _ _ _ _ _ _ _ _ _ _ _ hw h1 h2 h3 e5
    · obtain ⟨ea, eb⟩ := held_keep T m ρ c t hl h1 a b ha
      iapply ((runKeep c (crd T t) (st0 T t) (hst0 T t) (st1 T t) (hst1 T t) (st2 T t) (hst2 T t) (st3 T t) (hst3 T t) (st4 T t) (hst4 T t) (st5 T t) (hst5 T t) T.experts T.used
        (iblk T m ρ c (0 : Fin 6) t) (iblk T m ρ c (1 : Fin 6) t) (iblk T m ρ c (2 : Fin 6) t) (iblk T m ρ c (3 : Fin 6) t) (iblk T m ρ c (4 : Fin 6) t) a b hw h1 h2 h3).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS]; · iexact HS
      isplitl [HU]; · iexact HU
      iintro ⟨H0, H1, H2, H3, H4, HT0, HT1, ⟨%e5, H5⟩, HS, HU⟩
      isplitl [HS HU HT0 HT1]
      · isplitl [HS HU]
        · iexists _; iexists _; isplitr; swap
          · isplitl [HS]
            · iexact HS
            iexact HU
          · ipureintro; rw [runKeep_scr]; rw [ea, eb]; exact held_here T m ρ c t
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; unfold outBlk; rw [if_pos hl, ← ea, ← eb]; exact runKeep_out c _ _ _ _ _ _ _ _ _ _ _ _ _ _ _ _ _ _ _ _ a b hw h1 h2 h3 e5
  · have hn : ¬(rowB T t).val < T.count := hl
    have h2 : ¬k0_cond2 (crd T t) (usedW T.used) = 1#1 := by rw [c2, decide_eq_false hn]; decide
    have h3 : k0_cond3 (crd T t) (usedW T.used) = 1#1 := by rw [c3, decide_eq_false hn]; rfl
    have h1 : ¬loadsW (crd T t) T.experts T.used hw = 1#1 := by
      have hc : ¬(crd T t 1).val < T.count := by rw [crd1v]; exact hn
      rw [loads_eq, bit_one, decide_eq_false hc, Bool.false_and]; decide
    iapply ((runIdle c (crd T t) (st0 T t) (hst0 T t) (st1 T t) (hst1 T t) (st2 T t) (hst2 T t) (st3 T t) (hst3 T t) (st4 T t) (hst4 T t) (st5 T t) (hst5 T t) T.experts T.used
      (iblk T m ρ c (0 : Fin 6) t) (iblk T m ρ c (1 : Fin 6) t) (iblk T m ρ c (2 : Fin 6) t) (iblk T m ρ c (3 : Fin 6) t) (iblk T m ρ c (4 : Fin 6) t) a b hw h1 h2 h3).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS]; · iexact HS
    isplitl [HU]; · iexact HU
    iintro ⟨H0, H1, H2, H3, H4, HT0, HT1, ⟨%e5, H5⟩, HS, HU⟩
    isplitl [HS HU HT0 HT1]
    · isplitl [HS HU]
      · iexists _; iexists _; isplitr; swap
        · isplitl [HS]
          · iexact HS
          iexact HU
        · ipureintro; exact held_idle T m ρ c t hl _ _
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; unfold outBlk; rw [if_neg hl]; exact runIdle_out c _ _ _ _ _ _ _ _ _ _ _ _ _ _ _ _ _ _ _ _ a b hw h1 h2 h3 e5

theorem body_obligation (c : Dev nD) : BodyObligation (dats T m ρ 0 c) (defs₀ (F := Ideal)) Variants.none () Set.univ := fun t => by
  rw [bigSep_W0]
  exact sound_body T m ρ c t

/-! The launch. -/

def u₀ : UR sig nD τ :=
  initOf (Pipeline.cells (pcs T) ((launch₀0 (F := Ideal)).cellOf_inj fun _ => adm T))
    (Pipeline.launchToks (pcs T) ((launch₀0 (F := Ideal)).cellOf_inj fun _ => adm T))

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a, HS⟩, ⟨%b, HU⟩⟩
  isplitl [HS HU]
  · iexists a; iexists b; isplitr; swap
    · isplitl [HS]
      · iexact HS
      iexact HU
    · ipureintro; intro s hs; exact absurd hs (Nat.succ_ne_zero _)
  isplitl [HT0]
  · iexact HT0
  iexact HT1

theorem phi_last (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a, %b, -, HS, HU⟩, -, -⟩
  isplitr; · iempintro
  isplitl [HS]
  · iexists a; iexact HS
  iexists b; iexact HU

/-- Memory holds the tables. -/
def Pinned : Prop := ∀ c : Dev nD, m ((c : Thread nD τ).loc main_arg0) = T.experts ∧ m ((c : Thread nD τ).loc main_arg1) = T.used

/-- Every array ends at what the points wrote, every table as it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact (hp c).1
  · exact (hp c).2

set_option backward.isDefEq.respectTransparency.types false in
set_option maxHeartbeats 4000000 in
theorem run_main (hp : Pinned T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch₀0 (F := Ideal)).cellOf_inj fun _ => adm T) (0 : Fin 1)
    (launch₀0 (F := Ideal)).win (launch₀0 (F := Ideal)).pre EP defs₀ Variants.none m ρ main
    (hbody := fun c => (body_obligation T m ρ c).loose) (hne := (launch₀0 (F := Ideal)).block_pos)
    (harr := (launch₀0 (F := Ideal)).arr_whole) (hstage := (launch₀0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats T m ρ 0 c).arrays_split_shared sharedIn0 arr_whole0
      (fun _ _ => rfl) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run, with the arguments unchanged, the semaphores at zero and the result at what the points wrote. -/
theorem run_all (hp : Pinned T m) :
    θ_run (defs (F := Ideal)) (onTc (τ := τ) (main (F := Ideal))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, r.2.mem (((cfgA T).win (5 : Fin 6)).arr.view.loc (c : Thread nD τ)) = (dats T m ρ 0 c).arrAt (5 : Fin 6) (cfgA T).N) :=
  (θ_run defs _ _).mono (fun _ h => ⟨⟨fun c => ⟨((h.1 c).2 0).trans (hp c).1.symm, ((h.1 c).2 1).trans (hp c).2.symm,
((h.1 c).1 (0 : Fin 6)).trans ((dats T m ρ 0 c).arrAt_in (0 : Fin 6) rfl _),
    ((h.1 c).1 (1 : Fin 6)).trans ((dats T m ρ 0 c).arrAt_in (1 : Fin 6) rfl _),
    ((h.1 c).1 (3 : Fin 6)).trans ((dats T m ρ 0 c).arrAt_in (3 : Fin 6) rfl _)⟩, h.2⟩, fun c => (h.1 c).1 (5 : Fin 6)⟩) (run_main T m ρ hp)

end Cert.Kernel2Ideal.GateUp
-- ==== Proof.GuValue.lean ====
module

public import proofs.«01_k».proof.Proof.GuFrame
public import proofs.«01_k».proof.Proof.GuMath

/-! The gate and up projection's result, entry by entry. -/

@[expose] public section

set_option maxRecDepth 16384
set_option Elab.async false

noncomputable section

namespace Cert.Kernel2Ideal.GateUp

open Cert.Kernel2Ideal Cert.Kernel2Ideal.Gen Cert.Moe
open Idealize.ShloMosaic
open Idealize.ShloMosaic.TcCoe Idealize.ShloMosaic.Tactic
open Idealize.SL.Sem
open Idealize.ShloMosaic.Pipeline (Dat Cfg Window)

variable (T : Tables) (m : (ℓ : Loc nD τ sig) → Buf (Elt Ideal) ℓ) (ρ : Dev nD → PrngReg)

/-- The weights in the compute type are the weights. -/
theorem pay1_at (w : S1x4096x512.Idx → Elt Ideal .f32) (a : Fin 4096) (k : Fin 512) : k0_pay1 (F := Ideal) w (ix2 a k) = w (ix3 0 a k) := by
  pointwise [k0_pay1]

theorem pay2_at (w : S1x4096x512.Idx → Elt Ideal .f32) (a : Fin 4096) (k : Fin 512) : k0_pay2 (F := Ideal) w (ix2 a k) = w (ix3 0 a k) := by
  pointwise [k0_pay2]

/-- The low halves of the words. -/
theorem pay5_at (x : S256x2048.Idx → Elt Ideal .i32) (i) : k0_pay5 (F := Ideal) x i = lowHalf (x i) := by
  unfold k0_pay5
  show Ideal.ofBits .f32 (IntOp.shli .vector (x i) 16#32) = _
  unfold IntOp.shli lowHalf
  rw [if_pos (by decide)]

/-- The high halves of the words. -/
theorem pay6_at (x : S256x2048.Idx → Elt Ideal .i32) (i) : k0_pay6 (F := Ideal) x i = highHalf (x i) := rfl

/-- The gate before the logistic: two products, a bias, a bound. -/
theorem pay7_at (x : S256x2048.Idx → Elt Ideal .i32) (p q : S2048x512.Idx → Elt Ideal .bf16) (b : S1x1x512.Idx → Elt Ideal .f32)
    (a : Fin 256) (k : Fin 512) :
    k0_pay7 (F := Ideal) x p q b (ix2 a k)
      = min (((∑ d : Fin 2048, lowHalf (x (ix2 a d)) * p (ix2 d k)) + ∑ d : Fin 2048, highHalf (x (ix2 a d)) * q (ix2 d k)) + b (ix3 0 0 k))
        (Ideal.ofBits .f32 0x40E00000#32) := by
  pointwise [k0_pay7]
  simp only [pay5_at, pay6_at]

/-- The up part, clipped. -/
theorem pay8_at (x : S256x2048.Idx → Elt Ideal .i32) (p q : S2048x512.Idx → Elt Ideal .bf16) (b : S1x1x512.Idx → Elt Ideal .f32)
    (a : Fin 256) (k : Fin 512) :
    k0_pay8 (F := Ideal) x p q b (ix2 a k)
      = min (Ideal.ofBits .f32 0x40E00000#32) (max (Ideal.ofBits .f32 0xC0E00000#32)
        (((∑ d : Fin 2048, lowHalf (x (ix2 a d)) * p (ix2 d k)) + ∑ d : Fin 2048, highHalf (x (ix2 a d)) * q (ix2 d k)) + b (ix3 0 0 k))) := by
  pointwise [k0_pay8]
  simp only [pay5_at, pay6_at]

/-- The activation of a gate and an up part. -/
theorem pay3_at (g u o : S256x512.Idx → Elt Ideal .f32) (i) :
    k0_pay3 (F := Ideal) g u o i = (u i + o i) * (g i * Ideal.logistic (Ideal.ofBits .f32 0x3FD9DB23#32 * g i)) := rfl

theorem pay4_at (i) : k0_pay4 (F := Ideal) i = 0 := by
  unfold k0_pay4
  show Ideal.ofBits .bf16 0x0000#16 = 0
  simp [Ideal.ofBits, Ideal.ieee]

theorem low_ix (d : Fin 2048) (k : Fin 512) : lowR (ix2 d k) = ix2 (⟨d.val, by omega⟩ : Fin 4096) k := by
  funext a; fin_cases a <;> rfl

theorem high_ix (d : Fin 2048) (k : Fin 512) : highR (ix2 d k) = ix2 (⟨2048 + d.val, by omega⟩ : Fin 4096) k := by
  funext a; fin_cases a <;> rfl

/-- What a point writes at an index of its block. -/
theorem outBlk_at (c : Dev nD) (t : Fin (cfgA T).N) (a : Fin 256) (k : Fin 512) :
    outBlk T m ρ c t (ix2 a k) = gateUpEntry T (m ((c.tc : Thread nD τ).loc main_arg2)) (m ((c.tc : Thread nD τ).loc main_arg3))
      (m ((c.tc : Thread nD τ).loc main_arg4)) ⟨(rowB T t).val * 256 + a.val, by omega⟩ ⟨(colB T t).val * 512 + k.val, by omega⟩ := by
  have hr : (⟨((rowB T t).val * 256 + a.val) / 256, by omega⟩ : Fin 292) = rowB T t := Fin.ext (by show _ / 256 = _; omega)
  have hu : (⟨((colB T t).val + 4) * 512 + k.val, by omega⟩ : Fin 4096) = ⟨2048 + ((colB T t).val * 512 + k.val), by omega⟩ :=
    Fin.ext (by show ((colB T t).val + 4) * 512 + k.val = 2048 + ((colB T t).val * 512 + k.val); omega)
  unfold outBlk gateUpEntry
  by_cases hl : live T t
  · have hl' : ((rowB T t).val * 256 + a.val) / 256 < T.count := by unfold live at hl; omega
    rw [if_pos hl, if_pos hl', hr]
    unfold act
    rw [pay3_at, pay7_at, pay8_at]
    unfold gateW upW swiglu proj
    simp only [low_ix, high_ix, pay1_at, pay2_at, blk0 T m ρ c t hl, blk1, blk2, blk3, blk4, hu]
    rfl
  · have hl' : ¬((rowB T t).val * 256 + a.val) / 256 < T.count := by unfold live at hl; omega
    rw [if_neg hl, if_neg hl', pay4_at]

/-- Every point writes its block back. -/
theorem flush5 (t : Fin (cfgA T).N) : ((cfgA T).win (5 : Fin 6)).flush t = true := by
  unfold Window.flush
  refine Bool.and_eq_true_iff.2 ⟨rfl, ?_⟩
  by_cases h : t.val + 1 = 1168
  · exact Bool.or_eq_true_iff.2 (.inl (decide_eq_true h))
  · refine Bool.or_eq_true_iff.2 (.inr (decide_eq_true ⟨by have := N_lt T t; show t.val + 1 < 1168; omega, fun e => ?_⟩))
    rw [index5, index5] at e
    have e0 : (t.val + 1) % 292 = t.val % 292 := congrFun e 0
    omega

/-- The blocks cover the array. -/
theorem covers : ((cfgA T).win (5 : Fin 6)).Covers := by
  refine ⟨fun a => by fin_cases a <;> exact Nat.succ_pos _, fun β => ?_⟩
  have h0 : (β 0).val < 292 := lt_of_lt_of_eq (β 0).isLt (show (74752 + 256 - 1) / 256 = 292 by norm_num)
  have h1 : (β 1).val < 4 := lt_of_lt_of_eq (β 1).isLt (show (2048 + 512 - 1) / 512 = 4 by norm_num)
  refine ⟨⟨(β 1).val * 292 + (β 0).val, by show _ < 1168; omega⟩, flush5 T _, fun a => ⟨?_, .inl ?_⟩⟩
  · rw [index5]
    fin_cases a
    · show ((β 1).val * 292 + (β 0).val) % 292 = (β 0).val; omega
    · show ((β 1).val * 292 + (β 0).val) / 292 = (β 1).val; omega
  · fin_cases a <;> rfl

theorem final (c : Dev nD) : (dats T m ρ 0 c).arrAt (5 : Fin 6) (cfgA T).N
    = fun i => gateUpEntry T (m ((c.tc : Thread nD τ).loc main_arg2)) (m ((c.tc : Thread nD τ).loc main_arg3))
      (m ((c.tc : Thread nD τ).loc main_arg4)) (i 0) (i 1) := by
  refine (dats T m ρ 0 c).arrAt_eq_of_covers (5 : Fin 6) _ (covers T) fun t hf y => ?_
  blk_simp
  rw [after5]
  idx_vars y
  refine (outBlk_at T m ρ c t _ _).trans ?_
  refine congr (congrArg _ (Fin.ext ?_)) (Fin.ext ?_)
  · blk_simp [index5 T t]
  · blk_simp [index5 T t]

end Cert.Kernel2Ideal.GateUp
-- ==== Proof.GuBitsBody.lean ====
module

public import proofs.«01_k».proof.Proof.Moe
public import proofs.«01_k».proof.Proof.Gen.Kernel2.Skeleton
public import proofs.«01_k».proof.Proof.Gen.Kernel2.Launch
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Exec
public import Idealize.ShloMosaic.Lib.Tactic
public import Idealize.ShloMosaic.PureOps
public import Idealize.ShloMosaic.Adequacy
public import Idealize.ShloMosaic.Init

/-! One grid point of the gate and up projection, for any tables: a block whose expert differs from the block before
loads that expert's weights into the scratch, a block in use multiplies by the scratch, adds the bias and takes the activation, a block not
in use writes zeros. -/

@[expose] public section

set_option maxRecDepth 16384
set_option Elab.async false

noncomputable section

namespace Cert.Kernel2.GateUp

open Cert.Kernel2 Cert.Kernel2.Gen Cert.Moe
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev expertsM : Memref sig .tc .smem S292 .i32 := Memref.whole main_arg0
abbrev usedM : Memref sig .tc .smem S1 .i32 := Memref.whole main_arg1
abbrev gateM : Memref sig .tc .vmem S4096x512 .bf16 := Memref.whole cc0_scratch0
abbrev upM : Memref sig .tc .vmem S4096x512 .bf16 := Memref.whole cc0_scratch1

/-- The lower and the upper half of the rows of the weights in a scratch buffer. -/
abbrev lowR : (Shape.Idx S2048x512) → (Shape.Idx S4096x512) := fun x => ix2 ⟨(x 0).val, lt_of_lt_of_le (x 0).isLt (show 2048 ≤ 4096 by decide)⟩ (x 1)
abbrev highR : (Shape.Idx S2048x512) → (Shape.Idx S4096x512) := fun x => ix2 ⟨2048 + (x 0).val, by have : (x 0).val < 2048 := (x 0).isLt; show _ < 4096; omega⟩ (x 1)

/-- The word the body reads of the second table. -/
abbrev usedW (T1 : S1.Idx → Elt Bits .i32) : BitVec 32 :=
  View.readAt (Elt Bits) usedM.view (Rect.unit (s := S1) ![0] S1.size inb_S1_S1_0).toLoadRect T1 (Shape.Idx.first (numel1_S1.symm ▸ Nat.one_pos))

/-- A word the body reads of the first table. -/
abbrev expertW (T0 : S292.Idx → Elt Bits .i32) (o : Fin 1 → ℕ) (h : ∀ a, o a + S1.size a ≤ S292.size a) : BitVec 32 :=
  View.readAt (Elt Bits) expertsM.view (Rect.unit (s := S292) o S1.size h).toLoadRect T0 (Shape.Idx.first (numel1_S1.symm ▸ Nat.one_pos))

/-- Whether the body loads the weights, as it computes it. -/
abbrev loadsW (i : grid0.Coords) (T0 : S292.Idx → Elt Bits .i32) (T1 : S1.Idx → Elt Bits .i32) (hw : k0_chk1 i (usedW T1)) : BitVec 1 :=
  Scalar.cmpi .ne (Scalar.extui (Scalar.andi (Scalar.cmpi .sle (BitVec.ofNat 32 (i 1).val) (Scalar.subi (usedW T1) 1#32))
    (Scalar.ori (Scalar.cmpi .eq (BitVec.ofNat 32 (i 1).val) 0#32)
      (Scalar.cmpi .ne (expertW T0 (k0_off2 i (usedW T1)) (k0_off2_inb i (usedW T1) hw))
        (expertW T0 (k0_off3 i (usedW T1)) (k0_off3_inb i (usedW T1) hw)))))) 0#32

section Runs

variable (c : Dev nD) (i : grid0.Coords) (arg4 : Memref sig .tc .vmem S256x2048 .i32) (harg4 : arg4.IsWhole)
  (arg5 : Memref sig .tc .vmem S1x4096x512 .f32) (harg5 : arg5.IsWhole) (arg6 : Memref sig .tc .vmem S1x4096x512 .f32) (harg6 : arg6.IsWhole)
  (arg7 : Memref sig .tc .vmem S1x1x512 .f32) (harg7 : arg7.IsWhole) (arg8 : Memref sig .tc .vmem S1x1x512 .f32) (harg8 : arg8.IsWhole)
  (arg9 : Memref sig .tc .vmem S256x512 .bf16) (harg9 : arg9.IsWhole)
  (T0 : S292.Idx → Elt Bits .i32) (T1 : S1.Idx → Elt Bits .i32)
  (x0 : S256x2048.Idx → Elt Bits .i32)
  (x1 : S1x4096x512.Idx → Elt Bits .f32)
  (x2 : S1x4096x512.Idx → Elt Bits .f32)
  (x3 : S1x1x512.Idx → Elt Bits .f32)
  (x4 : S1x1x512.Idx → Elt Bits .f32)

set_option backward.proofsInPublic true in
set_option maxHeartbeats 16000000 in
/-- A point that loads its weights. What it stores in the output's buffer and leaves in the two scratch buffers, with the run. -/
noncomputable def runLoad (hw : k0_chk1 i (usedW T1)) (h1 : loadsW i T0 T1 hw = 1#1) (h2 : k0_cond2 i (usedW T1) = 1#1) (h3 : ¬k0_cond3 i (usedW T1) = 1#1) :
    Σ' (out : List (View.Piece (Elt Bits) S256x512 .bf16)), { scr : Buf (Elt Bits) ((c : Thread nD τ).loc cc0_scratch0) × Buf (Elt Bits) ((c : Thread nD τ).loc cc0_scratch1) //
      ∀ (a : Buf (Elt Bits) ((c : Thread nD τ).loc cc0_scratch0)) (b : Buf (Elt Bits) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (expertsM.view.loc (c : Thread nD τ) ↦{fullShare.right} T0)
          ∗ (usedM.view.loc (c : Thread nD τ) ↦{fullShare.right} T1)
          ∗ (∃ d, owns (c : Thread nD τ) arg9 fullShare d)
          ∗ (gateM.view.loc (c : Thread nD τ) ↦{fullShare} a)
          ∗ (upM.view.loc (c : Thread nD τ) ↦{fullShare} b)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (expertsM.view.loc (c : Thread nD τ) ↦{fullShare.right} T0)
              ∗ (usedM.view.loc (c : Thread nD τ) ↦{fullShare.right} T1)
              ∗ (∃ f, arg9.view.loc (c : Thread nD τ) ↦[arg9.view.set]{fullShare} arg9.view.writes (Elt Bits) f out)
              ∗ (gateM.view.loc (c : Thread nD τ) ↦{fullShare} scr.1)
              ∗ (upM.view.loc (c : Thread nD τ) ↦{fullShare} scr.2)) -∗ K ⟨⟩))
          ⊢ wp frame (wpE (defs₀ (F := Bits)) Variants.none c none) Set.univ (cc0_moe_gate_up i expertsM (Memref.isWhole_whole _) usedM (Memref.isWhole_whole _) arg4 harg4 arg5 harg5 arg6 harg6 arg7 harg7 arg8 harg8 arg9 harg9 gateM (Memref.isWhole_whole _) upM (Memref.isWhole_whole _)) K } :=
  ⟨_, (_, _), fun a b K => by
    unfold owns
    rw [cc0_moe_gate_up_eq_skeleton]; unfold cc0_moe_gate_up_skel
    rw [k0_part1_eq_skeleton]; unfold k0_part1_skel
    iintro ⟨H0, H1, H2, H3, H4, HT0, HT1, ⟨%d5, %f5, -, HO⟩, HS, HU, Hk⟩
    have hS : gateM.IsWhole := Memref.isWhole_whole _
    have hU : upM.IsWhole := Memref.isWhole_whole _
    have hT0 : expertsM.IsWhole := Memref.isWhole_whole _
    have hT1 : usedM.IsWhole := Memref.isWhole_whole _
    sl_exec! (disch := first | (guard_target = k0_chk1 _ _; exact hw) | (guard_target = (k0_cond2 _ _ = _); exact h2) | (guard_target = ¬(k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS]; · iexact HS
    iexact HU⟩

set_option backward.proofsInPublic true in
set_option maxHeartbeats 16000000 in
/-- A point that keeps the weights of the point before. What it stores in the output's buffer and leaves in the two scratch buffers, with the run. -/
noncomputable def runKeep (a : Buf (Elt Bits) ((c : Thread nD τ).loc cc0_scratch0)) (b : Buf (Elt Bits) ((c : Thread nD τ).loc cc0_scratch1)) (hw : k0_chk1 i (usedW T1)) (h1 : ¬loadsW i T0 T1 hw = 1#1) (h2 : k0_cond2 i (usedW T1) = 1#1) (h3 : ¬k0_cond3 i (usedW T1) = 1#1) :
    Σ' (out : List (View.Piece (Elt Bits) S256x512 .bf16)), { scr : Buf (Elt Bits) ((c : Thread nD τ).loc cc0_scratch0) × Buf (Elt Bits) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (expertsM.view.loc (c : Thread nD τ) ↦{fullShare.right} T0)
          ∗ (usedM.view.loc (c : Thread nD τ) ↦{fullShare.right} T1)
          ∗ (∃ d, owns (c : Thread nD τ) arg9 fullShare d)
          ∗ (gateM.view.loc (c : Thread nD τ) ↦{fullShare} a)
          ∗ (upM.view.loc (c : Thread nD τ) ↦{fullShare} b)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (expertsM.view.loc (c : Thread nD τ) ↦{fullShare.right} T0)
              ∗ (usedM.view.loc (c : Thread nD τ) ↦{fullShare.right} T1)
              ∗ (∃ f, arg9.view.loc (c : Thread nD τ) ↦[arg9.view.set]{fullShare} arg9.view.writes (Elt Bits) f out)
              ∗ (gateM.view.loc (c : Thread nD τ) ↦{fullShare} scr.1)
              ∗ (upM.view.loc (c : Thread nD τ) ↦{fullShare} scr.2)) -∗ K ⟨⟩))
          ⊢ wp frame (wpE (defs₀ (F := Bits)) Variants.none c none) Set.univ (cc0_moe_gate_up i expertsM (Memref.isWhole_whole _) usedM (Memref.isWhole_whole _) arg4 harg4 arg5 harg5 arg6 harg6 arg7 harg7 arg8 harg8 arg9 harg9 gateM (Memref.isWhole_whole _) upM (Memref.isWhole_whole _)) K } :=
  ⟨_, (_, _), fun K => by
    unfold owns
    rw [cc0_moe_gate_up_eq_skeleton]; unfold cc0_moe_gate_up_skel
    rw [k0_part1_eq_skeleton]; unfold k0_part1_skel
    iintro ⟨H0, H1, H2, H3, H4, HT0, HT1, ⟨%d5, %f5, -, HO⟩, HS, HU, Hk⟩
    have hS : gateM.IsWhole := Memref.isWhole_whole _
    have hU : upM.IsWhole := Memref.isWhole_whole _
    have hT0 : expertsM.IsWhole := Memref.isWhole_whole _
    have hT1 : usedM.IsWhole := Memref.isWhole_whole _
    sl_exec! (disch := first | (guard_target = k0_chk1 _ _; exact hw) | (guard_target = (k0_cond2 _ _ = _); exact h2) | (guard_target = ¬(k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS]; · iexact HS
    iexact HU⟩

set_option backward.proofsInPublic true in
set_option maxHeartbeats 16000000 in
/-- A point whose block is not in use. What it stores in the output's buffer and leaves in the two scratch buffers, with the run. -/
noncomputable def runIdle (a : Buf (Elt Bits) ((c : Thread nD τ).loc cc0_scratch0)) (b : Buf (Elt Bits) ((c : Thread nD τ).loc cc0_scratch1)) (hw : k0_chk1 i (usedW T1)) (h1 : ¬loadsW i T0 T1 hw = 1#1) (h2 : ¬k0_cond2 i (usedW T1) = 1#1) (h3 : k0_cond3 i (usedW T1) = 1#1) :
    Σ' (out : List (View.Piece (Elt Bits) S256x512 .bf16)), { scr : Buf (Elt Bits) ((c : Thread nD τ).loc cc0_scratch0) × Buf (Elt Bits) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (expertsM.view.loc (c : Thread nD τ) ↦{fullShare.right} T0)
          ∗ (usedM.view.loc (c : Thread nD τ) ↦{fullShare.right} T1)
          ∗ (∃ d, owns (c : Thread nD τ) arg9 fullShare d)
          ∗ (gateM.view.loc (c : Thread nD τ) ↦{fullShare} a)
          ∗ (upM.view.loc (c : Thread nD τ) ↦{fullShare} b)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (expertsM.view.loc (c : Thread nD τ) ↦{fullShare.right} T0)
              ∗ (usedM.view.loc (c : Thread nD τ) ↦{fullShare.right} T1)
              ∗ (∃ f, arg9.view.loc (c : Thread nD τ) ↦[arg9.view.set]{fullShare} arg9.view.writes (Elt Bits) f out)
              ∗ (gateM.view.loc (c : Thread nD τ) ↦{fullShare} scr.1)
              ∗ (upM.view.loc (c : Thread nD τ) ↦{fullShare} scr.2)) -∗ K ⟨⟩))
          ⊢ wp frame (wpE (defs₀ (F := Bits)) Variants.none c none) Set.univ (cc0_moe_gate_up i expertsM (Memref.isWhole_whole _) usedM (Memref.isWhole_whole _) arg4 harg4 arg5 harg5 arg6 harg6 arg7 harg7 arg8 harg8 arg9 harg9 gateM (Memref.isWhole_whole _) upM (Memref.isWhole_whole _)) K } :=
  ⟨_, (_, _), fun K => by
    unfold owns
    rw [cc0_moe_gate_up_eq_skeleton]; unfold cc0_moe_gate_up_skel
    rw [k0_part1_eq_skeleton]; unfold k0_part1_skel
    iintro ⟨H0, H1, H2, H3, H4, HT0, HT1, ⟨%d5, %f5, -, HO⟩, HS, HU, Hk⟩
    have hS : gateM.IsWhole := Memref.isWhole_whole _
    have hU : upM.IsWhole := Memref.isWhole_whole _
    have hT0 : expertsM.IsWhole := Memref.isWhole_whole _
    have hT1 : usedM.IsWhole := Memref.isWhole_whole _
    sl_exec! (disch := first | (guard_target = k0_chk1 _ _; exact hw) | (guard_target = ¬(k0_cond2 _ _ = _); exact h2) | (guard_target = (k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS]; · iexact HS
    iexact HU⟩

/-! The halves of a scratch buffer, as the body loads them. -/

theorem low_at (x : S2048x512.Idx) (h) : (Rect.unit (s := S4096x512) ![0, 0] S2048x512.size h).toLoadRect.idx x = lowR x := by
  funext a; fin_cases a
  · exact Fin.ext (by show 0 + 1 * (x 0).val = (x 0).val; omega)
  · exact Fin.ext (by show 0 + 1 * (x 1).val = (x 1).val; omega)

theorem high_at (x : S2048x512.Idx) (h) : (Rect.unit (s := S4096x512) ![2048, 0] S2048x512.size h).toLoadRect.idx x = highR x := by
  funext a; fin_cases a
  · exact Fin.ext (by show 2048 + 1 * (x 0).val = 2048 + (x 0).val; omega)
  · exact Fin.ext (by show 0 + 1 * (x 1).val = (x 1).val; omega)

section Halves

variable (v : View sig .tc .vmem S4096x512 .bf16)

theorem low_read (f : v.ty.Contents (Elt Bits)) (h) :
    v.readAt (Elt Bits) (Rect.unit (s := S4096x512) ![0, 0] S2048x512.size h).toLoadRect f = fun x => v.read (Elt Bits) f (lowR x) := by
  funext x; exact congrArg (v.read (Elt Bits) f) (low_at x h)

theorem high_read (f : v.ty.Contents (Elt Bits)) (h) :
    v.readAt (Elt Bits) (Rect.unit (s := S4096x512) ![2048, 0] S2048x512.size h).toLoadRect f = fun x => v.read (Elt Bits) f (highR x) := by
  funext x; exact congrArg (v.read (Elt Bits) f) (high_at x h)

theorem low_cov (w : S4096x512.Idx → Elt Bits .bf16) (g h) :
    v.readCov (Val := Elt Bits) [⟨Rect.unit (s := S4096x512) ![0, 0] S4096x512.size g, w⟩] (Rect.unit (s := S4096x512) ![0, 0] S2048x512.size h).toLoadRect
      = fun x => w (lowR x) := by
  refine (low_read v (v.writes (Elt Bits) v.junk _) h).trans ?_
  rw [View.read_writes_full (s := S4096x512)]

theorem high_cov (w : S4096x512.Idx → Elt Bits .bf16) (g h) :
    v.readCov (Val := Elt Bits) [⟨Rect.unit (s := S4096x512) ![0, 0] S4096x512.size g, w⟩] (Rect.unit (s := S4096x512) ![2048, 0] S2048x512.size h).toLoadRect
      = fun x => w (highR x) := by
  refine (high_read v (v.writes (Elt Bits) v.junk _) h).trans ?_
  rw [View.read_writes_full (s := S4096x512)]

end Halves

/-- What a point in use writes, from its rows, its two column blocks of weights and its biases. -/
def act (x0 : S256x2048.Idx → Elt Bits .i32) (g u : S4096x512.Idx → Elt Bits .bf16) (x3 x4 : S1x1x512.Idx → Elt Bits .f32) :
    S256x512.Idx → Elt Bits .bf16 :=
  k0_pay3 (k0_pay7 x0 (fun x => g (lowR x)) (fun x => g (highR x)) x3) (k0_pay8 x0 (fun x => u (lowR x)) (fun x => u (highR x)) x4) (k0_pay9 (F := Bits))

set_option maxHeartbeats 1000000 in
theorem runLoad_out (hw h1 h2 h3) (f) :
    arg9.view.read (Elt Bits) (arg9.view.writes (Elt Bits) f (runLoad c i arg4 harg4 arg5 harg5 arg6 harg6 arg7 harg7 arg8 harg8 arg9 harg9 T0 T1 x0 x1 x2 x3 x4 hw h1 h2 h3).1)
      = act x0 (k0_pay1 x1) (k0_pay2 x2) x3 x4 := by
  unfold runLoad
  dsimp only
  unfold runLoad.sl.HO_1
  refine (View.read_writes_full (s := S256x512) arg9.view _ _ _ _).trans ?_
  rw [View.readAt_rep_full (s := S256x2048), View.readAt_rep_full (s := S1x1x512), View.readAt_rep_full (s := S1x1x512)]
  unfold runLoad.sl.v30 runLoad.sl.v32 runLoad.sl.v39 runLoad.sl.v41 runLoad.sl.HS_1 runLoad.sl.HU_1
  rw [low_cov, high_cov, low_cov, high_cov, View.readAt_rep_full (s := S1x4096x512), View.readAt_rep_full (s := S1x4096x512)]
  rfl

set_option maxHeartbeats 1000000 in
theorem runLoad_gate (hw h1 h2 h3) : (runLoad c i arg4 harg4 arg5 harg5 arg6 harg6 arg7 harg7 arg8 harg8 arg9 harg9 T0 T1 x0 x1 x2 x3 x4 hw h1 h2 h3).2.1.1 = k0_pay1 x1 := by
  unfold runLoad
  dsimp only
  unfold runLoad.sl.HS_1
  refine (View.read_whole (Val := Elt Bits) cc0_scratch0 _).symm.trans ?_
  rw [View.read_writes_full (s := S4096x512) (View.whole cc0_scratch0)]
  rw [View.readAt_rep_full (s := S1x4096x512)]

set_option maxHeartbeats 1000000 in
theorem runLoad_up (hw h1 h2 h3) : (runLoad c i arg4 harg4 arg5 harg5 arg6 harg6 arg7 harg7 arg8 harg8 arg9 harg9 T0 T1 x0 x1 x2 x3 x4 hw h1 h2 h3).2.1.2 = k0_pay2 x2 := by
  unfold runLoad
  dsimp only
  unfold runLoad.sl.HU_1
  refine (View.read_whole (Val := Elt Bits) cc0_scratch1 _).symm.trans ?_
  rw [View.read_writes_full (s := S4096x512) (View.whole cc0_scratch1)]
  rw [View.readAt_rep_full (s := S1x4096x512)]

set_option maxHeartbeats 1000000 in
theorem runKeep_scr (a b hw h1 h2 h3) : (runKeep c i arg4 harg4 arg5 harg5 arg6 harg6 arg7 harg7 arg8 harg8 arg9 harg9 T0 T1 x0 x1 x2 x3 x4 a b hw h1 h2 h3).2.1 = (a, b) := by
  unfold runKeep
  dsimp only

set_option maxHeartbeats 1000000 in
theorem runKeep_out (a b hw h1 h2 h3) (f) :
    arg9.view.read (Elt Bits) (arg9.view.writes (Elt Bits) f (runKeep c i arg4 harg4 arg5 harg5 arg6 harg6 arg7 harg7 arg8 harg8 arg9 harg9 T0 T1 x0 x1 x2 x3 x4 a b hw h1 h2 h3).1)
      = act x0 a b x3 x4 := by
  unfold runKeep
  dsimp only
  unfold runKeep.sl.HO_1
  refine (View.read_writes_full (s := S256x512) arg9.view _ _ _ _).trans ?_
  rw [View.readAt_rep_full (s := S256x2048), View.readAt_rep_full (s := S1x1x512), View.readAt_rep_full (s := S1x1x512)]
  rw [low_read gateM.view, high_read gateM.view, low_read upM.view, high_read upM.view, View.read_whole, View.read_whole]
  rfl

set_option maxHeartbeats 1000000 in
theorem runIdle_out (a b hw h1 h2 h3) (f) :
    arg9.view.read (Elt Bits) (arg9.view.writes (Elt Bits) f (runIdle c i arg4 harg4 arg5 harg5 arg6 harg6 arg7 harg7 arg8 harg8 arg9 harg9 T0 T1 x0 x1 x2 x3 x4 a b hw h1 h2 h3).1)
      = k0_pay4 (F := Bits) := by
  unfold runIdle
  dsimp only
  unfold runIdle.sl.HO_1
  exact View.read_writes_full (s := S256x512) arg9.view _ _ _ _

end Runs

end Cert.Kernel2.GateUp
-- ==== Proof.Gu.lean ====
module

public import proofs.«01_k».proof.Defs
public import proofs.«01_k».proof.Proof.GuTables
public import proofs.«01_k».proof.Proof.GuRef
public import proofs.«01_k».proof.Proof.GuValue
public import proofs.«01_k».proof.Proof.GuBitsFrame
public import proofs.«01_k».proof.Proof.Gen.Reference2Ideal.Run
public import Idealize.ShloMosaic.Lib.Quiescent

/-! The claims on the first projection of the experts. -/

@[expose] public section

set_option maxRecDepth 16384

noncomputable section

namespace Cert.GateUp

open Idealize.ShloMosaic Idealize.ShloMosaic.TcCoe Idealize.ShloMosaic.Tactic Idealize.SL.Sem
open Cert.Moe

theorem frame_kernel : Cert.quiescent_Kernel2 (hKernel2 := Kernel2.Gen.facts) (hPre_gate_up_tables := Pre_gate_up_tables.Gen.facts) := by
  intro m g hpre
  obtain ⟨T, h0, h1⟩ := GuTables.decode (hpre 0)
  exact (θ_run Kernel2.defs _ _).mono (fun r h => h.1) (Kernel2.GateUp.run_all T m g fun c => by
    rw [Subsingleton.elim c 0]; exact ⟨h0, h1⟩)

theorem pinned (m : (ℓ : Loc Kernel2Ideal.nD Kernel2Ideal.τ Kernel2Ideal.sig) → Buf (Elt Ideal) ℓ)
    (hpre : Cert.Pre_Kernel2Ideal (hPre_gate_up_tables := Pre_gate_up_tables.Gen.facts) m) : ∃ T, Kernel2Ideal.GateUp.Pinned T m := by
  obtain ⟨T, h0, h1⟩ := GuTables.decode (hpre 0)
  exact ⟨T, fun c => by rw [Subsingleton.elim c 0]; exact ⟨h0, h1⟩⟩

theorem frame_ideal : Cert.quiescent_Kernel2Ideal (hKernel2Ideal := Kernel2Ideal.Gen.facts) (hPre_gate_up_tables := Pre_gate_up_tables.Gen.facts) := by
  intro m g hpre
  obtain ⟨T, hT⟩ := pinned m hpre
  exact (θ_run Kernel2Ideal.defs _ _).mono (fun r h => h.1) (Kernel2Ideal.GateUp.run_all T m g hT)

theorem frame_reference : Cert.quiescent_Reference2Ideal (hReference2Ideal := Reference2Ideal.Gen.facts) (hPre_gate_up_tables := Pre_gate_up_tables.Gen.facts) :=
  fun m g _ => (θ_run Reference2Ideal.defs _ _).mono (fun r h => ⟨fun c => (h c).2, sem_eq_zero_of_no_sems rfl r.2⟩) (Reference2Ideal.Value.run m g)

theorem preserves : Cert.preserves_Kernel2_Kernel2Ideal := trivial

theorem algebraic : Cert.algebraic_Kernel2Ideal_Reference2Ideal (hKernel2Ideal := Kernel2Ideal.Gen.facts)
    (hReference2Ideal := Reference2Ideal.Gen.facts) (hPre_gate_up_tables := Pre_gate_up_tables.Gen.facts) := by
  intro m g m' g' hpre hagree
  obtain ⟨T, hT⟩ := pinned m hpre
  refine ⟨fun c => (Kernel2Ideal.GateUp.dats T m g 0 c).arrAt (5 : Fin 6) (Kernel2Ideal.GateUp.cfgA T).N, ?_, ?_⟩
  · exact (θ_run Kernel2Ideal.defs _ _).mono (fun r h c => ⟨h.2 c, h.1.1 c⟩) (Kernel2Ideal.GateUp.run_all T m g hT)
  · refine (θ_run Reference2Ideal.defs _ _).mono (fun r h c => ?_) (Reference2Ideal.Value.run m' g')
    obtain ⟨h0, h1, h2, h3, h4⟩ := hagree c
    refine ⟨(h c).1.trans (Eq.trans ?_ (Kernel2Ideal.GateUp.final T m g c).symm), (h c).2⟩
    rw [Reference2Ideal.Read.val_main_v49_eq, h0, h1, h2, h3, h4, show m (c.tc.loc Kernel2Ideal.main_arg0) = T.experts from (hT c).1,
      show m (c.tc.loc Kernel2Ideal.main_arg1) = T.used from (hT c).2]
    funext i
    obtain ⟨r, j, rfl⟩ : ∃ r j, i = ix2 r j := ⟨i 0, i 1, by funext a; fin_cases a <;> rfl⟩
    exact Reference2Ideal.Entry.result_at T _ _ _ r j

end Cert.GateUp

end
-- ==== Proof.DownTables.lean ====
module

public import proofs.«01_k».proof.Proof.Moe
public import proofs.«01_k».proof.Proof.Gen.Pre_down_tables
public import Idealize.ShloMosaic.Lib.ReduceAll

/-! What the condition on the down projection's tables says of them. -/

@[expose] public section

set_option maxRecDepth 16384

noncomputable section

namespace Cert.DownTables

open Idealize.ShloMosaic Cert.Moe
open Cert.Pre_down_tables

instance : Subsingleton S_.Idx := ⟨fun a b => funext fun i => i.elim0⟩

variable {F : FTy → Type} [FloatOps F]

/-- Arrays that meet the condition are tables of the routing. -/
theorem decode {x0 : IVec S292 32} {x1 : IVec S1 32} {x2 : FVec F S74752x2048 .bf16} {x3 : FVec F S32x2048x4096 .f32}
    {x4 : FVec F S32x1x4096 .f32} (h : Cert.Pre_down_tables.fn (F := F) x0 x1 x2 x3 x4 = fun _ => 1#1) :
    ∃ T : Tables, x0 = T.experts ∧ x1 = T.used := by
  have h0 := congrFun h (Shape.Idx.first Gen.h_S_)
  unfold Cert.Pre_down_tables.fn at h0
  obtain ⟨h12, h3⟩ := and_one h0
  obtain ⟨h1, h2⟩ := and_one h12
  refine tables_of (fun i => ?_) (fun i => ?_) ?_
  · exact Host.reduce_andi_all _ _ _ _ _ h1 i
  · exact Host.reduce_andi_all _ _ _ _ _ h2 i
  · refine Eq.trans ?_ h3
    show IntOp.cmpi .sge (x1 (ix1 0)) 1#32 = IntOp.cmpi .sge (x1 _) 1#32
    refine congrArg (fun i => IntOp.cmpi .sge (x1 i) 1#32) (funext fun a => ?_)
    fin_cases a
    exact Subsingleton.elim (α := Fin 1) _ _

end Cert.DownTables

end
-- ==== Proof.DownRef.lean ====
module

public import proofs.«01_k».proof.Proof.Moe
public import proofs.«01_k».proof.Proof.Gen.Reference3Ideal.Read

/-! The reference's second projection of the experts, entry by entry. -/

@[expose] public section

set_option maxRecDepth 16384

noncomputable section

namespace Cert.Reference3Ideal.Entry

open Idealize.ShloMosaic Cert.Moe
open Cert.Reference3Ideal Cert.Reference3Ideal.Gen Cert.Reference3Ideal.Read

variable (T : Tables) (x2 : FVec Ideal S74752x2048 .bf16) (x3 : FVec Ideal S32x2048x4096 .f32) (x4 : FVec Ideal S32x1x4096 .f32)

theorem index_at (b : Fin 292) (z : Fin 1) : val_main_v7 (F := Ideal) T.experts (ix2 b z) = T.experts (ix1 b) := by
  rw [val_main_v7_apply, val_main_v6_apply, val_main_v3_apply, val_main_v2_apply, val_main_c_apply]
  rw [neg_bit]
  refine congrArg T.experts ?_
  funext a; fin_cases a; rfl

theorem index_at' (b : Fin 292) (z : Fin 1) : val_main_v15 (F := Ideal) T.experts (ix2 b z) = T.experts (ix1 b) := by
  rw [val_main_v15_apply, val_main_v14_apply, val_main_v11_apply, val_main_v10_apply, val_main_c_1_apply]
  rw [neg_bit]
  refine congrArg T.experts ?_
  funext a; fin_cases a; rfl

/-- A block's weights are its expert's. -/
theorem weights_at (b : Fin 292) (k : Fin 2048) (j : Fin 4096) :
    val_main_v8 (F := Ideal) T.experts x3 (ix3 b k j) = x3 (ix3 (T.expert b) k j) := by
  unfold val_main_v8
  refine congrArg x3 ?_
  funext a
  refine Fin.ext ?_
  fin_cases a
  · refine Eq.trans ?_ (clamp_expert T b)
    refine Eq.trans ?_ (congrArg (fun w : BitVec 32 => min w.toInt.toNat (32 - 1)) (index_at T b 0))
    refine congrArg (fun q : S292x1.Idx => min (BitVec.toInt (val_main_v7 (F := Ideal) T.experts q)).toNat (32 - 1)) ?_
    funext a; fin_cases a <;> rfl
  · exact Nat.zero_add _
  · exact Nat.zero_add _

theorem bias_at (b : Fin 292) (z : Fin 1) (j : Fin 4096) :
    val_main_v16 (F := Ideal) T.experts x4 (ix3 b z j) = x4 (ix3 (T.expert b) z j) := by
  unfold val_main_v16
  refine congrArg x4 ?_
  funext a
  refine Fin.ext ?_
  fin_cases a
  · refine Eq.trans ?_ (clamp_expert T b)
    refine Eq.trans ?_ (congrArg (fun w : BitVec 32 => min w.toInt.toNat (32 - 1)) (index_at' T b 0))
    refine congrArg (fun q : S292x1.Idx => min (BitVec.toInt (val_main_v15 (F := Ideal) T.experts q)).toNat (32 - 1)) ?_
    funext a; fin_cases a <;> rfl
  · exact Nat.zero_add _
  · exact Nat.zero_add _

theorem live_at (b : Fin 292) : val_main_v22 (F := Ideal) T.used (ix1 b) = BitVec.ofBool (decide (b.val < T.count)) := by
  rw [val_main_v22_apply, val_main_v19_apply, val_main_v21_apply]
  refine Eq.trans ?_ (lt_bit T b.isLt)
  refine congrArg (fun i => IntOp.cmpi .slt (BitVec.ofNat 32 b.val) (T.used i)) (funext fun a => ?_)
  fin_cases a
  exact Subsingleton.elim (α := Fin 1) _ _

/-- The reference's result at an index. -/
theorem result_at (r : Fin 74752) (j : Fin 4096) :
    val_main_v25 (F := Ideal) T.experts T.used x2 x3 x4 (ix2 r j) = downEntry T x2 x3 x4 r j := by
  have hi : idx_main_v25 (ix2 r j) = ix3 (⟨r.val / 256, by omega⟩ : Fin 292) (⟨r.val % 256, by omega⟩ : Fin 256) j := by
    funext a; refine Fin.ext ?_
    fin_cases a
    · show (r.val * 4096 + j.val) / 1048576 = r.val / 256; omega
    · show (r.val * 4096 + j.val) / 4096 % 256 = r.val % 256; omega
    · show (r.val * 4096 + j.val) % 4096 = j.val; omega
  rw [val_main_v25_apply, hi, val_main_v24_apply, val_main_call0_v1_apply, val_main_v23_apply]
  have h1 : idx_main_v23 (idx_main_call0_v1 (ix3 (⟨r.val / 256, by omega⟩ : Fin 292) (⟨r.val % 256, by omega⟩ : Fin 256) j))
      = ix1 (⟨r.val / 256, by omega⟩ : Fin 292) := by funext a; fin_cases a; rfl
  rw [h1, live_at]
  unfold downEntry
  by_cases hl : r.val / 256 < T.count
  · rw [if_pos hl, decide_eq_true (by exact hl)]
    show val_main_v18 (F := Ideal) T.experts x2 x3 x4 _ = _
    rw [val_main_v18_apply, val_main_v9_apply, val_main_v17_apply]
    have h2 : idx_main_v17 (ix3 (⟨r.val / 256, by omega⟩ : Fin 292) (⟨r.val % 256, by omega⟩ : Fin 256) j)
      = ix3 (⟨r.val / 256, by omega⟩ : Fin 292) (0 : Fin 1) j := by funext a; fin_cases a <;> rfl
    rw [h2, bias_at]
    refine congrArg (· + _) (Finset.sum_congr rfl fun k _ => ?_)
    have h3 : ridx_main_v9 (ix3 (⟨r.val / 256, by omega⟩ : Fin 292) (⟨r.val % 256, by omega⟩ : Fin 256) j) k
      = ix3 (⟨r.val / 256, by omega⟩ : Fin 292) k j := by funext a; fin_cases a <;> rfl
    rw [h3, weights_at, val_main_v1_apply]
    refine congrArg (· * _) (congrArg x2 ?_)
    funext a; refine Fin.ext ?_
    fin_cases a
    · show ((r.val / 256 * 256 + r.val % 256) * 2048 + k.val) / 2048 = r.val; omega
    · show ((r.val / 256 * 256 + r.val % 256) * 2048 + k.val) % 2048 = k.val; omega
  · rw [if_neg hl, decide_eq_false (by exact hl)]
    show val_main_call0_v2 (F := Ideal) (ix3 (⟨r.val / 256, by omega⟩ : Fin 292) (⟨r.val % 256, by omega⟩ : Fin 256) j) = 0
    rw [val_main_call0_v2_apply, val_main_call0_v0_apply, val_main_cst_apply]
    show Ideal.ofBits .f32 0x00000000#32 = 0
    simp [Ideal.ofBits, Ideal.ieee]

end Cert.Reference3Ideal.Entry

end
-- ==== Proof.DownBody.lean ====
module

public import proofs.«01_k».proof.Proof.Moe
public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Exec
public import Idealize.ShloMosaic.Lib.Tactic
public import Idealize.ShloMosaic.PureOps.Ideal
public import Idealize.ShloMosaic.Adequacy
public import Idealize.ShloMosaic.Init

/-! One grid point of the down projection, for any tables: a block whose expert differs from the block before
loads that expert's weights into the scratch, a block in use multiplies by the scratch and adds the bias, a block not
in use writes zeros. -/

@[expose] public section

set_option maxRecDepth 16384
set_option Elab.async false

noncomputable section

namespace Cert.Kernel3Ideal.Down

open Cert.Kernel3Ideal Cert.Kernel3Ideal.Gen Cert.Moe
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev expertsM : Memref sig .tc .smem S292 .i32 := Memref.whole main_arg0
abbrev usedM : Memref sig .tc .smem S1 .i32 := Memref.whole main_arg1
abbrev weightsM : Memref sig .tc .vmem S2048x1024 .bf16 := Memref.whole cc0_scratch0

/-- The word the body reads of the second table. -/
abbrev usedW (T1 : S1.Idx → Elt Ideal .i32) : BitVec 32 :=
  View.readAt (Elt Ideal) usedM.view (Rect.unit (s := S1) ![0] S1.size inb_S1_S1_0).toLoadRect T1 (Shape.Idx.first (numel1_S1.symm ▸ Nat.one_pos))

/-- A word the body reads of the first table. -/
abbrev expertW (T0 : S292.Idx → Elt Ideal .i32) (o : Fin 1 → ℕ) (h : ∀ a, o a + S1.size a ≤ S292.size a) : BitVec 32 :=
  View.readAt (Elt Ideal) expertsM.view (Rect.unit (s := S292) o S1.size h).toLoadRect T0 (Shape.Idx.first (numel1_S1.symm ▸ Nat.one_pos))

/-- Whether the body loads the weights, as it computes it. -/
abbrev loadsW (i : grid0.Coords) (T0 : S292.Idx → Elt Ideal .i32) (T1 : S1.Idx → Elt Ideal .i32) (hw : k0_chk1 i (usedW T1)) : BitVec 1 :=
  Scalar.cmpi .ne (Scalar.extui (Scalar.andi (Scalar.cmpi .sle (BitVec.ofNat 32 (i 1).val) (Scalar.subi (usedW T1) 1#32))
    (Scalar.ori (Scalar.cmpi .eq (BitVec.ofNat 32 (i 1).val) 0#32)
      (Scalar.cmpi .ne (expertW T0 (k0_off2 i (usedW T1)) (k0_off2_inb i (usedW T1) hw))
        (expertW T0 (k0_off3 i (usedW T1)) (k0_off3_inb i (usedW T1) hw)))))) 0#32

section Runs

variable (c : Dev nD) (i : grid0.Coords) (arg4 : Memref sig .tc .vmem S256x2048 .bf16) (harg4 : arg4.IsWhole)
  (arg5 : Memref sig .tc .vmem S1x2048x1024 .f32) (harg5 : arg5.IsWhole) (arg6 : Memref sig .tc .vmem S1x1x1024 .f32) (harg6 : arg6.IsWhole)
  (arg7 : Memref sig .tc .vmem S256x1024 .f32) (harg7 : arg7.IsWhole)
  (T0 : S292.Idx → Elt Ideal .i32) (T1 : S1.Idx → Elt Ideal .i32)
  (x0 : S256x2048.Idx → Elt Ideal .bf16) (x1 : S1x2048x1024.Idx → Elt Ideal .f32) (x2 : S1x1x1024.Idx → Elt Ideal .f32)

/-- The body's call. -/
abbrev call : Prog (TpuEff nD τ sig (Elt Ideal) Λ₀ .tc) PUnit :=
  cc0_moe_down i expertsM (Memref.isWhole_whole _) usedM (Memref.isWhole_whole _) arg4 harg4 arg5 harg5 arg6 harg6 arg7 harg7 weightsM (Memref.isWhole_whole _)

set_option backward.proofsInPublic true in
set_option maxHeartbeats 8000000 in
/-- A point that loads its weights. What it stores in the output's buffer and leaves in the scratch, with the run. -/
noncomputable def runLoad (hw : k0_chk1 i (usedW T1)) (h1 : loadsW i T0 T1 hw = 1#1) (h2 : k0_cond2 i (usedW T1) = 1#1) (h3 : ¬k0_cond3 i (usedW T1) = 1#1) :
    Σ' (out : List (View.Piece (Elt Ideal) S256x1024 .f32)), { scr : Buf (Elt Ideal) ((c : Thread nD τ).loc cc0_scratch0) //
      ∀ (a : Buf (Elt Ideal) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (expertsM.view.loc (c : Thread nD τ) ↦{fullShare.right} T0)
          ∗ (usedM.view.loc (c : Thread nD τ) ↦{fullShare.right} T1)
          ∗ (∃ d, owns (c : Thread nD τ) arg7 fullShare d)
          ∗ (weightsM.view.loc (c : Thread nD τ) ↦{fullShare} a)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (expertsM.view.loc (c : Thread nD τ) ↦{fullShare.right} T0)
              ∗ (usedM.view.loc (c : Thread nD τ) ↦{fullShare.right} T1)
              ∗ (∃ f, arg7.view.loc (c : Thread nD τ) ↦[arg7.view.set]{fullShare} arg7.view.writes (Elt Ideal) f out)
              ∗ (weightsM.view.loc (c : Thread nD τ) ↦{fullShare} scr)) -∗ K ⟨⟩))
          ⊢ wp frame (wpE (defs₀ (F := Ideal)) Variants.none c none) Set.univ (cc0_moe_down i expertsM (Memref.isWhole_whole _) usedM (Memref.isWhole_whole _) arg4 harg4 arg5 harg5 arg6 harg6 arg7 harg7 weightsM (Memref.isWhole_whole _)) K } :=
  ⟨_, _, fun a K => by
    unfold owns
    rw [cc0_moe_down_eq_skeleton]; unfold cc0_moe_down_skel
    iintro ⟨H0, H1, H2, HT0, HT1, ⟨%d3, %f3, -, HO⟩, HS, Hk⟩
    have hS : weightsM.IsWhole := Memref.isWhole_whole _
    have hT0 : expertsM.IsWhole := Memref.isWhole_whole _
    have hT1 : usedM.IsWhole := Memref.isWhole_whole _
    sl_exec! (disch := first | (guard_target = k0_chk1 _ _; exact hw) | (guard_target = (k0_cond2 _ _ = _); exact h2) | (guard_target = ¬(k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS⟩

set_option backward.proofsInPublic true in
set_option maxHeartbeats 8000000 in
/-- A point that keeps the weights of the point before. What it stores in the output's buffer and leaves in the scratch, with the run. -/
noncomputable def runKeep (a : Buf (Elt Ideal) ((c : Thread nD τ).loc cc0_scratch0)) (hw : k0_chk1 i (usedW T1)) (h1 : ¬loadsW i T0 T1 hw = 1#1) (h2 : k0_cond2 i (usedW T1) = 1#1) (h3 : ¬k0_cond3 i (usedW T1) = 1#1) :
    Σ' (out : List (View.Piece (Elt Ideal) S256x1024 .f32)), { scr : Buf (Elt Ideal) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (expertsM.view.loc (c : Thread nD τ) ↦{fullShare.right} T0)
          ∗ (usedM.view.loc (c : Thread nD τ) ↦{fullShare.right} T1)
          ∗ (∃ d, owns (c : Thread nD τ) arg7 fullShare d)
          ∗ (weightsM.view.loc (c : Thread nD τ) ↦{fullShare} a)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (expertsM.view.loc (c : Thread nD τ) ↦{fullShare.right} T0)
              ∗ (usedM.view.loc (c : Thread nD τ) ↦{fullShare.right} T1)
              ∗ (∃ f, arg7.view.loc (c : Thread nD τ) ↦[arg7.view.set]{fullShare} arg7.view.writes (Elt Ideal) f out)
              ∗ (weightsM.view.loc (c : Thread nD τ) ↦{fullShare} scr)) -∗ K ⟨⟩))
          ⊢ wp frame (wpE (defs₀ (F := Ideal)) Variants.none c none) Set.univ (cc0_moe_down i expertsM (Memref.isWhole_whole _) usedM (Memref.isWhole_whole _) arg4 harg4 arg5 harg5 arg6 harg6 arg7 harg7 weightsM (Memref.isWhole_whole _)) K } :=
  ⟨_, _, fun K => by
    unfold owns
    rw [cc0_moe_down_eq_skeleton]; unfold cc0_moe_down_skel
    iintro ⟨H0, H1, H2, HT0, HT1, ⟨%d3, %f3, -, HO⟩, HS, Hk⟩
    have hS : weightsM.IsWhole := Memref.isWhole_whole _
    have hT0 : expertsM.IsWhole := Memref.isWhole_whole _
    have hT1 : usedM.IsWhole := Memref.isWhole_whole _
    sl_exec! (disch := first | (guard_target = k0_chk1 _ _; exact hw) | (guard_target = (k0_cond2 _ _ = _); exact h2) | (guard_target = ¬(k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS⟩

set_option backward.proofsInPublic true in
set_option maxHeartbeats 8000000 in
/-- A point whose block is not in use. What it stores in the output's buffer and leaves in the scratch, with the run. -/
noncomputable def runIdle (a : Buf (Elt Ideal) ((c : Thread nD τ).loc cc0_scratch0)) (hw : k0_chk1 i (usedW T1)) (h1 : ¬loadsW i T0 T1 hw = 1#1) (h2 : ¬k0_cond2 i (usedW T1) = 1#1) (h3 : k0_cond3 i (usedW T1) = 1#1) :
    Σ' (out : List (View.Piece (Elt Ideal) S256x1024 .f32)), { scr : Buf (Elt Ideal) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (expertsM.view.loc (c : Thread nD τ) ↦{fullShare.right} T0)
          ∗ (usedM.view.loc (c : Thread nD τ) ↦{fullShare.right} T1)
          ∗ (∃ d, owns (c : Thread nD τ) arg7 fullShare d)
          ∗ (weightsM.view.loc (c : Thread nD τ) ↦{fullShare} a)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (expertsM.view.loc (c : Thread nD τ) ↦{fullShare.right} T0)
              ∗ (usedM.view.loc (c : Thread nD τ) ↦{fullShare.right} T1)
              ∗ (∃ f, arg7.view.loc (c : Thread nD τ) ↦[arg7.view.set]{fullShare} arg7.view.writes (Elt Ideal) f out)
              ∗ (weightsM.view.loc (c : Thread nD τ) ↦{fullShare} scr)) -∗ K ⟨⟩))
          ⊢ wp frame (wpE (defs₀ (F := Ideal)) Variants.none c none) Set.univ (cc0_moe_down i expertsM (Memref.isWhole_whole _) usedM (Memref.isWhole_whole _) arg4 harg4 arg5 harg5 arg6 harg6 arg7 harg7 weightsM (Memref.isWhole_whole _)) K } :=
  ⟨_, _, fun K => by
    unfold owns
    rw [cc0_moe_down_eq_skeleton]; unfold cc0_moe_down_skel
    iintro ⟨H0, H1, H2, HT0, HT1, ⟨%d3, %f3, -, HO⟩, HS, Hk⟩
    have hS : weightsM.IsWhole := Memref.isWhole_whole _
    have hT0 : expertsM.IsWhole := Memref.isWhole_whole _
    have hT1 : usedM.IsWhole := Memref.isWhole_whole _
    sl_exec! (disch := first | (guard_target = k0_chk1 _ _; exact hw) | (guard_target = ¬(k0_cond2 _ _ = _); exact h2) | (guard_target = (k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS⟩

set_option maxHeartbeats 1000000 in
theorem runLoad_scr (hw h1 h2 h3) : (runLoad c i arg4 harg4 arg5 harg5 arg6 harg6 arg7 harg7 T0 T1 x0 x1 x2 hw h1 h2 h3).2.1 = k0_pay1 x1 := by
  unfold runLoad
  dsimp only
  unfold runLoad.sl.HS_1
  refine (View.read_whole (Val := Elt Ideal) cc0_scratch0 _).symm.trans ?_
  rw [View.read_writes_full (s := S2048x1024) (View.whole cc0_scratch0)]
  rw [View.readAt_rep_full (s := S1x2048x1024)]

set_option maxHeartbeats 1000000 in
theorem runLoad_out (hw h1 h2 h3) (f) :
    arg7.view.read (Elt Ideal) (arg7.view.writes (Elt Ideal) f (runLoad c i arg4 harg4 arg5 harg5 arg6 harg6 arg7 harg7 T0 T1 x0 x1 x2 hw h1 h2 h3).1)
      = k0_pay2 x0 (k0_pay1 x1) x2 := by
  unfold runLoad
  dsimp only
  unfold runLoad.sl.HO_1
  refine (View.read_writes_full (s := S256x1024) arg7.view _ _ _ _).trans ?_
  rw [View.readAt_rep_full (s := S256x2048), View.readAt_rep_full (s := S1x1x1024)]
  unfold runLoad.sl.v22 runLoad.sl.HS_1
  rw [View.readCov_full (s := S2048x1024), View.readAt_rep_full (s := S1x2048x1024)]

set_option maxHeartbeats 1000000 in
theorem runKeep_scr (a hw h1 h2 h3) : (runKeep c i arg4 harg4 arg5 harg5 arg6 harg6 arg7 harg7 T0 T1 x0 x1 x2 a hw h1 h2 h3).2.1 = a := by
  unfold runKeep
  dsimp only

set_option maxHeartbeats 1000000 in
theorem runKeep_out (a hw h1 h2 h3) (f) :
    arg7.view.read (Elt Ideal) (arg7.view.writes (Elt Ideal) f (runKeep c i arg4 harg4 arg5 harg5 arg6 harg6 arg7 harg7 T0 T1 x0 x1 x2 a hw h1 h2 h3).1)
      = k0_pay2 x0 a x2 := by
  unfold runKeep
  dsimp only
  unfold runKeep.sl.HO_1
  refine (View.read_writes_full (s := S256x1024) arg7.view _ _ _ _).trans ?_
  rw [View.readAt_rep_full (s := S256x2048), View.readAt_rep_full (s := S1x1x1024)]
  rw [View.readAt_full (s := S2048x1024) (weightsM.view), View.read_whole]

set_option maxHeartbeats 1000000 in
theorem runIdle_out (a hw h1 h2 h3) (f) :
    arg7.view.read (Elt Ideal) (arg7.view.writes (Elt Ideal) f (runIdle c i arg4 harg4 arg5 harg5 arg6 harg6 arg7 harg7 T0 T1 x0 x1 x2 a hw h1 h2 h3).1)
      = k0_pay3 (F := Ideal) := by
  unfold runIdle
  dsimp only
  unfold runIdle.sl.HO_1
  exact View.read_writes_full (s := S256x1024) arg7.view _ _ _ _

end Runs

end Cert.Kernel3Ideal.Down
-- ==== Proof.DownGrid.lean ====
module

public import proofs.«01_k».proof.Proof.DownBody
public import Idealize.ShloMosaic.Lib.Affine
public import Idealize.ShloMosaic.Lib.Pipeline.ReadBack

/-! The down projection's grid at given tables: which blocks a point stages, and which of the three paths its body takes. -/

@[expose] public section

set_option maxRecDepth 16384
set_option Elab.async false

noncomputable section

namespace Cert.Kernel3Ideal.Down

open Cert.Kernel3Ideal Cert.Kernel3Ideal.Gen Cert.Moe
open Idealize.ShloMosaic
open Idealize.ShloMosaic.TcCoe Idealize.ShloMosaic.Tactic
open Idealize.SL.Sem
open Idealize.ShloMosaic.Pipeline (Dat Cfg)

variable (T : Tables)

/-- The two tables as the call prefetches them. -/
def pf : pre0.Contents (Elt Ideal) := fun | ⟨0, _⟩ => T.experts | ⟨1, _⟩ => T.used | ⟨_ + 2, h⟩ => absurd h (by simp)

theorem usedW_eq : usedW T.used = T.used (ix1 0) := by
  refine congrArg T.used ?_
  funext a; fin_cases a; rfl

theorem expertW_eq (o : Fin 1 → ℕ) (h) (k : Fin 292) (hk : o 0 = k.val) : expertW T.experts o h = T.experts (ix1 k) := by
  refine congrArg T.experts ?_
  funext a; fin_cases a; exact Fin.ext hk

theorem at1 : (pf T).at 1 (Rect.unit (s := S1) ![0] S1.size inb_S1_S1_0) numel1_S1 = T.used (ix1 0) := by
  refine congrArg T.used ?_
  funext a; fin_cases a; rfl

theorem at0 (o : Fin 1 → ℕ) (h) (k : Fin 292) (hk : o 0 = k.val) :
    (pf T).at 0 (Rect.unit (s := S292) o S1.size h) numel1_S1 = T.experts (ix1 k) := by
  refine congrArg T.experts ?_
  funext a; fin_cases a; exact Fin.ext hk

theorem atD1 : (pf T).atD 1 ![0] = T.used (ix1 0) := by
  refine (dif_pos (fun a => by fin_cases a; decide)).trans ?_
  refine congrArg T.used ?_
  funext a; fin_cases a; rfl

theorem c0_lt (i : grid0.Coords) : (i 0).val < 4 := (i 0).isLt
theorem c1_lt (i : grid0.Coords) : (i 1).val < 292 := (i 1).isLt

theorem toNat0 (i : grid0.Coords) : (BitVec.ofNat 32 (i 0).val).toNat = (i 0).val := by
  rw [BitVec.toNat_ofNat]; have := c0_lt i; omega

/-- The block of rows a point stages: its own, or the last one in use. -/
theorem tr0 (i : grid0.Coords) : cc0_transform_0 inb_S1_S1_0 numel1_S1 (pf T) i = ![min (i 1).val (T.count - 1), 0] := by
  unfold cc0_transform_0
  dsimp only
  rw [at1]
  exact congrArg (fun n => ![n, 0]) (min_pred T (c1_lt i))

theorem tr1 (i : grid0.Coords) : cc0_transform_1 k0_off1_inb numel1_S1 (pf T) i = ![(T.expert ⟨(i 1).val, c1_lt i⟩).val, 0, (i 0).val] := by
  show ![((pf T).at 0 (Rect.unit (s := S292) (k0_off1 i) S1.size (k0_off1_inb i)) numel1_S1).toNat, 0, (BitVec.ofNat 32 (i 0).val).toNat] = _
  rw [at0 T (k0_off1 i) (k0_off1_inb i) ⟨(i 1).val, c1_lt i⟩ (toNat_ofNat (c1_lt i)), toNat0]
  rfl

theorem tr2 (i : grid0.Coords) : cc0_transform_2 k0_off1_inb numel1_S1 (pf T) i = ![(T.expert ⟨(i 1).val, c1_lt i⟩).val, 0, (i 0).val] := tr1 T i

theorem tr3 (i : grid0.Coords) : cc0_transform_3 i = ![(i 1).val, (i 0).val] := by
  unfold cc0_transform_3
  dsimp only
  rw [toNat0, toNat_ofNat (c1_lt i)]

/-- Every block the tables name lies inside its array. -/
theorem ok : ok0 (F := Ideal) (pf T) := by
  refine ⟨fun i => ⟨fun a => ?_, .inr (Affine.block_words_dvd (s := S74752x2048) (p := EltTy.packing .bf16) (by decide) (by decide))⟩,
    fun i => ⟨fun a => ?_, .inl rfl⟩, fun i => ⟨fun a => ?_, .inl rfl⟩⟩
  · rw [tr0]; have := c1_lt i
    fin_cases a
    · show (min (i 1).val (T.count - 1) + 1) * 256 ≤ 74752; omega
    · show (0 + 1) * 2048 ≤ 2048; omega
  · rw [tr1]; have := (T.expert ⟨(i 1).val, c1_lt i⟩).isLt; have := c0_lt i
    fin_cases a
    · show ((T.expert ⟨(i 1).val, c1_lt i⟩).val + 1) * 1 ≤ 32; omega
    · show (0 + 1) * _ ≤ _; decide
    · show ((i 0).val + 1) * 1024 ≤ 4096; omega
  · rw [tr2]; have := (T.expert ⟨(i 1).val, c1_lt i⟩).isLt; have := c0_lt i
    fin_cases a
    · show ((T.expert ⟨(i 1).val, c1_lt i⟩).val + 1) * 1 ≤ 32; omega
    · show (0 + 1) * _ ≤ _; decide
    · show ((i 0).val + 1) * 1024 ≤ 4096; omega

def adm : (pcfg0 (F := Ideal)).Adm := ⟨pf T, ok T⟩
abbrev cfgA : Pipeline.Cfg sig Λ₀ := cfg0 (F := Ideal) (adm T)
abbrev pcs : Fin 1 → Pipeline.Cfg sig Λ₀ := Pipeline.pin (pcfgs (F := Ideal)) fun _ => adm T

/-- A point's coordinates. -/
abbrev crd (t : Fin (cfgA T).N) : grid0.Coords := grid0.coords t

theorem crd_all : ∀ t : Fin grid0.N, (grid0.coords t 0).val = t.val / 292 ∧ (grid0.coords t 1).val = t.val % 292 := by decide +kernel

theorem N_lt (t : Fin (cfgA T).N) : t.val < 1168 := t.isLt

/-- The block of rows and the block of columns a point computes. -/
def rowB (t : Fin (cfgA T).N) : Fin 292 := ⟨t.val % 292, by omega⟩
def colB (t : Fin (cfgA T).N) : Fin 4 := ⟨t.val / 292, by have := N_lt T t; omega⟩

theorem crd1 (t : Fin (cfgA T).N) : (⟨(crd T t 1).val, c1_lt _⟩ : Fin 292) = rowB T t := Fin.ext (crd_all t).2
theorem crd1v (t : Fin (cfgA T).N) : (crd T t 1).val = (rowB T t).val := (crd_all t).2
theorem crd0v (t : Fin (cfgA T).N) : (crd T t 0).val = (colB T t).val := (crd_all t).1

/-- A point whose block is in use. -/
def live (t : Fin (cfgA T).N) : Prop := (rowB T t).val < T.count

instance (t : Fin (cfgA T).N) : Decidable (live T t) := inferInstanceAs (Decidable (_ < _))

/-! The words the body computes at a point. -/

theorem chk (i : grid0.Coords) : k0_chk1 i (usedW T.used) := by
  rw [usedW_eq]
  have := c1_lt i
  refine ⟨fun a => ?_, fun a => ?_⟩ <;> fin_cases a
  · show (IntOp.minsi (BitVec.ofNat 32 (i 1).val) (T.used (ix1 0) - 1#32)).toNat + 1 ≤ 292
    rw [min_pred T (c1_lt i)]; omega
  · show (IntOp.maxsi (IntOp.minsi (BitVec.ofNat 32 (i 1).val) (T.used (ix1 0) - 1#32) - 1#32) 0#32).toNat + 1 ≤ 292
    rw [max_pred T (c1_lt i)]; omega

theorem cond2_eq (i : grid0.Coords) : k0_cond2 i (usedW T.used) = BitVec.ofBool (decide ((i 1).val < T.count)) := by
  rw [usedW_eq]
  show IntOp.cmpi .ne ((IntOp.cmpi .sle (BitVec.ofNat 32 (i 1).val) (T.used (ix1 0) - 1#32)).setWidth 32) 0#32 = _
  rw [live_bit T (c1_lt i), ext_ne]

theorem cond3_eq (i : grid0.Coords) : k0_cond3 i (usedW T.used) = BitVec.ofBool (!decide ((i 1).val < T.count)) := by
  rw [usedW_eq]
  show IntOp.cmpi .ne ((IntOp.cmpi .sle (BitVec.ofNat 32 (i 1).val) (T.used (ix1 0) - 1#32) ^^^ 1#1).setWidth 32) 0#32 = _
  rw [live_bit T (c1_lt i), not_bit, ext_ne]

/-- The body loads the weights at a block in use that is the first or whose expert is not the one before. -/
theorem loads_eq (i : grid0.Coords) (hw) : loadsW i T.experts T.used hw = BitVec.ofBool (decide ((i 1).val < T.count)
    && (decide ((i 1).val = 0) || decide (T.experts (ix1 ⟨min (i 1).val (T.count - 1), by have := c1_lt i; omega⟩)
        ≠ T.experts (ix1 ⟨min (i 1).val (T.count - 1) - 1, by have := c1_lt i; omega⟩)))) := by
  unfold loadsW
  rw [expertW_eq T (k0_off2 i (usedW T.used)) _ ⟨min (i 1).val (T.count - 1), by have := c1_lt i; omega⟩
      (by rw [usedW_eq]; exact min_pred T (c1_lt i)),
    expertW_eq T (k0_off3 i (usedW T.used)) _ ⟨min (i 1).val (T.count - 1) - 1, by have := c1_lt i; omega⟩
      (by rw [usedW_eq]; exact max_pred T (c1_lt i)), usedW_eq]
  show IntOp.cmpi .ne ((IntOp.cmpi .sle (BitVec.ofNat 32 (i 1).val) (T.used (ix1 0) - 1#32)
    &&& (IntOp.cmpi .eq (BitVec.ofNat 32 (i 1).val) 0#32 ||| IntOp.cmpi .ne _ _)).setWidth 32) 0#32 = _
  rw [live_bit T (c1_lt i), eq_zero_bit (c1_lt i), ne_bit (T.experts _), or_bit, and_bit, ext_ne]

/-- Every point writes its block of the output. -/
theorem not_idle (t : Fin (cfgA T).N) : (cfgA T).idle (3 : Fin 4) ((cfgA T).grid.coords t) = false := by
  have h2 := cond2_eq T (crd T t)
  have h3 := cond3_eq T (crd T t)
  rw [usedW_eq, ← atD1] at h2 h3
  show (!(k0_cond2 (crd T t) ((pf T).atD 1 ![0]) == 1#1) && !(k0_cond3 (crd T t) ((pf T).atD 1 ![0]) == 1#1)) = false
  rw [h2, h3]
  by_cases h : (crd T t 1).val < T.count <;> simp [h]

end Cert.Kernel3Ideal.Down
-- ==== Proof.DownBlocks.lean ====
module

public import proofs.«01_k».proof.Proof.DownGrid

/-! What each window of the down projection stages, read off the arrays at launch. -/

@[expose] public section

set_option maxRecDepth 16384
set_option Elab.async false

noncomputable section

namespace Cert.Kernel3Ideal.Down

open Cert.Kernel3Ideal Cert.Kernel3Ideal.Gen Cert.Moe
open Idealize.ShloMosaic
open Idealize.ShloMosaic.TcCoe Idealize.ShloMosaic.Tactic
open Idealize.SL.Sem
open Idealize.ShloMosaic.Pipeline (Dat Cfg)

variable (T : Tables) (m : (ℓ : Loc nD τ sig) → Buf (Elt Ideal) ℓ) (ρ : Dev nD → PrngReg)

/-- Window `w`'s block at point `t`. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

theorem index0 (t : Fin (cfgA T).N) : ((cfgA T).win (0 : Fin 4)).index t = ![min (rowB T t).val (T.count - 1), 0] := by
  rw [← crd1v]; exact tr0 T (crd T t)
theorem index1 (t : Fin (cfgA T).N) : ((cfgA T).win (1 : Fin 4)).index t = ![(T.expert (rowB T t)).val, 0, (colB T t).val] := by
  rw [← crd1, ← crd0v]; exact tr1 T (crd T t)
theorem index2 (t : Fin (cfgA T).N) : ((cfgA T).win (2 : Fin 4)).index t = ![(T.expert (rowB T t)).val, 0, (colB T t).val] := by
  rw [← crd1, ← crd0v]; exact tr2 T (crd T t)
theorem index3 (t : Fin (cfgA T).N) : ((cfgA T).win (3 : Fin 4)).index t = ![(rowB T t).val, (colB T t).val] := by
  rw [← crd1v, ← crd0v]; exact tr3 (crd T t)

/-- The rows of activations a point in use stages. -/
theorem blk0 (c : Dev nD) (t : Fin (cfgA T).N) (ht : live T t) (a : Fin 256) (k : Fin 2048) :
    iblk T m ρ c (0 : Fin 4) t (ix2 a k) = m ((c.tc : Thread nD τ).loc main_arg2) (ix2 ⟨(rowB T t).val * 256 + a.val, by omega⟩ k) := by
  have hm : min (rowB T t).val (T.count - 1) = (rowB T t).val := by unfold live at ht; omega
  have hi := index0 T t
  rw [hm] at hi
  blk_simp [iblk]
  blk_ext [iblk, hi]

/-- The expert's weights a point stages. -/
theorem blk1 (c : Dev nD) (t : Fin (cfgA T).N) (z : Fin 1) (a : Fin 2048) (k : Fin 1024) :
    iblk T m ρ c (1 : Fin 4) t (ix3 z a k) = m ((c.tc : Thread nD τ).loc main_arg3)
      (ix3 (T.expert (rowB T t)) a ⟨(colB T t).val * 1024 + k.val, by omega⟩) := by
  blk_simp [iblk]
  blk_ext [iblk, index1 T t]

/-- The expert's bias a point stages. -/
theorem blk2 (c : Dev nD) (t : Fin (cfgA T).N) (z z' : Fin 1) (k : Fin 1024) :
    iblk T m ρ c (2 : Fin 4) t (ix3 z z' k) = m ((c.tc : Thread nD τ).loc main_arg4)
      (ix3 (T.expert (rowB T t)) z' ⟨(colB T t).val * 1024 + k.val, by omega⟩) := by
  blk_simp [iblk]
  blk_ext [iblk, index2 T t]

end Cert.Kernel3Ideal.Down
-- ==== Proof.DownFrame.lean ====
module

public import proofs.«01_k».proof.Proof.DownBlocks
public import Idealize.ShloMosaic.Lib.Pipeline.Quiescent
public import Idealize.ShloMosaic.Lib.Claim

/-! The down projection's call, run to its end at given tables. The scratch holds, before a point, the weights of the
point before if that point's block was in use; so a block whose expert is that of the block before finds its own
expert's weights there. -/

@[expose] public section

set_option maxRecDepth 16384
set_option Elab.async false

noncomputable section

namespace Cert.Kernel3Ideal.Down

open Cert.Kernel3Ideal Cert.Kernel3Ideal.Gen Cert.Moe
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (T : Tables) (m : (ℓ : Loc nD τ sig) → Buf (Elt Ideal) ℓ) (ρ : Dev nD → PrngReg)

/-- Each window's staging buffer at a point. -/
abbrev st0 (t : Fin (cfgA T).N) : Memref sig .tc .vmem S256x2048 .bf16 := spec0_0.stage ((cfgA T).slots t (0 : Fin 4))
abbrev hst0 (t : Fin (cfgA T).N) : (st0 T t).IsWhole := hstage0_0 (((cfgA T).slots t (0 : Fin 4)).cast nbuf0_0)
abbrev st1 (t : Fin (cfgA T).N) : Memref sig .tc .vmem S1x2048x1024 .f32 := spec0_1.stage ((cfgA T).slots t (1 : Fin 4))
abbrev hst1 (t : Fin (cfgA T).N) : (st1 T t).IsWhole := hstage0_1 (((cfgA T).slots t (1 : Fin 4)).cast nbuf0_1)
abbrev st2 (t : Fin (cfgA T).N) : Memref sig .tc .vmem S1x1x1024 .f32 := spec0_2.stage ((cfgA T).slots t (2 : Fin 4))
abbrev hst2 (t : Fin (cfgA T).N) : (st2 T t).IsWhole := hstage0_2 (((cfgA T).slots t (2 : Fin 4)).cast nbuf0_2)
abbrev st3 (t : Fin (cfgA T).N) : Memref sig .tc .vmem S256x1024 .f32 := spec0_3.stage ((cfgA T).slots t (3 : Fin 4))
abbrev hst3 (t : Fin (cfgA T).N) : (st3 T t).IsWhole := hstage0_3 (((cfgA T).slots t (3 : Fin 4)).cast nbuf0_3)

/-- The weights a point multiplies by. -/
def wts (c : Dev nD) (t : Fin (cfgA T).N) : S2048x1024.Idx → Elt Ideal .bf16 := k0_pay1 (iblk T m ρ c (1 : Fin 4) t)

/-- What a point writes. -/
def outBlk (c : Dev nD) (t : Fin (cfgA T).N) : S256x1024.Idx → Elt Ideal .f32 :=
  if live T t then k0_pay2 (iblk T m ρ c (0 : Fin 4) t) (wts T m ρ c t) (iblk T m ρ c (2 : Fin 4) t) else k0_pay3 (F := Ideal)

/-- Points of one column block with one expert have the same weights. -/
theorem wts_eq (c : Dev nD) (s t : Fin (cfgA T).N) (hc : colB T s = colB T t) (he : T.expert (rowB T s) = T.expert (rowB T t)) :
    wts T m ρ c s = wts T m ρ c t := by
  unfold wts
  refine congrArg (k0_pay1 (F := Ideal)) ?_
  funext x
  obtain ⟨z, a, k, rfl⟩ : ∃ (z : Fin 1) (a : Fin 2048) (k : Fin 1024), x = ix3 z a k := ⟨x 0, x 1, x 2, by funext q; fin_cases q <;> rfl⟩
  refine (blk1 T m ρ c s z a k).trans (Eq.trans ?_ (blk1 T m ρ c t z a k).symm)
  rw [he]; simp only [hc]

/-- What the scratch is known to hold before position `n`. -/
def Held (c : Dev nD) (n : ℕ) (a : S2048x1024.Idx → Elt Ideal .bf16) : Prop :=
  ∀ s : Fin (cfgA T).N, s.val + 1 = n → live T s → a = wts T m ρ c s

def Phi (c : Dev nD) (t : Fin ((cfgA T).N + 1)) : sProp 𝕄 :=
  iprop((∃ a, ⌜Held T m ρ c t.val a⌝ ∗ (weightsM.view.loc (c : Thread nD τ) ↦{fullShare} a))
    ∗ (expertsM.view.loc (c : Thread nD τ) ↦{fullShare.right} T.experts) ∗ (usedM.view.loc (c : Thread nD τ) ↦{fullShare.right} T.used))

/-- The call's data. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => outBlk T m ρ c t
  Φ t := Phi T m ρ c t
  q _ := fullShare
  owed _ := 0

theorem after0 (c : Dev nD) (t : Fin (cfgA T).N) : (dats T m ρ 0 c).after (0 : Fin 4) t = iblk T m ρ c (0 : Fin 4) t := rfl
theorem after1 (c : Dev nD) (t : Fin (cfgA T).N) : (dats T m ρ 0 c).after (1 : Fin 4) t = iblk T m ρ c (1 : Fin 4) t := rfl
theorem after2 (c : Dev nD) (t : Fin (cfgA T).N) : (dats T m ρ 0 c).after (2 : Fin 4) t = iblk T m ρ c (2 : Fin 4) t := rfl
theorem after3 (c : Dev nD) (t : Fin (cfgA T).N) : (dats T m ρ 0 c).after (3 : Fin 4) t = outBlk T m ρ c t := rfl

/-- A staged input holds its block. -/
theorem before0 (c : Dev nD) (t : Fin (cfgA T).N) (d) : (dats T m ρ 0 c).before (0 : Fin 4) t d = iblk T m ρ c (0 : Fin 4) t :=
  ((dats T m ρ 0 c).before_in_eq_fetched (0 : Fin 4) rfl (fun _ => rfl) (fun _ _ _ => rfl)
    (fun t => by rw [after0]; unfold Dat.blockOf iblk; rfl) t d).trans (by unfold Dat.fetched Dat.blockOf iblk; rfl)
theorem before1 (c : Dev nD) (t : Fin (cfgA T).N) (d) : (dats T m ρ 0 c).before (1 : Fin 4) t d = iblk T m ρ c (1 : Fin 4) t :=
  ((dats T m ρ 0 c).before_in_eq_fetched (1 : Fin 4) rfl (fun _ => rfl) (fun _ _ _ => rfl)
    (fun t => by rw [after1]; unfold Dat.blockOf iblk; rfl) t d).trans (by unfold Dat.fetched Dat.blockOf iblk; rfl)
theorem before2 (c : Dev nD) (t : Fin (cfgA T).N) (d) : (dats T m ρ 0 c).before (2 : Fin 4) t d = iblk T m ρ c (2 : Fin 4) t :=
  ((dats T m ρ 0 c).before_in_eq_fetched (2 : Fin 4) rfl (fun _ => rfl) (fun _ _ _ => rfl)
    (fun t => by rw [after2]; unfold Dat.blockOf iblk; rfl) t d).trans (by unfold Dat.fetched Dat.blockOf iblk; rfl)

theorem held_here (c : Dev nD) (t : Fin (cfgA T).N) : Held T m ρ c (t.val + 1) (wts T m ρ c t) := by
  intro s hs _
  have : s = t := Fin.ext (by omega)
  rw [this]

theorem held_idle (c : Dev nD) (t : Fin (cfgA T).N) (ht : ¬live T t) (a) : Held T m ρ c (t.val + 1) a := by
  intro s hs hl
  have : s = t := Fin.ext (by omega)
  exact absurd (this ▸ hl) ht

/-- At a point in use that loads nothing, the scratch already holds the point's weights. -/
theorem held_keep (c : Dev nD) (t : Fin (cfgA T).N) (ht : live T t) (h1 : ¬loadsW (crd T t) T.experts T.used (chk T (crd T t)) = 1#1)
    (a) (ha : Held T m ρ c t.val a) : a = wts T m ρ c t := by
  rw [loads_eq, bit_one] at h1
  have hr := crd1v T t
  have hl : (crd T t 1).val < T.count := by rw [hr]; exact ht
  simp only [hl, decide_true, Bool.true_and, Bool.or_eq_true, decide_eq_true_eq, not_or, not_not] at h1
  obtain ⟨h0, he⟩ := h1
  have hN := N_lt T t
  have hv : (rowB T t).val = t.val % 292 := rfl
  have hs : t.val - 1 < (cfgA T).N := lt_of_le_of_lt (Nat.sub_le _ _) t.isLt
  have hne : t.val % 292 ≠ 0 := by rw [← hv, ← hr]; exact h0
  have hls : live T ⟨t.val - 1, hs⟩ := by
    show (t.val - 1) % 292 < T.count
    have : t.val % 292 < T.count := ht
    omega
  rw [ha ⟨t.val - 1, hs⟩ (by show t.val - 1 + 1 = t.val; omega) hls]
  refine wts_eq T m ρ c _ _ (Fin.ext ?_) (Fin.ext ?_)
  · show (t.val - 1) / 292 = t.val / 292; omega
  · show (T.experts (ix1 _)).toNat = (T.experts (ix1 _)).toNat
    have e1 : (⟨min (crd T t 1).val (T.count - 1), by have := c1_lt (crd T t); omega⟩ : Fin 292) = rowB T t :=
      Fin.ext (by show min (crd T t 1).val (T.count - 1) = (rowB T t).val; omega)
    have e2 : (⟨min (crd T t 1).val (T.count - 1) - 1, by have := c1_lt (crd T t); omega⟩ : Fin 292) = rowB T ⟨t.val - 1, hs⟩ :=
      Fin.ext (by show min (crd T t 1).val (T.count - 1) - 1 = (t.val - 1) % 292; omega)
    rw [e1, e2] at he
    rw [he]

/-- The body at a point, as the call runs it. -/
abbrev bodyAt (t : Fin (cfgA T).N) : Prog (TpuEff nD τ sig (Elt Ideal) Λ₀ .tc) PUnit :=
  cc0_moe_down (crd T t) expertsM (Memref.isWhole_whole _) usedM (Memref.isWhole_whole _) (st0 T t) (hst0 T t) (st1 T t) (hst1 T t)
    (st2 T t) (hst2 T t) (st3 T t) (hst3 T t) weightsM (Memref.isWhole_whole _)

set_option maxHeartbeats 4000000 in
theorem sound_body (c : Dev nD) (t : Fin (cfgA T).N) :
    iprop((dats T m ρ 0 c).Φ t.castSucc ∗ (dats T m ρ 0 c).owesAt () t.castSucc
        ∗ (∃ d, owns (c : Thread nD τ) (st0 T t) fullShare ((dats T m ρ 0 c).before (0 : Fin 4) t d))
        ∗ (∃ d, owns (c : Thread nD τ) (st1 T t) fullShare ((dats T m ρ 0 c).before (1 : Fin 4) t d))
        ∗ (∃ d, owns (c : Thread nD τ) (st2 T t) fullShare ((dats T m ρ 0 c).before (2 : Fin 4) t d))
        ∗ (∃ d, owns (c : Thread nD τ) (st3 T t) fullShare ((dats T m ρ 0 c).before (3 : Fin 4) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i3 := not_idle T t
  have hw := chk T (crd T t)
  have c2 := cond2_eq T (crd T t)
  have c3 := cond3_eq T (crd T t)
  rw [crd1v] at c2 c3
  rewrite [i3]
  simp only [before0, before1, before2, after0, after1, after2, after3]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  rewrite [Fin.val_castSucc, Fin.val_succ]
  iintro ⟨⟨⟨%a, %ha, HS⟩, HT0, HT1⟩, Ho, ⟨%d0, H0⟩, ⟨%d1, H1⟩, ⟨%d2, H2⟩, ⟨%d3, H3⟩⟩
  by_cases hl : live T t
  · have hn : (rowB T t).val < T.count := hl
    have h2 : k0_cond2 (crd T t) (usedW T.used) = 1#1 := by rw [c2, decide_eq_true hn]; rfl
    have h3 : ¬k0_cond3 (crd T t) (usedW T.used) = 1#1 := by rw [c3, decide_eq_true hn]; decide
    by_cases h1 : loadsW (crd T t) T.experts T.used hw = 1#1
    · iapply ((runLoad c (crd T t) (st0 T t) (hst0 T t) (st1 T t) (hst1 T t) (st2 T t) (hst2 T t) (st3 T t) (hst3 T t) T.experts T.used
        (iblk T m ρ c (0 : Fin 4) t) (iblk T m ρ c (1 : Fin 4) t) (iblk T m ρ c (2 : Fin 4) t) hw h1 h2 h3).2.2 a _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS]; · iexact HS
      iintro ⟨H0, H1, H2, HT0, HT1, ⟨%e3, H3⟩, HS⟩
      isplitl [HS HT0 HT1]
      · isplitl [HS]
        · iexists _; isplitr; swap
          · iexact HS
          · ipureintro; rw [runLoad_scr]; exact held_here T m ρ c t
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; unfold outBlk wts; rw [if_pos hl]; exact runLoad_out c _ _ _ _ _ _ _ _ _ _ _ _ _ _ hw h1 h2 h3 e3
    · iapply ((runKeep c (crd T t) (st0 T t) (hst0 T t) (st1 T t) (hst1 T t) (st2 T t) (hst2 T t) (st3 T t) (hst3 T t) T.experts T.used
        (iblk T m ρ c (0 : Fin 4) t) (iblk T m ρ c (1 : Fin 4) t) (iblk T m ρ c (2 : Fin 4) t) a hw h1 h2 h3).2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS]; · iexact HS
      iintro ⟨H0, H1, H2, HT0, HT1, ⟨%e3, H3⟩, HS⟩
      isplitl [HS HT0 HT1]
      · isplitl [HS]
        · iexists _; isplitr; swap
          · iexact HS
          · ipureintro; rw [runKeep_scr, held_keep T m ρ c t hl h1 a ha]; exact held_here T m ρ c t
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; unfold outBlk; rw [if_pos hl, ← held_keep T m ρ c t hl h1 a ha]
        exact runKeep_out c _ _ _ _ _ _ _ _ _ _ _ _ _ _ a hw h1 h2 h3 e3
  · have hn : ¬(rowB T t).val < T.count := hl
    have h2 : ¬k0_cond2 (crd T t) (usedW T.used) = 1#1 := by rw [c2, decide_eq_false hn]; decide
    have h3 : k0_cond3 (crd T t) (usedW T.used) = 1#1 := by rw [c3, decide_eq_false hn]; rfl
    have h1 : ¬loadsW (crd T t) T.experts T.used hw = 1#1 := by
      have hc : ¬(crd T t 1).val < T.count := by rw [crd1v]; exact hn
      rw [loads_eq, bit_one, decide_eq_false hc, Bool.false_and]; decide
    iapply ((runIdle c (crd T t) (st0 T t) (hst0 T t) (st1 T t) (hst1 T t) (st2 T t) (hst2 T t) (st3 T t) (hst3 T t) T.experts T.used
      (iblk T m ρ c (0 : Fin 4) t) (iblk T m ρ c (1 : Fin 4) t) (iblk T m ρ c (2 : Fin 4) t) a hw h1 h2 h3).2.2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    isplitl [HS]; · iexact HS
    iintro ⟨H0, H1, H2, HT0, HT1, ⟨%e3, H3⟩, HS⟩
    isplitl [HS HT0 HT1]
    · isplitl [HS]
      · iexists _; isplitr; swap
        · iexact HS
        · ipureintro; exact held_idle T m ρ c t hl _
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; unfold outBlk; rw [if_neg hl]; exact runIdle_out c _ _ _ _ _ _ _ _ _ _ _ _ _ _ a hw h1 h2 h3 e3

theorem body_obligation (c : Dev nD) : BodyObligation (dats T m ρ 0 c) (defs₀ (F := Ideal)) Variants.none () Set.univ := fun t => by
  rw [bigSep_W0]
  exact sound_body T m ρ c t

/-! The launch. -/

def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a, HS⟩⟩
  isplitl [HS]
  · iexists a; isplitr; swap
    · iexact HS
    · ipureintro; intro s hs; exact absurd hs (Nat.succ_ne_zero _)
  isplitl [HT0]
  · iexact HT0
  iexact HT1

theorem phi_last (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a, -, HS⟩, -, -⟩
  isplitr; · iempintro
  iexists a; iexact HS

/-- Memory holds the tables. -/
def Pinned : Prop := ∀ c : Dev nD, m ((c : Thread nD τ).loc main_arg0) = T.experts ∧ m ((c : Thread nD τ).loc main_arg1) = T.used

/-- Every array ends at what the points wrote, every table as it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact (hp c).1
  · exact (hp c).2

set_option backward.isDefEq.respectTransparency.types false in
set_option maxHeartbeats 4000000 in
theorem run_main (hp : Pinned T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run, with the arguments unchanged, the semaphores at zero and the result at what the points wrote. -/
theorem run_all (hp : Pinned T m) :
    θ_run (defs (F := Ideal)) (onTc (τ := τ) (main (F := Ideal))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, r.2.mem (((cfgA T).win (3 : Fin 4)).arr.view.loc (c : Thread nD τ)) = (dats T m ρ 0 c).arrAt (3 : Fin 4) (cfgA T).N) :=
  (θ_run defs _ _).mono (fun _ h => ⟨⟨fun c => ⟨((h.1 c).2 0).trans (hp c).1.symm, ((h.1 c).2 1).trans (hp c).2.symm,
    ((h.1 c).1 (0 : Fin 4)).trans ((dats T m ρ 0 c).arrAt_in (0 : Fin 4) rfl _),
    ((h.1 c).1 (1 : Fin 4)).trans ((dats T m ρ 0 c).arrAt_in (1 : Fin 4) rfl _),
    ((h.1 c).1 (2 : Fin 4)).trans ((dats T m ρ 0 c).arrAt_in (2 : Fin 4) rfl _)⟩, h.2⟩, fun c => (h.1 c).1 (3 : Fin 4)⟩) (run_main T m ρ hp)

end Cert.Kernel3Ideal.Down
-- ==== Proof.DownValue.lean ====
module

public import proofs.«01_k».proof.Proof.DownFrame

/-! The down projection's result, entry by entry. -/

@[expose] public section

set_option maxRecDepth 16384
set_option Elab.async false

noncomputable section

namespace Cert.Kernel3Ideal.Down

open Cert.Kernel3Ideal Cert.Kernel3Ideal.Gen Cert.Moe
open Idealize.ShloMosaic
open Idealize.ShloMosaic.TcCoe Idealize.ShloMosaic.Tactic
open Idealize.SL.Sem
open Idealize.ShloMosaic.Pipeline (Dat Cfg Window)

variable (T : Tables) (m : (ℓ : Loc nD τ sig) → Buf (Elt Ideal) ℓ) (ρ : Dev nD → PrngReg)

/-- The weights in the compute type are the weights. -/
theorem pay1_at (w : S1x2048x1024.Idx → Elt Ideal .f32) (a : Fin 2048) (k : Fin 1024) : k0_pay1 (F := Ideal) w (ix2 a k) = w (ix3 0 a k) := by
  pointwise [k0_pay1]

/-- The block in use: a product and a bias. -/
theorem pay2_at (x : S256x2048.Idx → Elt Ideal .bf16) (w : S2048x1024.Idx → Elt Ideal .bf16) (b : S1x1x1024.Idx → Elt Ideal .f32)
    (a : Fin 256) (k : Fin 1024) :
    k0_pay2 (F := Ideal) x w b (ix2 a k) = (∑ d : Fin 2048, x (ix2 a d) * w (ix2 d k)) + b (ix3 0 0 k) := by
  pointwise [k0_pay2]

theorem pay3_at (i) : k0_pay3 (F := Ideal) i = 0 := by
  unfold k0_pay3
  show Ideal.ofBits .f32 0x00000000#32 = 0
  simp [Ideal.ofBits, Ideal.ieee]

/-- What a point writes at an index of its block. -/
theorem outBlk_at (c : Dev nD) (t : Fin (cfgA T).N) (a : Fin 256) (k : Fin 1024) :
    outBlk T m ρ c t (ix2 a k) = downEntry T (m ((c.tc : Thread nD τ).loc main_arg2)) (m ((c.tc : Thread nD τ).loc main_arg3))
      (m ((c.tc : Thread nD τ).loc main_arg4)) ⟨(rowB T t).val * 256 + a.val, by omega⟩ ⟨(colB T t).val * 1024 + k.val, by omega⟩ := by
  have hr : (⟨((rowB T t).val * 256 + a.val) / 256, by omega⟩ : Fin 292) = rowB T t := Fin.ext (by show _ / 256 = _; omega)
  unfold outBlk downEntry
  by_cases hl : live T t
  · have hl' : ((rowB T t).val * 256 + a.val) / 256 < T.count := by unfold live at hl; omega
    rw [if_pos hl, if_pos hl', pay2_at, hr, blk2]
    refine congrArg (· + _) (Finset.sum_congr rfl fun d _ => ?_)
    rw [blk0 T m ρ c t hl]
    unfold wts
    rw [pay1_at, blk1]
  · have hl' : ¬((rowB T t).val * 256 + a.val) / 256 < T.count := by unfold live at hl; omega
    rw [if_neg hl, if_neg hl', pay3_at]

/-- Every point writes its block back. -/
theorem flush3 (t : Fin (cfgA T).N) : ((cfgA T).win (3 : Fin 4)).flush t = true := by
  unfold Window.flush
  refine Bool.and_eq_true_iff.2 ⟨rfl, ?_⟩
  by_cases h : t.val + 1 = 1168
  · exact Bool.or_eq_true_iff.2 (.inl (decide_eq_true h))
  · refine Bool.or_eq_true_iff.2 (.inr (decide_eq_true ⟨by have := N_lt T t; show t.val + 1 < 1168; omega, fun e => ?_⟩))
    rw [index3, index3] at e
    have e0 : (t.val + 1) % 292 = t.val % 292 := congrFun e 0
    omega

/-- The blocks cover the array. -/
theorem covers : ((cfgA T).win (3 : Fin 4)).Covers := by
  refine ⟨fun a => by fin_cases a <;> exact Nat.succ_pos _, fun β => ?_⟩
  have h0 : (β 0).val < 292 := lt_of_lt_of_eq (β 0).isLt (show (74752 + 256 - 1) / 256 = 292 by norm_num)
  have h1 : (β 1).val < 4 := lt_of_lt_of_eq (β 1).isLt (show (4096 + 1024 - 1) / 1024 = 4 by norm_num)
  refine ⟨⟨(β 1).val * 292 + (β 0).val, by show _ < 1168; omega⟩, flush3 T _, fun a => ⟨?_, .inl ?_⟩⟩
  · rw [index3]
    fin_cases a
    · show ((β 1).val * 292 + (β 0).val) % 292 = (β 0).val; omega
    · show ((β 1).val * 292 + (β 0).val) / 292 = (β 1).val; omega
  · fin_cases a <;> rfl

theorem final (c : Dev nD) : (dats T m ρ 0 c).arrAt (3 : Fin 4) (cfgA T).N
    = fun i => downEntry T (m ((c.tc : Thread nD τ).loc main_arg2)) (m ((c.tc : Thread nD τ).loc main_arg3))
      (m ((c.tc : Thread nD τ).loc main_arg4)) (i 0) (i 1) := by
  refine (dats T m ρ 0 c).arrAt_eq_of_covers (3 : Fin 4) _ (covers T) fun t hf y => ?_
  blk_simp
  rw [after3]
  idx_vars y
  refine (outBlk_at T m ρ c t _ _).trans ?_
  refine congr (congrArg _ (Fin.ext ?_)) (Fin.ext ?_)
  · blk_simp [index3 T t]
  · blk_simp [index3 T t]

end Cert.Kernel3Ideal.Down
-- ==== Proof.DownBitsBody.lean ====
module

public import proofs.«01_k».proof.Proof.Moe
public import proofs.«01_k».proof.Proof.Gen.Kernel3.Skeleton
public import proofs.«01_k».proof.Proof.Gen.Kernel3.Launch
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Exec
public import Idealize.ShloMosaic.Lib.Tactic
public import Idealize.ShloMosaic.PureOps
public import Idealize.ShloMosaic.Adequacy
public import Idealize.ShloMosaic.Init

/-! One grid point of the down projection, for any tables: a block whose expert differs from the block before
loads that expert's weights into the scratch, a block in use multiplies by the scratch and adds the bias, a block not
in use writes zeros. -/

@[expose] public section

set_option maxRecDepth 16384
set_option Elab.async false

noncomputable section

namespace Cert.Kernel3.Down

open Cert.Kernel3 Cert.Kernel3.Gen Cert.Moe
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev expertsM : Memref sig .tc .smem S292 .i32 := Memref.whole main_arg0
abbrev usedM : Memref sig .tc .smem S1 .i32 := Memref.whole main_arg1
abbrev weightsM : Memref sig .tc .vmem S2048x1024 .bf16 := Memref.whole cc0_scratch0

/-- The word the body reads of the second table. -/
abbrev usedW (T1 : S1.Idx → Elt Bits .i32) : BitVec 32 :=
  View.readAt (Elt Bits) usedM.view (Rect.unit (s := S1) ![0] S1.size inb_S1_S1_0).toLoadRect T1 (Shape.Idx.first (numel1_S1.symm ▸ Nat.one_pos))

/-- A word the body reads of the first table. -/
abbrev expertW (T0 : S292.Idx → Elt Bits .i32) (o : Fin 1 → ℕ) (h : ∀ a, o a + S1.size a ≤ S292.size a) : BitVec 32 :=
  View.readAt (Elt Bits) expertsM.view (Rect.unit (s := S292) o S1.size h).toLoadRect T0 (Shape.Idx.first (numel1_S1.symm ▸ Nat.one_pos))

/-- Whether the body loads the weights, as it computes it. -/
abbrev loadsW (i : grid0.Coords) (T0 : S292.Idx → Elt Bits .i32) (T1 : S1.Idx → Elt Bits .i32) (hw : k0_chk1 i (usedW T1)) : BitVec 1 :=
  Scalar.cmpi .ne (Scalar.extui (Scalar.andi (Scalar.cmpi .sle (BitVec.ofNat 32 (i 1).val) (Scalar.subi (usedW T1) 1#32))
    (Scalar.ori (Scalar.cmpi .eq (BitVec.ofNat 32 (i 1).val) 0#32)
      (Scalar.cmpi .ne (expertW T0 (k0_off2 i (usedW T1)) (k0_off2_inb i (usedW T1) hw))
        (expertW T0 (k0_off3 i (usedW T1)) (k0_off3_inb i (usedW T1) hw)))))) 0#32

section Runs

variable (c : Dev nD) (i : grid0.Coords) (arg4 : Memref sig .tc .vmem S256x2048 .bf16) (harg4 : arg4.IsWhole)
  (arg5 : Memref sig .tc .vmem S1x2048x1024 .f32) (harg5 : arg5.IsWhole) (arg6 : Memref sig .tc .vmem S1x1x1024 .f32) (harg6 : arg6.IsWhole)
  (arg7 : Memref sig .tc .vmem S256x1024 .f32) (harg7 : arg7.IsWhole)
  (T0 : S292.Idx → Elt Bits .i32) (T1 : S1.Idx → Elt Bits .i32)
  (x0 : S256x2048.Idx → Elt Bits .bf16) (x1 : S1x2048x1024.Idx → Elt Bits .f32) (x2 : S1x1x1024.Idx → Elt Bits .f32)

/-- The body's call. -/
abbrev call : Prog (TpuEff nD τ sig (Elt Bits) Λ₀ .tc) PUnit :=
  cc0_moe_down i expertsM (Memref.isWhole_whole _) usedM (Memref.isWhole_whole _) arg4 harg4 arg5 harg5 arg6 harg6 arg7 harg7 weightsM (Memref.isWhole_whole _)

set_option backward.proofsInPublic true in
set_option maxHeartbeats 8000000 in
/-- A point that loads its weights. What it stores in the output's buffer and leaves in the scratch, with the run. -/
noncomputable def runLoad (hw : k0_chk1 i (usedW T1)) (h1 : loadsW i T0 T1 hw = 1#1) (h2 : k0_cond2 i (usedW T1) = 1#1) (h3 : ¬k0_cond3 i (usedW T1) = 1#1) :
    Σ' (out : List (View.Piece (Elt Bits) S256x1024 .f32)), { scr : Buf (Elt Bits) ((c : Thread nD τ).loc cc0_scratch0) //
      ∀ (a : Buf (Elt Bits) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (expertsM.view.loc (c : Thread nD τ) ↦{fullShare.right} T0)
          ∗ (usedM.view.loc (c : Thread nD τ) ↦{fullShare.right} T1)
          ∗ (∃ d, owns (c : Thread nD τ) arg7 fullShare d)
          ∗ (weightsM.view.loc (c : Thread nD τ) ↦{fullShare} a)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (expertsM.view.loc (c : Thread nD τ) ↦{fullShare.right} T0)
              ∗ (usedM.view.loc (c : Thread nD τ) ↦{fullShare.right} T1)
              ∗ (∃ f, arg7.view.loc (c : Thread nD τ) ↦[arg7.view.set]{fullShare} arg7.view.writes (Elt Bits) f out)
              ∗ (weightsM.view.loc (c : Thread nD τ) ↦{fullShare} scr)) -∗ K ⟨⟩))
          ⊢ wp frame (wpE (defs₀ (F := Bits)) Variants.none c none) Set.univ (cc0_moe_down i expertsM (Memref.isWhole_whole _) usedM (Memref.isWhole_whole _) arg4 harg4 arg5 harg5 arg6 harg6 arg7 harg7 weightsM (Memref.isWhole_whole _)) K } :=
  ⟨_, _, fun a K => by
    unfold owns
    rw [cc0_moe_down_eq_skeleton]; unfold cc0_moe_down_skel
    iintro ⟨H0, H1, H2, HT0, HT1, ⟨%d3, %f3, -, HO⟩, HS, Hk⟩
    have hS : weightsM.IsWhole := Memref.isWhole_whole _
    have hT0 : expertsM.IsWhole := Memref.isWhole_whole _
    have hT1 : usedM.IsWhole := Memref.isWhole_whole _
    sl_exec! (disch := first | (guard_target = k0_chk1 _ _; exact hw) | (guard_target = (k0_cond2 _ _ = _); exact h2) | (guard_target = ¬(k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS⟩

set_option backward.proofsInPublic true in
set_option maxHeartbeats 8000000 in
/-- A point that keeps the weights of the point before. What it stores in the output's buffer and leaves in the scratch, with the run. -/
noncomputable def runKeep (a : Buf (Elt Bits) ((c : Thread nD τ).loc cc0_scratch0)) (hw : k0_chk1 i (usedW T1)) (h1 : ¬loadsW i T0 T1 hw = 1#1) (h2 : k0_cond2 i (usedW T1) = 1#1) (h3 : ¬k0_cond3 i (usedW T1) = 1#1) :
    Σ' (out : List (View.Piece (Elt Bits) S256x1024 .f32)), { scr : Buf (Elt Bits) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (expertsM.view.loc (c : Thread nD τ) ↦{fullShare.right} T0)
          ∗ (usedM.view.loc (c : Thread nD τ) ↦{fullShare.right} T1)
          ∗ (∃ d, owns (c : Thread nD τ) arg7 fullShare d)
          ∗ (weightsM.view.loc (c : Thread nD τ) ↦{fullShare} a)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (expertsM.view.loc (c : Thread nD τ) ↦{fullShare.right} T0)
              ∗ (usedM.view.loc (c : Thread nD τ) ↦{fullShare.right} T1)
              ∗ (∃ f, arg7.view.loc (c : Thread nD τ) ↦[arg7.view.set]{fullShare} arg7.view.writes (Elt Bits) f out)
              ∗ (weightsM.view.loc (c : Thread nD τ) ↦{fullShare} scr)) -∗ K ⟨⟩))
          ⊢ wp frame (wpE (defs₀ (F := Bits)) Variants.none c none) Set.univ (cc0_moe_down i expertsM (Memref.isWhole_whole _) usedM (Memref.isWhole_whole _) arg4 harg4 arg5 harg5 arg6 harg6 arg7 harg7 weightsM (Memref.isWhole_whole _)) K } :=
  ⟨_, _, fun K => by
    unfold owns
    rw [cc0_moe_down_eq_skeleton]; unfold cc0_moe_down_skel
    iintro ⟨H0, H1, H2, HT0, HT1, ⟨%d3, %f3, -, HO⟩, HS, Hk⟩
    have hS : weightsM.IsWhole := Memref.isWhole_whole _
    have hT0 : expertsM.IsWhole := Memref.isWhole_whole _
    have hT1 : usedM.IsWhole := Memref.isWhole_whole _
    sl_exec! (disch := first | (guard_target = k0_chk1 _ _; exact hw) | (guard_target = (k0_cond2 _ _ = _); exact h2) | (guard_target = ¬(k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS⟩

set_option backward.proofsInPublic true in
set_option maxHeartbeats 8000000 in
/-- A point whose block is not in use. What it stores in the output's buffer and leaves in the scratch, with the run. -/
noncomputable def runIdle (a : Buf (Elt Bits) ((c : Thread nD τ).loc cc0_scratch0)) (hw : k0_chk1 i (usedW T1)) (h1 : ¬loadsW i T0 T1 hw = 1#1) (h2 : ¬k0_cond2 i (usedW T1) = 1#1) (h3 : k0_cond3 i (usedW T1) = 1#1) :
    Σ' (out : List (View.Piece (Elt Bits) S256x1024 .f32)), { scr : Buf (Elt Bits) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (expertsM.view.loc (c : Thread nD τ) ↦{fullShare.right} T0)
          ∗ (usedM.view.loc (c : Thread nD τ) ↦{fullShare.right} T1)
          ∗ (∃ d, owns (c : Thread nD τ) arg7 fullShare d)
          ∗ (weightsM.view.loc (c : Thread nD τ) ↦{fullShare} a)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (expertsM.view.loc (c : Thread nD τ) ↦{fullShare.right} T0)
              ∗ (usedM.view.loc (c : Thread nD τ) ↦{fullShare.right} T1)
              ∗ (∃ f, arg7.view.loc (c : Thread nD τ) ↦[arg7.view.set]{fullShare} arg7.view.writes (Elt Bits) f out)
              ∗ (weightsM.view.loc (c : Thread nD τ) ↦{fullShare} scr)) -∗ K ⟨⟩))
          ⊢ wp frame (wpE (defs₀ (F := Bits)) Variants.none c none) Set.univ (cc0_moe_down i expertsM (Memref.isWhole_whole _) usedM (Memref.isWhole_whole _) arg4 harg4 arg5 harg5 arg6 harg6 arg7 harg7 weightsM (Memref.isWhole_whole _)) K } :=
  ⟨_, _, fun K => by
    unfold owns
    rw [cc0_moe_down_eq_skeleton]; unfold cc0_moe_down_skel
    iintro ⟨H0, H1, H2, HT0, HT1, ⟨%d3, %f3, -, HO⟩, HS, Hk⟩
    have hS : weightsM.IsWhole := Memref.isWhole_whole _
    have hT0 : expertsM.IsWhole := Memref.isWhole_whole _
    have hT1 : usedM.IsWhole := Memref.isWhole_whole _
    sl_exec! (disch := first | (guard_target = k0_chk1 _ _; exact hw) | (guard_target = ¬(k0_cond2 _ _ = _); exact h2) | (guard_target = (k0_cond3 _ _ = _); exact h3) | (guard_target = Scalar.cmpi _ _ _ = _; exact h1) | (guard_target = ¬(Scalar.cmpi _ _ _ = _); exact h1))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS⟩

set_option maxHeartbeats 1000000 in
theorem runLoad_scr (hw h1 h2 h3) : (runLoad c i arg4 harg4 arg5 harg5 arg6 harg6 arg7 harg7 T0 T1 x0 x1 x2 hw h1 h2 h3).2.1 = k0_pay1 x1 := by
  unfold runLoad
  dsimp only
  unfold runLoad.sl.HS_1
  refine (View.read_whole (Val := Elt Bits) cc0_scratch0 _).symm.trans ?_
  rw [View.read_writes_full (s := S2048x1024) (View.whole cc0_scratch0)]
  rw [View.readAt_rep_full (s := S1x2048x1024)]

set_option maxHeartbeats 1000000 in
theorem runLoad_out (hw h1 h2 h3) (f) :
    arg7.view.read (Elt Bits) (arg7.view.writes (Elt Bits) f (runLoad c i arg4 harg4 arg5 harg5 arg6 harg6 arg7 harg7 T0 T1 x0 x1 x2 hw h1 h2 h3).1)
      = k0_pay2 x0 (k0_pay1 x1) x2 := by
  unfold runLoad
  dsimp only
  unfold runLoad.sl.HO_1
  refine (View.read_writes_full (s := S256x1024) arg7.view _ _ _ _).trans ?_
  rw [View.readAt_rep_full (s := S256x2048), View.readAt_rep_full (s := S1x1x1024)]
  unfold runLoad.sl.v22 runLoad.sl.HS_1
  rw [View.readCov_full (s := S2048x1024), View.readAt_rep_full (s := S1x2048x1024)]

set_option maxHeartbeats 1000000 in
theorem runKeep_scr (a hw h1 h2 h3) : (runKeep c i arg4 harg4 arg5 harg5 arg6 harg6 arg7 harg7 T0 T1 x0 x1 x2 a hw h1 h2 h3).2.1 = a := by
  unfold runKeep
  dsimp only

set_option maxHeartbeats 1000000 in
theorem runKeep_out (a hw h1 h2 h3) (f) :
    arg7.view.read (Elt Bits) (arg7.view.writes (Elt Bits) f (runKeep c i arg4 harg4 arg5 harg5 arg6 harg6 arg7 harg7 T0 T1 x0 x1 x2 a hw h1 h2 h3).1)
      = k0_pay2 x0 a x2 := by
  unfold runKeep
  dsimp only
  unfold runKeep.sl.HO_1
  refine (View.read_writes_full (s := S256x1024) arg7.view _ _ _ _).trans ?_
  rw [View.readAt_rep_full (s := S256x2048), View.readAt_rep_full (s := S1x1x1024)]
  rw [View.readAt_full (s := S2048x1024) (weightsM.view), View.read_whole]

set_option maxHeartbeats 1000000 in
theorem runIdle_out (a hw h1 h2 h3) (f) :
    arg7.view.read (Elt Bits) (arg7.view.writes (Elt Bits) f (runIdle c i arg4 harg4 arg5 harg5 arg6 harg6 arg7 harg7 T0 T1 x0 x1 x2 a hw h1 h2 h3).1)
      = k0_pay3 (F := Bits) := by
  unfold runIdle
  dsimp only
  unfold runIdle.sl.HO_1
  exact View.read_writes_full (s := S256x1024) arg7.view _ _ _ _

end Runs

end Cert.Kernel3.Down
-- ==== Proof.DownBitsBlocks.lean ====
module

public import proofs.«01_k».proof.Proof.DownBitsGrid

/-! What each window of the down projection stages, read off the arrays at launch. -/

@[expose] public section

set_option maxRecDepth 16384
set_option Elab.async false

noncomputable section

namespace Cert.Kernel3.Down

open Cert.Kernel3 Cert.Kernel3.Gen Cert.Moe
open Idealize.ShloMosaic
open Idealize.ShloMosaic.TcCoe Idealize.ShloMosaic.Tactic
open Idealize.SL.Sem
open Idealize.ShloMosaic.Pipeline (Dat Cfg)

variable (T : Tables) (m : (ℓ : Loc nD τ sig) → Buf (Elt Bits) ℓ) (ρ : Dev nD → PrngReg)

/-- Window `w`'s block at point `t`. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

theorem index0 (t : Fin (cfgA T).N) : ((cfgA T).win (0 : Fin 4)).index t = ![min (rowB T t).val (T.count - 1), 0] := by
  rw [← crd1v]; exact tr0 T (crd T t)
theorem index1 (t : Fin (cfgA T).N) : ((cfgA T).win (1 : Fin 4)).index t = ![(T.expert (rowB T t)).val, 0, (colB T t).val] := by
  rw [← crd1, ← crd0v]; exact tr1 T (crd T t)
theorem index2 (t : Fin (cfgA T).N) : ((cfgA T).win (2 : Fin 4)).index t = ![(T.expert (rowB T t)).val, 0, (colB T t).val] := by
  rw [← crd1, ← crd0v]; exact tr2 T (crd T t)
theorem index3 (t : Fin (cfgA T).N) : ((cfgA T).win (3 : Fin 4)).index t = ![(rowB T t).val, (colB T t).val] := by
  rw [← crd1v, ← crd0v]; exact tr3 (crd T t)

/-- The rows of activations a point in use stages. -/
theorem blk0 (c : Dev nD) (t : Fin (cfgA T).N) (ht : live T t) (a : Fin 256) (k : Fin 2048) :
    iblk T m ρ c (0 : Fin 4) t (ix2 a k) = m ((c.tc : Thread nD τ).loc main_arg2) (ix2 ⟨(rowB T t).val * 256 + a.val, by omega⟩ k) := by
  have hm : min (rowB T t).val (T.count - 1) = (rowB T t).val := by unfold live at ht; omega
  have hi := index0 T t
  rw [hm] at hi
  blk_simp [iblk]
  blk_ext [iblk, hi]

/-- The expert's weights a point stages. -/
theorem blk1 (c : Dev nD) (t : Fin (cfgA T).N) (z : Fin 1) (a : Fin 2048) (k : Fin 1024) :
    iblk T m ρ c (1 : Fin 4) t (ix3 z a k) = m ((c.tc : Thread nD τ).loc main_arg3)
      (ix3 (T.expert (rowB T t)) a ⟨(colB T t).val * 1024 + k.val, by omega⟩) := by
  blk_simp [iblk]
  blk_ext [iblk, index1 T t]

/-- The expert's bias a point stages. -/
theorem blk2 (c : Dev nD) (t : Fin (cfgA T).N) (z z' : Fin 1) (k : Fin 1024) :
    iblk T m ρ c (2 : Fin 4) t (ix3 z z' k) = m ((c.tc : Thread nD τ).loc main_arg4)
      (ix3 (T.expert (rowB T t)) z' ⟨(colB T t).val * 1024 + k.val, by omega⟩) := by
  blk_simp [iblk]
  blk_ext [iblk, index2 T t]

end Cert.Kernel3.Down
-- ==== Proof.Down.lean ====
module

public import proofs.«01_k».proof.Defs
public import proofs.«01_k».proof.Proof.DownTables
public import proofs.«01_k».proof.Proof.DownRef
public import proofs.«01_k».proof.Proof.DownValue
public import proofs.«01_k».proof.Proof.DownBitsFrame
public import proofs.«01_k».proof.Proof.Gen.Reference3Ideal.Run
public import Idealize.ShloMosaic.Lib.Quiescent

/-! The claims on the second projection of the experts. -/

@[expose] public section

set_option maxRecDepth 16384

noncomputable section

namespace Cert.Down

open Idealize.ShloMosaic Idealize.ShloMosaic.TcCoe Idealize.ShloMosaic.Tactic Idealize.SL.Sem
open Cert.Moe

theorem frame_kernel : Cert.quiescent_Kernel3 (hKernel3 := Kernel3.Gen.facts) (hPre_down_tables := Pre_down_tables.Gen.facts) := by
  intro m g hpre
  obtain ⟨T, h0, h1⟩ := DownTables.decode (hpre 0)
  exact (θ_run Kernel3.defs _ _).mono (fun r h => h.1) (Kernel3.Down.run_all T m g fun c => by
    rw [Subsingleton.elim c 0]; exact ⟨h0, h1⟩)

theorem pinned (m : (ℓ : Loc Kernel3Ideal.nD Kernel3Ideal.τ Kernel3Ideal.sig) → Buf (Elt Ideal) ℓ)
    (hpre : Cert.Pre_Kernel3Ideal (hPre_down_tables := Pre_down_tables.Gen.facts) m) : ∃ T, Kernel3Ideal.Down.Pinned T m := by
  obtain ⟨T, h0, h1⟩ := DownTables.decode (hpre 0)
  exact ⟨T, fun c => by rw [Subsingleton.elim c 0]; exact ⟨h0, h1⟩⟩

theorem frame_ideal : Cert.quiescent_Kernel3Ideal (hKernel3Ideal := Kernel3Ideal.Gen.facts) (hPre_down_tables := Pre_down_tables.Gen.facts) := by
  intro m g hpre
  obtain ⟨T, hT⟩ := pinned m hpre
  exact (θ_run Kernel3Ideal.defs _ _).mono (fun r h => h.1) (Kernel3Ideal.Down.run_all T m g hT)

theorem frame_reference : Cert.quiescent_Reference3Ideal (hReference3Ideal := Reference3Ideal.Gen.facts) (hPre_down_tables := Pre_down_tables.Gen.facts) :=
  fun m g _ => (θ_run Reference3Ideal.defs _ _).mono (fun r h => ⟨fun c => (h c).2, sem_eq_zero_of_no_sems rfl r.2⟩) (Reference3Ideal.Value.run m g)

theorem preserves : Cert.preserves_Kernel3_Kernel3Ideal := trivial

theorem algebraic : Cert.algebraic_Kernel3Ideal_Reference3Ideal (hKernel3Ideal := Kernel3Ideal.Gen.facts)
    (hReference3Ideal := Reference3Ideal.Gen.facts) (hPre_down_tables := Pre_down_tables.Gen.facts) := by
  intro m g m' g' hpre hagree
  obtain ⟨T, hT⟩ := pinned m hpre
  refine ⟨fun c => (Kernel3Ideal.Down.dats T m g 0 c).arrAt (3 : Fin 4) (Kernel3Ideal.Down.cfgA T).N, ?_, ?_⟩
  · exact (θ_run Kernel3Ideal.defs _ _).mono (fun r h c => ⟨h.2 c, h.1.1 c⟩) (Kernel3Ideal.Down.run_all T m g hT)
  · refine (θ_run Reference3Ideal.defs _ _).mono (fun r h c => ?_) (Reference3Ideal.Value.run m' g')
    obtain ⟨h0, h1, h2, h3, h4⟩ := hagree c
    refine ⟨(h c).1.trans (Eq.trans ?_ (Kernel3Ideal.Down.final T m g c).symm), (h c).2⟩
    rw [Reference3Ideal.Read.val_main_v25_eq, h0, h1, h2, h3, h4, show m (c.tc.loc Kernel3Ideal.main_arg0) = T.experts from (hT c).1,
      show m (c.tc.loc Kernel3Ideal.main_arg1) = T.used from (hT c).2]
    funext i
    obtain ⟨r, j, rfl⟩ : ∃ r j, i = ix2 r j := ⟨i 0, i 1, by funext a; fin_cases a <;> rfl⟩
    exact Reference3Ideal.Entry.result_at T _ _ _ r j

end Cert.Down

end
-- ==== Proof.Glu.lean ====
module

public import proofs.«01_k».proof.Defs
public import proofs.«01_k».proof.Proof.Linear
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.KernelVsHost
public import Idealize.ShloMosaic.Lib.Quiescent
public import Idealize.ShloMosaic.Adequacy
public import Idealize.ShloMosaic.Init

/-! The first projection of the convolution, with its gated linear unit. -/

@[expose] public section

set_option maxRecDepth 16384

noncomputable section

namespace Cert.Kernel4Ideal.Point

open Idealize.ShloMosaic Idealize.ShloMosaic.TcCoe Idealize.SL.Sem
open Cert.Kernel4Ideal Cert.Kernel4Ideal.Gen Cert.Linear
open Idealize.ShloMosaic.Pipeline (Dat)

variable (m : (ℓ : Loc nD τ sig) → Buf (Elt Ideal) ℓ)

/-- The block each window stages at a grid point. -/
theorem idx : ∀ t : Fin cfg0.N,
    win0_0.index t = ![t.val / 8, 0] ∧ win0_1.index t = ![0, t.val % 8] ∧ win0_2.index t = ![0, t.val % 8 + 8]
    ∧ win0_3.index t = ![0, t.val % 8] ∧ win0_4.index t = ![0, t.val % 8 + 8] ∧ win0_5.index t = ![t.val / 8, t.val % 8] :=
  (by decide +kernel : ∀ t : Fin grid0.N, _)

theorem N_lt (t : Fin cfg0.N) : t.val < 104 := t.isLt

/-- The rows a point stages. -/
theorem blk0 (c : Dev nD) (t : Fin cfg0.N) (a : Fin 1280) (k : Fin 4096) :
    iblk m c 0 t (ix2 a k) = m ((c.tc : Thread nD τ).loc main_arg0) (ix2 ⟨t.val / 8 * 1280 + a.val, by have := N_lt t; omega⟩ k) := by
  rw [← V_main_arg0 m c]
  blk_simp [iblk]
  blk_ext [iblk, idx t]

/-- The weights of a point's linear columns. -/
theorem blk1 (c : Dev nD) (t : Fin cfg0.N) (k : Fin 4096) (l : Fin 512) :
    iblk m c 1 t (ix2 k l) = m ((c.tc : Thread nD τ).loc main_arg1) (ix2 k ⟨t.val % 8 * 512 + l.val, by have := N_lt t; omega⟩) := by
  rw [← V_main_arg1 m c]
  blk_simp [iblk]
  blk_ext [iblk, idx t]

/-- The weights of a point's gate columns. -/
theorem blk2 (c : Dev nD) (t : Fin cfg0.N) (k : Fin 4096) (l : Fin 512) :
    iblk m c 2 t (ix2 k l) = m ((c.tc : Thread nD τ).loc main_arg1) (ix2 k ⟨4096 + (t.val % 8 * 512 + l.val), by have := N_lt t; omega⟩) := by
  rw [← V_main_arg1 m c]
  blk_simp [iblk]
  blk_ext [iblk, idx t]

/-- The biases of a point's linear columns. -/
theorem blk3 (c : Dev nD) (t : Fin cfg0.N) (z : Fin 1) (l : Fin 512) :
    iblk m c 3 t (ix2 z l) = m ((c.tc : Thread nD τ).loc main_arg2) (ix2 z ⟨t.val % 8 * 512 + l.val, by have := N_lt t; omega⟩) := by
  rw [← V_main_arg2 m c]
  blk_simp [iblk]
  blk_ext [iblk, idx t]

/-- The biases of a point's gate columns. -/
theorem blk4 (c : Dev nD) (t : Fin cfg0.N) (z : Fin 1) (l : Fin 512) :
    iblk m c 4 t (ix2 z l) = m ((c.tc : Thread nD τ).loc main_arg2) (ix2 z ⟨4096 + (t.val % 8 * 512 + l.val), by have := N_lt t; omega⟩) := by
  rw [← V_main_arg2 m c]
  blk_simp [iblk]
  blk_ext [iblk, idx t]

/-- One entry before the gate. -/
def projOf (x0 : FVec Ideal S16640x4096 .bf16) (x1 : FVec Ideal S4096x8192 .bf16) (x2 : FVec Ideal S1x8192 .f32) (r : Fin 16640) (j : Fin 8192) : EReal :=
  affine (fun k : Fin 4096 => x0 (ix2 r k)) (fun k => x1 (ix2 k j)) (x2 (ix2 0 j))

/-- One entry of the gated linear unit. -/
def entryOf (x0 : FVec Ideal S16640x4096 .bf16) (x1 : FVec Ideal S4096x8192 .bf16) (x2 : FVec Ideal S1x8192 .f32) (r : Fin 16640) (j : Fin 4096) : EReal :=
  projOf x0 x1 x2 r ⟨j.val, by omega⟩ * Ideal.logistic (projOf x0 x1 x2 r ⟨4096 + j.val, by omega⟩)

/-- What a point computes. -/
theorem pay_at (x : FVec Ideal S1280x4096 .bf16) (w : FVec Ideal S4096x512 .bf16) (b : FVec Ideal S1x512 .f32)
    (w' : FVec Ideal S4096x512 .bf16) (b' : FVec Ideal S1x512 .f32) (a : Fin 1280) (l : Fin 512) :
    k0_pay1 (F := Ideal) x w b w' b' (ix2 a l)
      = affine (fun k : Fin 4096 => x (ix2 a k)) (fun k => w (ix2 k l)) (b (ix2 0 l))
        * Ideal.logistic (affine (fun k : Fin 4096 => x (ix2 a k)) (fun k => w' (ix2 k l)) (b' (ix2 0 l))) := by
  unfold affine
  pointwise [k0_pay1]

/-- The kernel's result array. -/
theorem final (c : Dev nD) :
    (dats m 0 c).arrAt 5 cfg0.N = fun i => entryOf (m ((c.tc : Thread nD τ).loc main_arg0)) (m ((c.tc : Thread nD τ).loc main_arg1)) (m ((c.tc : Thread nD τ).loc main_arg2)) (i 0) (i 1) := by
  refine (dats m 0 c).arrAt_eq_of_covers 5 _ (by decide +kernel) fun t hf y => ?_
  blk_simp
  rw [after0_5]
  frame_out
  obtain ⟨a, l, rfl⟩ : ∃ a l, y = ix2 a l := ⟨y 0, y 1, by funext q; fin_cases q <;> rfl⟩
  have e : k0_pay1 (F := Ideal) (iblk m c 0 t) (iblk m c 1 t) (iblk m c 3 t) (iblk m c 2 t) (iblk m c 4 t) (ix2 a l)
      = entryOf (m ((c.tc : Thread nD τ).loc main_arg0)) (m ((c.tc : Thread nD τ).loc main_arg1)) (m ((c.tc : Thread nD τ).loc main_arg2))
        ⟨t.val / 8 * 1280 + a.val, by have := N_lt t; omega⟩ ⟨t.val % 8 * 512 + l.val, by have := N_lt t; omega⟩ := by
    rw [pay_at]
    simp only [blk0, blk1, blk2, blk3, blk4]
    rfl
  refine e.trans ?_
  refine congr (congrArg (entryOf _ _ _) (Fin.ext ?_)) (Fin.ext ?_)
  · blk_simp [idx t]
  · blk_simp [idx t]

end Cert.Kernel4Ideal.Point

namespace Cert.Reference4Ideal.Entry

open Idealize.ShloMosaic Cert.Linear
open Cert.Reference4Ideal Cert.Reference4Ideal.Gen Cert.Reference4Ideal.Read

variable (x0 : FVec Ideal S16640x4096 .bf16) (x1 : FVec Ideal S4096x8192 .bf16) (x2 : FVec Ideal S1x8192 .f32)

theorem proj_at (r : Fin 16640) (j : Fin 8192) : val_main_v4 (F := Ideal) x0 x1 x2 (ix2 r j) = Kernel4Ideal.Point.projOf x0 x1 x2 r j := by
  unfold Kernel4Ideal.Point.projOf affine
  pointwise [val_main_v4, val_main_v3, val_main_v2, val_main_v1, val_main_v0]

/-- One entry of the reference's result. -/
theorem entry (r : Fin 16640) (j : Fin 4096) : val_main_v13 (F := Ideal) x0 x1 x2 (ix2 r j) = Kernel4Ideal.Point.entryOf x0 x1 x2 r j := by
  have h5 : idx_main_v5 (ix2 r j) = ix2 r (⟨j.val, by omega⟩ : Fin 8192) := by funext q; fin_cases q <;> rfl
  have h6 : idx_main_v6 (ix2 r j) = ix2 r (⟨4096 + j.val, by omega⟩ : Fin 8192) := by funext q; fin_cases q <;> rfl
  rw [val_main_v13_apply, val_main_v5_apply, val_main_v12_apply, val_main_v11_apply, val_main_v10_apply, val_main_v9_apply, val_main_v8_apply,
    val_main_v7_apply, val_main_v6_apply, val_main_cst_apply, val_main_cst_0_apply, h5, h6, proj_at, proj_at]
  exact congrArg (fun s : EReal => Kernel4Ideal.Point.projOf x0 x1 x2 r ⟨j.val, by omega⟩ * s) (logistic_at _)

end Cert.Reference4Ideal.Entry

namespace Cert.Glu

open Idealize.ShloMosaic Idealize.ShloMosaic.TcCoe Idealize.ShloMosaic.Tactic Idealize.SL.Sem

/-- The kernel's result and the reference's are one array. -/
theorem result (m : (ℓ : Loc Kernel4Ideal.nD Kernel4Ideal.τ Kernel4Ideal.sig) → Buf (Elt Ideal) ℓ)
    (m' : (ℓ : Loc Reference4Ideal.nD Reference4Ideal.τ Reference4Ideal.sig) → Buf (Elt Ideal) ℓ) (c : Dev Kernel4Ideal.nD)
    (h0 : m' ((c.tc : Thread Reference4Ideal.nD Reference4Ideal.τ).loc Reference4Ideal.main_arg0)
      = m ((c.tc : Thread Kernel4Ideal.nD Kernel4Ideal.τ).loc Kernel4Ideal.main_arg0))
    (h1 : m' ((c.tc : Thread Reference4Ideal.nD Reference4Ideal.τ).loc Reference4Ideal.main_arg1)
      = m ((c.tc : Thread Kernel4Ideal.nD Kernel4Ideal.τ).loc Kernel4Ideal.main_arg1))
    (h2 : m' ((c.tc : Thread Reference4Ideal.nD Reference4Ideal.τ).loc Reference4Ideal.main_arg2)
      = m ((c.tc : Thread Kernel4Ideal.nD Kernel4Ideal.τ).loc Kernel4Ideal.main_arg2)) :
    Reference4Ideal.Read.val_main_v13 (F := Ideal)
      (m' ((c.tc : Thread Reference4Ideal.nD Reference4Ideal.τ).loc Reference4Ideal.main_arg0))
      (m' ((c.tc : Thread Reference4Ideal.nD Reference4Ideal.τ).loc Reference4Ideal.main_arg1))
      (m' ((c.tc : Thread Reference4Ideal.nD Reference4Ideal.τ).loc Reference4Ideal.main_arg2))
      = (Kernel4Ideal.Gen.dats m 0 c).arrAt 5 Kernel4Ideal.cfg0.N := by
  rw [Kernel4Ideal.Point.final m c, h0, h1, h2]
  funext i
  exact (congrArg _ (by funext q; fin_cases q <;> rfl)).trans (Reference4Ideal.Entry.entry _ _ _ (i 0) (i 1))

theorem frame_kernel : Cert.quiescent_Kernel4 (hKernel4 := Kernel4.Gen.facts) := fun m g _ => Kernel4.Gen.frame m g

theorem frame_ideal : Cert.quiescent_Kernel4Ideal (hKernel4Ideal := Kernel4Ideal.Gen.facts) := fun m g _ =>
  Kernel4Ideal.Gen.frame m g

theorem frame_reference : Cert.quiescent_Reference4Ideal (hReference4Ideal := Reference4Ideal.Gen.facts) := fun m g _ =>
  (θ_run Reference4Ideal.defs _ _).mono (fun r h => ⟨fun c => (h c).2, sem_eq_zero_of_no_sems rfl r.2⟩) (Reference4Ideal.Value.run m g)

theorem preserves : Cert.preserves_Kernel4_Kernel4Ideal := trivial

theorem algebraic : Cert.algebraic_Kernel4Ideal_Reference4Ideal (hKernel4Ideal := Kernel4Ideal.Gen.facts)
    (hReference4Ideal := Reference4Ideal.Gen.facts) := by
  intro m g m' g' _ hagree
  refine ⟨fun c => (Kernel4Ideal.Gen.dats m 0 c).arrAt 5 Kernel4Ideal.cfg0.N, ?_, ?_⟩
  · exact (θ_run Kernel4Ideal.defs _ _).mono (fun r h c => h c) (Kernel4Ideal.Value.run_blocks m g)
  · refine (θ_run Reference4Ideal.defs _ _).mono (fun r h c => ?_) (Reference4Ideal.Value.run m' g')
    obtain ⟨h0, h1, h2⟩ := hagree c
    exact ⟨((h c).1.trans (Reference4Ideal.Read.val_main_v13_eq _ _ _)).trans (result m m' c h0 h1 h2), (h c).2⟩

end Cert.Glu

end
-- ==== Proof.KeysValues.lean ====
module

public import proofs.«01_k».proof.Defs
public import proofs.«01_k».proof.Proof.Linear
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.KernelVsHost
public import Idealize.ShloMosaic.Lib.Quiescent
public import Idealize.ShloMosaic.Adequacy
public import Idealize.ShloMosaic.Init

/-! The projection of the keys and the values. -/

@[expose] public section

set_option maxRecDepth 16384

noncomputable section

namespace Cert.Kernel5Ideal.Point

open Idealize.ShloMosaic Idealize.ShloMosaic.TcCoe Idealize.SL.Sem
open Cert.Kernel5Ideal Cert.Kernel5Ideal.Gen Cert.Linear
open Idealize.ShloMosaic.Pipeline (Dat)

variable (m : (ℓ : Loc nD τ sig) → Buf (Elt Ideal) ℓ)

/-- The block each window stages at a grid point. -/
theorem idx : ∀ t : Fin cfg0.N,
    win0_0.index t = ![t.val / 2, 0] ∧ win0_1.index t = ![0, t.val % 2] ∧ win0_2.index t = ![0, t.val % 2]
    ∧ win0_3.index t = ![t.val / 2, t.val % 2] :=
  (by decide +kernel : ∀ t : Fin grid0.N, _)

theorem N_lt (t : Fin cfg0.N) : t.val < 26 := t.isLt

/-- The rows a point stages. -/
theorem blk0 (c : Dev nD) (t : Fin cfg0.N) (a : Fin 1280) (k : Fin 4096) :
    iblk m c 0 t (ix2 a k) = m ((c.tc : Thread nD τ).loc main_arg0) (ix2 ⟨t.val / 2 * 1280 + a.val, by have := N_lt t; omega⟩ k) := by
  rw [← V_main_arg0 m c]
  blk_simp [iblk]
  blk_ext [iblk, idx t]

/-- The weights of a point's columns. -/
theorem blk1 (c : Dev nD) (t : Fin cfg0.N) (k : Fin 4096) (l : Fin 512) :
    iblk m c 1 t (ix2 k l) = m ((c.tc : Thread nD τ).loc main_arg1) (ix2 k ⟨t.val % 2 * 512 + l.val, by omega⟩) := by
  rw [← V_main_arg1 m c]
  blk_simp [iblk]
  blk_ext [iblk, idx t]

/-- The biases of a point's columns. -/
theorem blk2 (c : Dev nD) (t : Fin cfg0.N) (z : Fin 1) (l : Fin 512) :
    iblk m c 2 t (ix2 z l) = m ((c.tc : Thread nD τ).loc main_arg2) (ix2 z ⟨t.val % 2 * 512 + l.val, by omega⟩) := by
  rw [← V_main_arg2 m c]
  blk_simp [iblk]
  blk_ext [iblk, idx t]

/-- One entry of the projection. -/
def entryOf (x0 : FVec Ideal S16640x4096 .bf16) (x1 : FVec Ideal S4096x1024 .bf16) (x2 : FVec Ideal S1x1024 .f32) (r : Fin 16640) (j : Fin 1024) : EReal :=
  affine (fun k : Fin 4096 => x0 (ix2 r k)) (fun k => x1 (ix2 k j)) (x2 (ix2 0 j))

/-- What a point computes. -/
theorem pay_at (x : FVec Ideal S1280x4096 .bf16) (w : FVec Ideal S4096x512 .bf16) (b : FVec Ideal S1x512 .f32) (a : Fin 1280) (l : Fin 512) :
    k0_pay1 (F := Ideal) x w b (ix2 a l) = affine (fun k : Fin 4096 => x (ix2 a k)) (fun k => w (ix2 k l)) (b (ix2 0 l)) := by
  unfold affine
  pointwise [k0_pay1]

/-- The kernel's result array. -/
theorem final (c : Dev nD) :
    (dats m 0 c).arrAt 3 cfg0.N = fun i => entryOf (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  frame_out
  obtain ⟨a, l, rfl⟩ : ∃ a l, y = ix2 a l := ⟨y 0, y 1, by funext q; fin_cases q <;> rfl⟩
  have e : k0_pay1 (F := Ideal) (iblk m c 0 t) (iblk m c 1 t) (iblk m c 2 t) (ix2 a l)
      = entryOf (m ((c.tc : Thread nD τ).loc main_arg0)) (m ((c.tc : Thread nD τ).loc main_arg1)) (m ((c.tc : Thread nD τ).loc main_arg2))
        ⟨t.val / 2 * 1280 + a.val, by have := N_lt t; omega⟩ ⟨t.val % 2 * 512 + l.val, by omega⟩ := by
    rw [pay_at]
    simp only [blk0, blk1, blk2]
    rfl
  refine e.trans ?_
  refine congr (congrArg (entryOf _ _ _) (Fin.ext ?_)) (Fin.ext ?_)
  · blk_simp [idx t]
  · blk_simp [idx t]

end Cert.Kernel5Ideal.Point

namespace Cert.Reference5Ideal.Entry

open Idealize.ShloMosaic Cert.Linear
open Cert.Reference5Ideal Cert.Reference5Ideal.Gen Cert.Reference5Ideal.Read

/-- One entry of the reference's result. -/
theorem entry (x0 : FVec Ideal S16640x4096 .bf16) (x1 : FVec Ideal S4096x1024 .bf16) (x2 : FVec Ideal S1x1024 .f32) (r : Fin 16640) (j : Fin 1024) :
    val_main_v4 (F := Ideal) x0 x1 x2 (ix2 r j) = Kernel5Ideal.Point.entryOf x0 x1 x2 r j := by
  unfold Kernel5Ideal.Point.entryOf affine
  pointwise [val_main_v4, val_main_v3, val_main_v2, val_main_v1, val_main_v0]

end Cert.Reference5Ideal.Entry

namespace Cert.KeysValues

open Idealize.ShloMosaic Idealize.ShloMosaic.TcCoe Idealize.ShloMosaic.Tactic Idealize.SL.Sem

/-- The kernel's result and the reference's are one array. -/
theorem result (m : (ℓ : Loc Kernel5Ideal.nD Kernel5Ideal.τ Kernel5Ideal.sig) → Buf (Elt Ideal) ℓ)
    (m' : (ℓ : Loc Reference5Ideal.nD Reference5Ideal.τ Reference5Ideal.sig) → Buf (Elt Ideal) ℓ) (c : Dev Kernel5Ideal.nD)
    (h0 : m' ((c.tc : Thread Reference5Ideal.nD Reference5Ideal.τ).loc Reference5Ideal.main_arg0)
      = m ((c.tc : Thread Kernel5Ideal.nD Kernel5Ideal.τ).loc Kernel5Ideal.main_arg0))
    (h1 : m' ((c.tc : Thread Reference5Ideal.nD Reference5Ideal.τ).loc Reference5Ideal.main_arg1)
      = m ((c.tc : Thread Kernel5Ideal.nD Kernel5Ideal.τ).loc Kernel5Ideal.main_arg1))
    (h2 : m' ((c.tc : Thread Reference5Ideal.nD Reference5Ideal.τ).loc Reference5Ideal.main_arg2)
      = m ((c.tc : Thread Kernel5Ideal.nD Kernel5Ideal.τ).loc Kernel5Ideal.main_arg2)) :
    Reference5Ideal.Read.val_main_v4 (F := Ideal)
      (m' ((c.tc : Thread Reference5Ideal.nD Reference5Ideal.τ).loc Reference5Ideal.main_arg0))
      (m' ((c.tc : Thread Reference5Ideal.nD Reference5Ideal.τ).loc Reference5Ideal.main_arg1))
      (m' ((c.tc : Thread Reference5Ideal.nD Reference5Ideal.τ).loc Reference5Ideal.main_arg2))
      = (Kernel5Ideal.Gen.dats m 0 c).arrAt 3 Kernel5Ideal.cfg0.N := by
  rw [Kernel5Ideal.Point.final m c, h0, h1, h2]
  funext i
  exact (congrArg _ (by funext q; fin_cases q <;> rfl)).trans (Reference5Ideal.Entry.entry _ _ _ (i 0) (i 1))

theorem frame_kernel : Cert.quiescent_Kernel5 (hKernel5 := Kernel5.Gen.facts) := fun m g _ => Kernel5.Gen.frame m g

theorem frame_ideal : Cert.quiescent_Kernel5Ideal (hKernel5Ideal := Kernel5Ideal.Gen.facts) := fun m g _ =>
  Kernel5Ideal.Gen.frame m g

theorem frame_reference : Cert.quiescent_Reference5Ideal (hReference5Ideal := Reference5Ideal.Gen.facts) := fun m g _ =>
  (θ_run Reference5Ideal.defs _ _).mono (fun r h => ⟨fun c => (h c).2, sem_eq_zero_of_no_sems rfl r.2⟩) (Reference5Ideal.Value.run m g)

theorem preserves : Cert.preserves_Kernel5_Kernel5Ideal := trivial

theorem algebraic : Cert.algebraic_Kernel5Ideal_Reference5Ideal (hKernel5Ideal := Kernel5Ideal.Gen.facts)
    (hReference5Ideal := Reference5Ideal.Gen.facts) := by
  intro m g m' g' _ hagree
  refine ⟨fun c => (Kernel5Ideal.Gen.dats m 0 c).arrAt 3 Kernel5Ideal.cfg0.N, ?_, ?_⟩
  · exact (θ_run Kernel5Ideal.defs _ _).mono (fun r h c => h c) (Kernel5Ideal.Value.run_blocks m g)
  · refine (θ_run Reference5Ideal.defs _ _).mono (fun r h c => ?_) (Reference5Ideal.Value.run m' g')
    obtain ⟨h0, h1, h2⟩ := hagree c
    exact ⟨((h c).1.trans (Reference5Ideal.Read.val_main_v4_eq _ _ _)).trans (result m m' c h0 h1 h2), (h c).2⟩

end Cert.KeysValues

end
-- ==== Proof.Queries.lean ====
module

public import proofs.«01_k».proof.Defs
public import proofs.«01_k».proof.Proof.Linear
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.KernelVsHost
public import Idealize.ShloMosaic.Lib.Quiescent
public import Idealize.ShloMosaic.Adequacy
public import Idealize.ShloMosaic.Init

/-! The projection of the queries, grouped by query head. -/

@[expose] public section

set_option maxRecDepth 16384

noncomputable section

namespace Cert.Kernel6Ideal.Point

open Idealize.ShloMosaic Idealize.ShloMosaic.TcCoe Idealize.SL.Sem
open Cert.Kernel6Ideal Cert.Kernel6Ideal.Gen Cert.Linear
open Idealize.ShloMosaic.Pipeline (Dat)

variable (m : (ℓ : Loc nD τ sig) → Buf (Elt Ideal) ℓ)

/-- The block each window stages at a grid point. -/
theorem idx : ∀ t : Fin cfg0.N,
    win0_0.index t = ![t.val / 8, 0] ∧ win0_1.index t = ![0, t.val % 8] ∧ win0_2.index t = ![0, t.val % 8]
    ∧ win0_3.index t = ![t.val % 8, t.val / 8, 0] :=
  (by decide +kernel : ∀ t : Fin grid0.N, _)

theorem N_lt (t : Fin cfg0.N) : t.val < 104 := t.isLt

/-- The rows a point stages. -/
theorem blk0 (c : Dev nD) (t : Fin cfg0.N) (a : Fin 1280) (k : Fin 4096) :
    iblk m c 0 t (ix2 a k) = m ((c.tc : Thread nD τ).loc main_arg0) (ix2 ⟨t.val / 8 * 1280 + a.val, by have := N_lt t; omega⟩ k) := by
  rw [← V_main_arg0 m c]
  blk_simp [iblk]
  blk_ext [iblk, idx t]

/-- The weights of a point's columns. -/
theorem blk1 (c : Dev nD) (t : Fin cfg0.N) (k : Fin 4096) (l : Fin 512) :
    iblk m c 1 t (ix2 k l) = m ((c.tc : Thread nD τ).loc main_arg1) (ix2 k ⟨t.val % 8 * 512 + l.val, by omega⟩) := by
  rw [← V_main_arg1 m c]
  blk_simp [iblk]
  blk_ext [iblk, idx t]

/-- The biases of a point's columns. -/
theorem blk2 (c : Dev nD) (t : Fin cfg0.N) (z : Fin 1) (l : Fin 512) :
    iblk m c 2 t (ix2 z l) = m ((c.tc : Thread nD τ).loc main_arg2) (ix2 z ⟨t.val % 8 * 512 + l.val, by omega⟩) := by
  rw [← V_main_arg2 m c]
  blk_simp [iblk]
  blk_ext [iblk, idx t]

/-- One entry of the projection. -/
def entryOf (x0 : FVec Ideal S16640x4096 .bf16) (x1 : FVec Ideal S4096x4096 .bf16) (x2 : FVec Ideal S1x4096 .f32) (r : Fin 16640) (j : Fin 4096) : EReal :=
  affine (fun k : Fin 4096 => x0 (ix2 r k)) (fun k => x1 (ix2 k j)) (x2 (ix2 0 j))

/-- What a point computes. -/
theorem pay_at (x : FVec Ideal S1280x4096 .bf16) (w : FVec Ideal S4096x512 .bf16) (b : FVec Ideal S1x512 .f32) (z : Fin 1) (a : Fin 1280) (l : Fin 512) :
    k0_pay1 (F := Ideal) x w b (ix3 z a l) = affine (fun k : Fin 4096 => x (ix2 a k)) (fun k => w (ix2 k l)) (b (ix2 0 l)) := by
  unfold affine
  pointwise [k0_pay1]

/-- The kernel's result array. -/
theorem final (c : Dev nD) :
    (dats m 0 c).arrAt 3 cfg0.N = fun i => entryOf (m ((c.tc : Thread nD τ).loc main_arg0)) (m ((c.tc : Thread nD τ).loc main_arg1)) (m ((c.tc : Thread nD τ).loc main_arg2)) (i 1) ⟨(i 0).val * 512 + (i 2).val, by
      have h0 : (i 0).val < 8 := (i 0).isLt; have h2 : (i 2).val < 512 := (i 2).isLt; omega⟩ := by
  refine (dats m 0 c).arrAt_eq_of_covers 3 _ (by decide +kernel) fun t hf y => ?_
  blk_simp
  rw [after0_3]
  frame_out
  obtain ⟨z, a, l, rfl⟩ : ∃ z a l, y = ix3 z a l := ⟨y 0, y 1, y 2, by funext q; fin_cases q <;> rfl⟩
  have e : k0_pay1 (F := Ideal) (iblk m c 0 t) (iblk m c 1 t) (iblk m c 2 t) (ix3 z a l)
      = entryOf (m ((c.tc : Thread nD τ).loc main_arg0)) (m ((c.tc : Thread nD τ).loc main_arg1)) (m ((c.tc : Thread nD τ).loc main_arg2))
        ⟨t.val / 8 * 1280 + a.val, by have := N_lt t; omega⟩ ⟨t.val % 8 * 512 + l.val, by omega⟩ := by
    rw [pay_at]
    simp only [blk0, blk1, blk2]
    rfl
  refine e.trans ?_
  refine congr (congrArg (entryOf _ _ _) (Fin.ext ?_)) (Fin.ext ?_)
  · blk_simp [idx t]
  · blk_simp [idx t]

end Cert.Kernel6Ideal.Point

namespace Cert.Reference6Ideal.Entry

open Idealize.ShloMosaic Cert.Linear
open Cert.Reference6Ideal Cert.Reference6Ideal.Gen Cert.Reference6Ideal.Read

variable (x0 : FVec Ideal S16640x4096 .bf16) (x1 : FVec Ideal S4096x4096 .bf16) (x2 : FVec Ideal S1x4096 .f32)

theorem proj_at (r : Fin 16640) (j : Fin 4096) : val_main_v4 (F := Ideal) x0 x1 x2 (ix2 r j) = Kernel6Ideal.Point.entryOf x0 x1 x2 r j := by
  unfold Kernel6Ideal.Point.entryOf affine
  pointwise [val_main_v4, val_main_v3, val_main_v2, val_main_v1, val_main_v0]

/-- One entry of the reference's result. -/
theorem entry (g : Fin 8) (r : Fin 16640) (l : Fin 512) :
    val_main_v7 (F := Ideal) x0 x1 x2 (ix3 g r l) = Kernel6Ideal.Point.entryOf x0 x1 x2 r ⟨g.val * 512 + l.val, by omega⟩ := by
  rw [val_main_v7_apply, val_main_v6_apply, val_main_v5_apply]
  refine Eq.trans ?_ (proj_at x0 x1 x2 r ⟨g.val * 512 + l.val, by omega⟩)
  refine congrArg (val_main_v4 (F := Ideal) x0 x1 x2) ?_
  funext q; refine Fin.ext ?_
  fin_cases q
  · show ((r.val * 8 + g.val) * 512 + l.val) / 4096 = r.val; omega
  · show ((r.val * 8 + g.val) * 512 + l.val) % 4096 = g.val * 512 + l.val; omega

end Cert.Reference6Ideal.Entry

namespace Cert.Queries

open Idealize.ShloMosaic Idealize.ShloMosaic.TcCoe Idealize.ShloMosaic.Tactic Idealize.SL.Sem

/-- The kernel's result and the reference's are one array. -/
theorem result (m : (ℓ : Loc Kernel6Ideal.nD Kernel6Ideal.τ Kernel6Ideal.sig) → Buf (Elt Ideal) ℓ)
    (m' : (ℓ : Loc Reference6Ideal.nD Reference6Ideal.τ Reference6Ideal.sig) → Buf (Elt Ideal) ℓ) (c : Dev Kernel6Ideal.nD)
    (h0 : m' ((c.tc : Thread Reference6Ideal.nD Reference6Ideal.τ).loc Reference6Ideal.main_arg0)
      = m ((c.tc : Thread Kernel6Ideal.nD Kernel6Ideal.τ).loc Kernel6Ideal.main_arg0))
    (h1 : m' ((c.tc : Thread Reference6Ideal.nD Reference6Ideal.τ).loc Reference6Ideal.main_arg1)
      = m ((c.tc : Thread Kernel6Ideal.nD Kernel6Ideal.τ).loc Kernel6Ideal.main_arg1))
    (h2 : m' ((c.tc : Thread Reference6Ideal.nD Reference6Ideal.τ).loc Reference6Ideal.main_arg2)
      = m ((c.tc : Thread Kernel6Ideal.nD Kernel6Ideal.τ).loc Kernel6Ideal.main_arg2)) :
    Reference6Ideal.Read.val_main_v7 (F := Ideal)
      (m' ((c.tc : Thread Reference6Ideal.nD Reference6Ideal.τ).loc Reference6Ideal.main_arg0))
      (m' ((c.tc : Thread Reference6Ideal.nD Reference6Ideal.τ).loc Reference6Ideal.main_arg1))
      (m' ((c.tc : Thread Reference6Ideal.nD Reference6Ideal.τ).loc Reference6Ideal.main_arg2))
      = (Kernel6Ideal.Gen.dats m 0 c).arrAt 3 Kernel6Ideal.cfg0.N := by
  rw [Kernel6Ideal.Point.final m c, h0, h1, h2]
  funext i
  exact (congrArg _ (by funext q; fin_cases q <;> rfl)).trans (Reference6Ideal.Entry.entry _ _ _ (i 0) (i 1) (i 2))

theorem frame_kernel : Cert.quiescent_Kernel6 (hKernel6 := Kernel6.Gen.facts) := fun m g _ => Kernel6.Gen.frame m g

theorem frame_ideal : Cert.quiescent_Kernel6Ideal (hKernel6Ideal := Kernel6Ideal.Gen.facts) := fun m g _ =>
  Kernel6Ideal.Gen.frame m g

theorem frame_reference : Cert.quiescent_Reference6Ideal (hReference6Ideal := Reference6Ideal.Gen.facts) := fun m g _ =>
  (θ_run Reference6Ideal.defs _ _).mono (fun r h => ⟨fun c => (h c).2, sem_eq_zero_of_no_sems rfl r.2⟩) (Reference6Ideal.Value.run m g)

theorem preserves : Cert.preserves_Kernel6_Kernel6Ideal := trivial

theorem algebraic : Cert.algebraic_Kernel6Ideal_Reference6Ideal (hKernel6Ideal := Kernel6Ideal.Gen.facts)
    (hReference6Ideal := Reference6Ideal.Gen.facts) := by
  intro m g m' g' _ hagree
  refine ⟨fun c => (Kernel6Ideal.Gen.dats m 0 c).arrAt 3 Kernel6Ideal.cfg0.N, ?_, ?_⟩
  · exact (θ_run Kernel6Ideal.defs _ _).mono (fun r h c => h c) (Kernel6Ideal.Value.run_blocks m g)
  · refine (θ_run Reference6Ideal.defs _ _).mono (fun r h c => ?_) (Reference6Ideal.Value.run m' g')
    obtain ⟨h0, h1, h2⟩ := hagree c
    exact ⟨((h c).1.trans (Reference6Ideal.Read.val_main_v7_eq _ _ _)).trans (result m m' c h0 h1 h2), (h c).2⟩

end Cert.Queries

end
-- ==== Proof.ConvOut.lean ====
module

public import proofs.«01_k».proof.Defs
public import proofs.«01_k».proof.Proof.Linear
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Reference7Ideal.Run
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.KernelVsHost
public import Idealize.ShloMosaic.Lib.Quiescent
public import Idealize.ShloMosaic.Adequacy
public import Idealize.ShloMosaic.Init

/-! The second projection of the convolution, with its gate and its residual. -/

@[expose] public section

set_option maxRecDepth 16384

noncomputable section

namespace Cert.Kernel7Ideal.Point

open Idealize.ShloMosaic Idealize.ShloMosaic.TcCoe Idealize.SL.Sem
open Cert.Kernel7Ideal Cert.Kernel7Ideal.Gen Cert.Linear
open Idealize.ShloMosaic.Pipeline (Dat)

variable (m : (ℓ : Loc nD τ sig) → Buf (Elt Ideal) ℓ)

/-- The block each window stages at a grid point. -/
theorem idx : ∀ t : Fin cfg0.N,
    win0_0.index t = ![0, t.val / 8, 0] ∧ win0_1.index t = ![0, 0, t.val % 8] ∧ win0_2.index t = ![0, t.val % 8]
    ∧ win0_3.index t = ![t.val / 8, t.val % 8] ∧ win0_4.index t = ![t.val / 8, 0, 16 + t.val % 8] ∧ win0_5.index t = ![t.val / 8, t.val % 8] :=
  (by decide +kernel : ∀ t : Fin grid0.N, _)

theorem N_lt (t : Fin cfg0.N) : t.val < 104 := t.isLt

/-- The rows a point stages. -/
theorem blk0 (c : Dev nD) (t : Fin cfg0.N) (z : Fin 1) (a : Fin 1280) (k : Fin 4096) :
    iblk m c 0 t (ix3 z a k) = m ((c.tc : Thread nD τ).loc main_arg0) (ix3 z ⟨t.val / 8 * 1280 + a.val, by have := N_lt t; omega⟩ k) := by
  rw [← V_main_arg0 m c]
  blk_simp [iblk]
  blk_ext [iblk, idx t]

/-- The weights of a point's columns. -/
theorem blk1 (c : Dev nD) (t : Fin cfg0.N) (z : Fin 1) (k : Fin 4096) (l : Fin 512) :
    iblk m c 1 t (ix3 z k l) = m ((c.tc : Thread nD τ).loc main_arg1) (ix3 z k ⟨t.val % 8 * 512 + l.val, by omega⟩) := by
  rw [← V_main_arg1 m c]
  blk_simp [iblk]
  blk_ext [iblk, idx t]

/-- The biases of a point's columns. -/
theorem blk2 (c : Dev nD) (t : Fin cfg0.N) (z : Fin 1) (l : Fin 512) :
    iblk m c 2 t (ix2 z l) = m ((c.tc : Thread nD τ).loc main_arg2) (ix2 z ⟨t.val % 8 * 512 + l.val, by omega⟩) := by
  rw [← V_main_arg2 m c]
  blk_simp [iblk]
  blk_ext [iblk, idx t]

/-- The residual a point stages. -/
theorem blk3 (c : Dev nD) (t : Fin cfg0.N) (a : Fin 1280) (l : Fin 512) :
    iblk m c 3 t (ix2 a l) = m ((c.tc : Thread nD τ).loc main_arg3) (ix2 ⟨t.val / 8 * 1280 + a.val, by have := N_lt t; omega⟩ ⟨t.val % 8 * 512 + l.val, by omega⟩) := by
  rw [← V_main_arg3 m c]
  blk_simp [iblk]
  blk_ext [iblk, idx t]

/-- The gates of a point's groups of 32 rows. -/
theorem blk4 (c : Dev nD) (t : Fin cfg0.N) (s : Fin 40) (z : Fin 1) (l : Fin 512) :
    iblk m c 4 t (ix3 s z l) = m ((c.tc : Thread nD τ).loc main_arg4) (ix3 ⟨t.val / 8 * 40 + s.val, by have := N_lt t; omega⟩ z ⟨8192 + (t.val % 8 * 512 + l.val), by have := N_lt t; omega⟩) := by
  rw [← V_main_arg4 m c]
  blk_simp [iblk]
  blk_ext [iblk, idx t]

/-- One entry of the gated projection and its residual. -/
def entryOf (x0 : FVec Ideal S1x16640x4096 .bf16) (x1 : FVec Ideal S1x4096x4096 .bf16) (x2 : FVec Ideal S1x4096 .f32)
    (x3 : FVec Ideal S16640x4096 .f32) (x4 : FVec Ideal S520x1x24576 .f32) (r : Fin 16640) (j : Fin 4096) : EReal :=
  x3 (ix2 r j) + affine (fun k : Fin 4096 => x0 (ix3 0 r k)) (fun k => x1 (ix3 0 k j)) (x2 (ix2 0 j))
    * x4 (ix3 ⟨r.val / 32, by omega⟩ 0 ⟨8192 + j.val, by omega⟩)

/-- What a point computes. -/
theorem pay_at (x : FVec Ideal S1x1280x4096 .bf16) (w : FVec Ideal S1x4096x512 .bf16) (b : FVec Ideal S1x512 .f32)
    (g : FVec Ideal S40x1x512 .f32) (e : FVec Ideal S1280x512 .f32) (a : Fin 1280) (l : Fin 512) :
    k0_pay1 (F := Ideal) x w b g e (ix2 a l)
      = e (ix2 a l) + affine (fun k : Fin 4096 => x (ix3 0 a k)) (fun k => w (ix3 0 k l)) (b (ix2 0 l))
        * g (ix3 ⟨a.val / 32, by omega⟩ 0 l) := by
  unfold affine
  pointwise [k0_pay1]

/-- The kernel's result array. -/
theorem final (c : Dev nD) :
    (dats m 0 c).arrAt 5 cfg0.N = fun i => entryOf (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4)) (i 0) (i 1) := by
  refine (dats m 0 c).arrAt_eq_of_covers 5 _ (by decide +kernel) fun t hf y => ?_
  blk_simp
  rw [after0_5]
  frame_out
  obtain ⟨a, l, rfl⟩ : ∃ a l, y = ix2 a l := ⟨y 0, y 1, by funext q; fin_cases q <;> rfl⟩
  have e : k0_pay1 (F := Ideal) (iblk m c 0 t) (iblk m c 1 t) (iblk m c 2 t) (iblk m c 4 t) (iblk m c 3 t) (ix2 a l)
      = entryOf (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
        ⟨t.val / 8 * 1280 + a.val, by have := N_lt t; omega⟩ ⟨t.val % 8 * 512 + l.val, by omega⟩ := by
    rw [pay_at]
    simp only [blk0, blk1, blk2, blk3, blk4]
    unfold entryOf
    have h : (⟨t.val / 8 * 40 + a.val / 32, by have := N_lt t; omega⟩ : Fin 520)
        = ⟨(t.val / 8 * 1280 + a.val) / 32, by have := N_lt t; omega⟩ := Fin.ext (by show _ * 40 + _ / 32 = (_ * 1280 + _) / 32; omega)
    rw [← h]
  refine e.trans ?_
  refine congr (congrArg (entryOf _ _ _ _ _) (Fin.ext ?_)) (Fin.ext ?_)
  · blk_simp [idx t]
  · blk_simp [idx t]

end Cert.Kernel7Ideal.Point

namespace Cert.Reference7Ideal.Entry

open Idealize.ShloMosaic Cert.Linear
open Cert.Reference7Ideal Cert.Reference7Ideal.Gen Cert.Reference7Ideal.Read

variable (x0 : FVec Ideal S1x16640x4096 .bf16) (x1 : FVec Ideal S1x4096x4096 .bf16) (x2 : FVec Ideal S1x4096 .f32)
  (x3 : FVec Ideal S16640x4096 .f32) (x4 : FVec Ideal S520x1x24576 .f32)

theorem proj_at (r : Fin 16640) (j : Fin 4096) : val_main_v6 (F := Ideal) x0 x1 x2 (ix2 r j)
    = affine (fun k : Fin 4096 => x0 (ix3 0 r k)) (fun k => x1 (ix3 0 k j)) (x2 (ix2 0 j)) := by
  unfold affine
  pointwise [val_main_v6, val_main_v5, val_main_v4, val_main_v3, val_main_v2, val_main_v1, val_main_v0]

/-- The gate of a row. -/
theorem gate_at (r : Fin 16640) (j : Fin 4096) : val_main_v10 (F := Ideal) x4 (ix2 r j)
    = x4 (ix3 ⟨r.val / 32, by omega⟩ 0 ⟨8192 + j.val, by omega⟩) := by
  pointwise [val_main_v10, val_main_v9, val_main_v8, val_main_v7]

/-- One entry of the reference's result. -/
theorem entry (r : Fin 16640) (j : Fin 4096) :
    val_main_v12 (F := Ideal) x0 x1 x2 x3 x4 (ix2 r j) = Kernel7Ideal.Point.entryOf x0 x1 x2 x3 x4 r j := by
  rw [val_main_v12_apply, val_main_v11_apply, proj_at, gate_at]
  exact congrArg (fun s : EReal => x3 (ix2 r j) + s) (mul_comm _ _)

end Cert.Reference7Ideal.Entry

namespace Cert.ConvOut

open Idealize.ShloMosaic Idealize.ShloMosaic.TcCoe Idealize.ShloMosaic.Tactic Idealize.SL.Sem

/-- The kernel's result and the reference's are one array. -/
theorem result (m : (ℓ : Loc Kernel7Ideal.nD Kernel7Ideal.τ Kernel7Ideal.sig) → Buf (Elt Ideal) ℓ)
    (m' : (ℓ : Loc Reference7Ideal.nD Reference7Ideal.τ Reference7Ideal.sig) → Buf (Elt Ideal) ℓ) (c : Dev Kernel7Ideal.nD)
    (h0 : m' ((c.tc : Thread Reference7Ideal.nD Reference7Ideal.τ).loc Reference7Ideal.main_arg0)
      = m ((c.tc : Thread Kernel7Ideal.nD Kernel7Ideal.τ).loc Kernel7Ideal.main_arg0))
    (h1 : m' ((c.tc : Thread Reference7Ideal.nD Reference7Ideal.τ).loc Reference7Ideal.main_arg1)
      = m ((c.tc : Thread Kernel7Ideal.nD Kernel7Ideal.τ).loc Kernel7Ideal.main_arg1))
    (h2 : m' ((c.tc : Thread Reference7Ideal.nD Reference7Ideal.τ).loc Reference7Ideal.main_arg2)
      = m ((c.tc : Thread Kernel7Ideal.nD Kernel7Ideal.τ).loc Kernel7Ideal.main_arg2))
    (h3 : m' ((c.tc : Thread Reference7Ideal.nD Reference7Ideal.τ).loc Reference7Ideal.main_arg3)
      = m ((c.tc : Thread Kernel7Ideal.nD Kernel7Ideal.τ).loc Kernel7Ideal.main_arg3))
    (h4 : m' ((c.tc : Thread Reference7Ideal.nD Reference7Ideal.τ).loc Reference7Ideal.main_arg4)
      = m ((c.tc : Thread Kernel7Ideal.nD Kernel7Ideal.τ).loc Kernel7Ideal.main_arg4)) :
    Reference7Ideal.Read.val_main_v12 (F := Ideal)
      (m' ((c.tc : Thread Reference7Ideal.nD Reference7Ideal.τ).loc Reference7Ideal.main_arg0))
      (m' ((c.tc : Thread Reference7Ideal.nD Reference7Ideal.τ).loc Reference7Ideal.main_arg1))
      (m' ((c.tc : Thread Reference7Ideal.nD Reference7Ideal.τ).loc Reference7Ideal.main_arg2))
      (m' ((c.tc : Thread Reference7Ideal.nD Reference7Ideal.τ).loc Reference7Ideal.main_arg3))
      (m' ((c.tc : Thread Reference7Ideal.nD Reference7Ideal.τ).loc Reference7Ideal.main_arg4))
      = (Kernel7Ideal.Gen.dats m 0 c).arrAt 5 Kernel7Ideal.cfg0.N := by
  rw [Kernel7Ideal.Point.final m c, h0, h1, h2, h3, h4]
  funext i
  exact (congrArg _ (by funext q; fin_cases q <;> rfl)).trans (Reference7Ideal.Entry.entry _ _ _ _ _ (i 0) (i 1))

theorem frame_kernel : Cert.quiescent_Kernel7 (hKernel7 := Kernel7.Gen.facts) := fun m g _ => Kernel7.Gen.frame m g

theorem frame_ideal : Cert.quiescent_Kernel7Ideal (hKernel7Ideal := Kernel7Ideal.Gen.facts) := fun m g _ =>
  Kernel7Ideal.Gen.frame m g

theorem frame_reference : Cert.quiescent_Reference7Ideal (hReference7Ideal := Reference7Ideal.Gen.facts) := fun m g _ =>
  (θ_run Reference7Ideal.defs _ _).mono (fun r h => ⟨fun c => (h c).2, sem_eq_zero_of_no_sems rfl r.2⟩) (Reference7Ideal.Value.run m g)

theorem preserves : Cert.preserves_Kernel7_Kernel7Ideal := trivial

theorem algebraic : Cert.algebraic_Kernel7Ideal_Reference7Ideal (hKernel7Ideal := Kernel7Ideal.Gen.facts)
    (hReference7Ideal := Reference7Ideal.Gen.facts) := by
  intro m g m' g' _ hagree
  refine ⟨fun c => (Kernel7Ideal.Gen.dats m 0 c).arrAt 5 Kernel7Ideal.cfg0.N, ?_, ?_⟩
  · exact (θ_run Kernel7Ideal.defs _ _).mono (fun r h c => h c) (Kernel7Ideal.Value.run_blocks m g)
  · refine (θ_run Reference7Ideal.defs _ _).mono (fun r h c => ?_) (Reference7Ideal.Value.run m' g')
    obtain ⟨h0, h1, h2, h3, h4⟩ := hagree c
    exact ⟨((h c).1.trans (Reference7Ideal.Read.val_main_v12_eq _ _ _ _ _)).trans (result m m' c h0 h1 h2 h3 h4), (h c).2⟩

end Cert.ConvOut

end
-- ==== Proof.AttentionOut.lean ====
module

public import proofs.«01_k».proof.Defs
public import proofs.«01_k».proof.Proof.Linear
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.KernelVsHost
public import Idealize.ShloMosaic.Lib.Quiescent
public import Idealize.ShloMosaic.Adequacy
public import Idealize.ShloMosaic.Init

/-! The output projection of the attention, with its gate and its residual. -/

@[expose] public section

set_option maxRecDepth 16384

noncomputable section

namespace Cert.Kernel8Ideal.Point

open Idealize.ShloMosaic Idealize.ShloMosaic.TcCoe Idealize.SL.Sem
open Cert.Kernel8Ideal Cert.Kernel8Ideal.Gen Cert.Linear
open Idealize.ShloMosaic.Pipeline (Dat)

variable (m : (ℓ : Loc nD τ sig) → Buf (Elt Ideal) ℓ)

/-- The block each window stages at a grid point. -/
theorem idx : ∀ t : Fin cfg0.N,
    win0_0.index t = ![0, t.val / 8, 0] ∧ win0_1.index t = ![0, 0, t.val % 8] ∧ win0_2.index t = ![0, t.val % 8]
    ∧ win0_3.index t = ![t.val / 8, t.val % 8] ∧ win0_4.index t = ![t.val / 8, 0, 16 + t.val % 8] ∧ win0_5.index t = ![t.val / 8, t.val % 8] :=
  (by decide +kernel : ∀ t : Fin grid0.N, _)

theorem N_lt (t : Fin cfg0.N) : t.val < 104 := t.isLt

/-- The rows a point stages. -/
theorem blk0 (c : Dev nD) (t : Fin cfg0.N) (g : Fin 8) (a : Fin 1280) (k : Fin 512) :
    iblk m c 0 t (ix3 g a k) = m ((c.tc : Thread nD τ).loc main_arg0) (ix3 g ⟨t.val / 8 * 1280 + a.val, by have := N_lt t; omega⟩ k) := by
  rw [← V_main_arg0 m c]
  blk_simp [iblk]
  blk_ext [iblk, idx t]

/-- The weights of a point's columns. -/
theorem blk1 (c : Dev nD) (t : Fin cfg0.N) (g : Fin 8) (k : Fin 512) (l : Fin 512) :
    iblk m c 1 t (ix3 g k l) = m ((c.tc : Thread nD τ).loc main_arg1) (ix3 g k ⟨t.val % 8 * 512 + l.val, by omega⟩) := by
  rw [← V_main_arg1 m c]
  blk_simp [iblk]
  blk_ext [iblk, idx t]

/-- The biases of a point's columns. -/
theorem blk2 (c : Dev nD) (t : Fin cfg0.N) (z : Fin 1) (l : Fin 512) :
    iblk m c 2 t (ix2 z l) = m ((c.tc : Thread nD τ).loc main_arg2) (ix2 z ⟨t.val % 8 * 512 + l.val, by omega⟩) := by
  rw [← V_main_arg2 m c]
  blk_simp [iblk]
  blk_ext [iblk, idx t]

/-- The residual a point stages. -/
theorem blk3 (c : Dev nD) (t : Fin cfg0.N) (a : Fin 1280) (l : Fin 512) :
    iblk m c 3 t (ix2 a l) = m ((c.tc : Thread nD τ).loc main_arg3) (ix2 ⟨t.val / 8 * 1280 + a.val, by have := N_lt t; omega⟩ ⟨t.val % 8 * 512 + l.val, by omega⟩) := by
  rw [← V_main_arg3 m c]
  blk_simp [iblk]
  blk_ext [iblk, idx t]

/-- The gates of a point's groups of 32 rows. -/
theorem blk4 (c : Dev nD) (t : Fin cfg0.N) (s : Fin 40) (z : Fin 1) (l : Fin 512) :
    iblk m c 4 t (ix3 s z l) = m ((c.tc : Thread nD τ).loc main_arg4) (ix3 ⟨t.val / 8 * 40 + s.val, by have := N_lt t; omega⟩ z ⟨8192 + (t.val % 8 * 512 + l.val), by have := N_lt t; omega⟩) := by
  rw [← V_main_arg4 m c]
  blk_simp [iblk]
  blk_ext [iblk, idx t]

/-- One entry of the gated projection and its residual, group by group. -/
def entryOf (x0 : FVec Ideal S8x16640x512 .bf16) (x1 : FVec Ideal S8x512x4096 .bf16) (x2 : FVec Ideal S1x4096 .f32)
    (x3 : FVec Ideal S16640x4096 .f32) (x4 : FVec Ideal S520x1x24576 .f32) (r : Fin 16640) (j : Fin 4096) : EReal :=
  x3 (ix2 r j) + ((∑ g : Fin 8, ∑ k : Fin 512, x0 (ix3 g r k) * x1 (ix3 g k j)) + x2 (ix2 0 j))
    * x4 (ix3 ⟨r.val / 32, by omega⟩ 0 ⟨8192 + j.val, by omega⟩)

/-- A group's rows times its weights, at an entry. -/
def dot (x : FVec Ideal S1x1280x512 .bf16) (w : FVec Ideal S1x512x512 .bf16) (a : Fin 1280) (l : Fin 512) : EReal :=
  ∑ k : Fin 512, x (ix3 0 a k) * w (ix3 0 k l)

theorem first_groups (x0 x1 x2 x3 : FVec Ideal S1x1280x512 .bf16) (w0 w1 w2 w3 : FVec Ideal S1x512x512 .bf16) (a : Fin 1280) (l : Fin 512) :
    k0_pay2 (F := Ideal) x0 w0 x1 w1 x2 w2 x3 w3 (ix2 a l) = dot x0 w0 a l + dot x1 w1 a l + dot x2 w2 a l + dot x3 w3 a l := by
  unfold dot
  pointwise [k0_pay2]

theorem last_groups (v : FVec Ideal S1280x512 .f32) (x4 x5 x6 x7 : FVec Ideal S1x1280x512 .bf16) (w4 w5 w6 w7 : FVec Ideal S1x512x512 .bf16)
    (b : FVec Ideal S1x512 .f32) (g : FVec Ideal S40x1x512 .f32) (a : Fin 1280) (l : Fin 512) :
    k0_pay4 (F := Ideal) v (k0_pay3 (F := Ideal) x4) w4 x5 w5 x6 w6 x7 w7 b g (ix2 a l)
      = (v (ix2 a l) + dot x4 w4 a l + dot x5 w5 a l + dot x6 w6 a l + dot x7 w7 a l + b (ix2 0 l)) * g (ix3 ⟨a.val / 32, by omega⟩ 0 l) := by
  unfold dot
  pointwise [k0_pay4, k0_pay3]

/-- A staged array's group, as the body loads it. -/
theorem rows_group (x : FVec Ideal S8x1280x512 .bf16) (g : Fin 8) (inb) (a : Fin 1280) (k : Fin 512) :
    View.ld (S := S8x1280x512) (e' := .bf16) (Val := Elt Ideal) x (Rect.unit (s := S8x1280x512) ![g.val, 0, 0] S1x1280x512.size inb) (ix3 (0 : Fin 1) a k) = x (ix3 g a k) := by
  refine congrArg x ?_
  funext q; refine Fin.ext ?_
  fin_cases q
  · show g.val + 1 * 0 = g.val; omega
  · show 0 + 1 * a.val = a.val; omega
  · show 0 + 1 * k.val = k.val; omega

theorem weights_group (x : FVec Ideal S8x512x512 .bf16) (g : Fin 8) (inb) (k : Fin 512) (l : Fin 512) :
    View.ld (S := S8x512x512) (e' := .bf16) (Val := Elt Ideal) x (Rect.unit (s := S8x512x512) ![g.val, 0, 0] S1x512x512.size inb) (ix3 (0 : Fin 1) k l) = x (ix3 g k l) := by
  refine congrArg x ?_
  funext q; refine Fin.ext ?_
  fin_cases q
  · show g.val + 1 * 0 = g.val; omega
  · show 0 + 1 * k.val = k.val; omega
  · show 0 + 1 * l.val = l.val; omega

theorem dot_group (x : FVec Ideal S8x1280x512 .bf16) (w : FVec Ideal S8x512x512 .bf16) (g : Fin 8) (inb inb') (a : Fin 1280) (l : Fin 512) :
    dot (View.ld (S := S8x1280x512) (e' := .bf16) (Val := Elt Ideal) x (Rect.unit (s := S8x1280x512) ![g.val, 0, 0] S1x1280x512.size inb))
      (View.ld (S := S8x512x512) (e' := .bf16) (Val := Elt Ideal) w (Rect.unit (s := S8x512x512) ![g.val, 0, 0] S1x512x512.size inb')) a l
      = ∑ k : Fin 512, x (ix3 g a k) * w (ix3 g k l) := by
  unfold dot
  exact Finset.sum_congr rfl fun k _ => congrArg₂ (fun u v : EReal => u * v) (rows_group x g inb a k) (weights_group w g inb' k l)

/-- What a point leaves in the result's block. -/
theorem out_at (x : FVec Ideal S8x1280x512 .bf16) (w : FVec Ideal S8x512x512 .bf16) (b : FVec Ideal S1x512 .f32)
    (e : FVec Ideal S1280x512 .f32) (g : FVec Ideal S40x1x512 .f32) (a : Fin 1280) (l : Fin 512) :
    out0_5 (F := Ideal) x w b e g (ix2 a l)
      = e (ix2 a l) + ((∑ i : Fin 8, ∑ k : Fin 512, x (ix3 i a k) * w (ix3 i k l)) + b (ix2 0 l))
        * g (ix3 ⟨a.val / 32, by omega⟩ 0 l) := by
  frame_out
  refine (show k0_pay1 (F := Ideal) _ _ (ix2 a l) = _ from by pointwise [k0_pay1]; rfl).trans ?_
  rw [last_groups, first_groups, Fin.sum_univ_eight]
  rw [← dot_group x w 0 (by decide) (by decide), ← dot_group x w 1 (by decide) (by decide), ← dot_group x w 2 (by decide) (by decide),
    ← dot_group x w 3 (by decide) (by decide), ← dot_group x w 4 (by decide) (by decide), ← dot_group x w 5 (by decide) (by decide),
    ← dot_group x w 6 (by decide) (by decide), ← dot_group x w 7 (by decide) (by decide)]
  rfl

/-- The kernel's result array. -/
theorem final (c : Dev nD) :
    (dats m 0 c).arrAt 5 cfg0.N = fun i => entryOf (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4)) (i 0) (i 1) := by
  refine (dats m 0 c).arrAt_eq_of_covers 5 _ (by decide +kernel) fun t hf y => ?_
  blk_simp
  rw [after0_5]
  obtain ⟨a, l, rfl⟩ : ∃ a l, y = ix2 a l := ⟨y 0, y 1, by funext q; fin_cases q <;> rfl⟩
  have e : out0_5 (F := Ideal) (iblk m c 0 t) (iblk m c 1 t) (iblk m c 2 t) (iblk m c 3 t) (iblk m c 4 t) (ix2 a l)
      = entryOf (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
        ⟨t.val / 8 * 1280 + a.val, by have := N_lt t; omega⟩ ⟨t.val % 8 * 512 + l.val, by omega⟩ := by
    rw [out_at]
    simp only [blk0, blk1, blk2, blk3, blk4]
    unfold entryOf
    have h : (⟨t.val / 8 * 40 + a.val / 32, by have := N_lt t; omega⟩ : Fin 520)
        = ⟨(t.val / 8 * 1280 + a.val) / 32, by have := N_lt t; omega⟩ := Fin.ext (by show _ * 40 + _ / 32 = (_ * 1280 + _) / 32; omega)
    rw [← h]
  refine e.trans ?_
  refine congr (congrArg (entryOf _ _ _ _ _) (Fin.ext ?_)) (Fin.ext ?_)
  · blk_simp [idx t]
  · blk_simp [idx t]

end Cert.Kernel8Ideal.Point

namespace Cert.Reference8Ideal.Entry

open Idealize.ShloMosaic Cert.Linear
open Cert.Reference8Ideal Cert.Reference8Ideal.Gen Cert.Reference8Ideal.Read

variable (x0 : FVec Ideal S8x16640x512 .bf16) (x1 : FVec Ideal S8x512x4096 .bf16) (x2 : FVec Ideal S1x4096 .f32)
  (x3 : FVec Ideal S16640x4096 .f32) (x4 : FVec Ideal S520x1x24576 .f32)

/-- A sum over all columns, group by group. -/
theorem sum_groups (f : Fin 4096 → EReal) : ∑ q, f q = ∑ g : Fin 8, ∑ k : Fin 512, f ⟨g.val * 512 + k.val, by omega⟩ := by
  rw [← (finProdFinEquiv : Fin 8 × Fin 512 ≃ Fin 4096).sum_comp f, Fintype.sum_prod_type]
  refine Finset.sum_congr rfl fun g _ => Finset.sum_congr rfl fun k _ => congrArg f (Fin.ext ?_)
  show k.val + 512 * g.val = g.val * 512 + k.val
  omega

theorem proj_at (r : Fin 16640) (j : Fin 4096) : val_main_v7 (F := Ideal) x0 x1 x2 (ix2 r j)
    = affine (fun q : Fin 4096 => x0 (ix3 ⟨q.val / 512, by omega⟩ r ⟨q.val % 512, by omega⟩))
      (fun q => x1 (ix3 ⟨q.val / 512, by omega⟩ ⟨q.val % 512, by omega⟩ j)) (x2 (ix2 0 j)) := by
  unfold affine
  pointwise [val_main_v7, val_main_v6, val_main_v5, val_main_v4, val_main_v3, val_main_v2, val_main_v1, val_main_v0]

/-- The gate of a row. -/
theorem gate_at (r : Fin 16640) (j : Fin 4096) : val_main_v11 (F := Ideal) x4 (ix2 r j)
    = x4 (ix3 ⟨r.val / 32, by omega⟩ 0 ⟨8192 + j.val, by omega⟩) := by
  pointwise [val_main_v11, val_main_v10, val_main_v9, val_main_v8]

/-- One entry of the reference's result. -/
theorem entry (r : Fin 16640) (j : Fin 4096) :
    val_main_v13 (F := Ideal) x0 x1 x2 x3 x4 (ix2 r j) = Kernel8Ideal.Point.entryOf x0 x1 x2 x3 x4 r j := by
  rw [val_main_v13_apply, val_main_v12_apply, proj_at, gate_at]
  unfold affine Kernel8Ideal.Point.entryOf
  rw [sum_groups]
  have hd : ∀ (g : Fin 8) (k : Fin 512), (⟨(g.val * 512 + k.val) / 512, by omega⟩ : Fin 8) = g := fun g k => Fin.ext (by show (g.val * 512 + k.val) / 512 = g.val; omega)
  have hm : ∀ (g : Fin 8) (k : Fin 512), (⟨(g.val * 512 + k.val) % 512, by omega⟩ : Fin 512) = k := fun g k => Fin.ext (by show (g.val * 512 + k.val) % 512 = k.val; omega)
  simp only [hd, hm]
  exact congrArg (fun s : EReal => x3 (ix2 r j) + s) (mul_comm _ _)

end Cert.Reference8Ideal.Entry

namespace Cert.AttentionOut

open Idealize.ShloMosaic Idealize.ShloMosaic.TcCoe Idealize.ShloMosaic.Tactic Idealize.SL.Sem

/-- The kernel's result and the reference's are one array. -/
theorem result (m : (ℓ : Loc Kernel8Ideal.nD Kernel8Ideal.τ Kernel8Ideal.sig) → Buf (Elt Ideal) ℓ)
    (m' : (ℓ : Loc Reference8Ideal.nD Reference8Ideal.τ Reference8Ideal.sig) → Buf (Elt Ideal) ℓ) (c : Dev Kernel8Ideal.nD)
    (h0 : m' ((c.tc : Thread Reference8Ideal.nD Reference8Ideal.τ).loc Reference8Ideal.main_arg0)
      = m ((c.tc : Thread Kernel8Ideal.nD Kernel8Ideal.τ).loc Kernel8Ideal.main_arg0))
    (h1 : m' ((c.tc : Thread Reference8Ideal.nD Reference8Ideal.τ).loc Reference8Ideal.main_arg1)
      = m ((c.tc : Thread Kernel8Ideal.nD Kernel8Ideal.τ).loc Kernel8Ideal.main_arg1))
    (h2 : m' ((c.tc : Thread Reference8Ideal.nD Reference8Ideal.τ).loc Reference8Ideal.main_arg2)
      = m ((c.tc : Thread Kernel8Ideal.nD Kernel8Ideal.τ).loc Kernel8Ideal.main_arg2))
    (h3 : m' ((c.tc : Thread Reference8Ideal.nD Reference8Ideal.τ).loc Reference8Ideal.main_arg3)
      = m ((c.tc : Thread Kernel8Ideal.nD Kernel8Ideal.τ).loc Kernel8Ideal.main_arg3))
    (h4 : m' ((c.tc : Thread Reference8Ideal.nD Reference8Ideal.τ).loc Reference8Ideal.main_arg4)
      = m ((c.tc : Thread Kernel8Ideal.nD Kernel8Ideal.τ).loc Kernel8Ideal.main_arg4)) :
    Reference8Ideal.Read.val_main_v13 (F := Ideal)
      (m' ((c.tc : Thread Reference8Ideal.nD Reference8Ideal.τ).loc Reference8Ideal.main_arg0))
      (m' ((c.tc : Thread Reference8Ideal.nD Reference8Ideal.τ).loc Reference8Ideal.main_arg1))
      (m' ((c.tc : Thread Reference8Ideal.nD Reference8Ideal.τ).loc Reference8Ideal.main_arg2))
      (m' ((c.tc : Thread Reference8Ideal.nD Reference8Ideal.τ).loc Reference8Ideal.main_arg3))
      (m' ((c.tc : Thread Reference8Ideal.nD Reference8Ideal.τ).loc Reference8Ideal.main_arg4))
      = (Kernel8Ideal.Gen.dats m 0 c).arrAt 5 Kernel8Ideal.cfg0.N := by
  rw [Kernel8Ideal.Point.final m c, h0, h1, h2, h3, h4]
  funext i
  exact (congrArg _ (by funext q; fin_cases q <;> rfl)).trans (Reference8Ideal.Entry.entry _ _ _ _ _ (i 0) (i 1))

theorem frame_kernel : Cert.quiescent_Kernel8 (hKernel8 := Kernel8.Gen.facts) := fun m g _ => Kernel8.Gen.frame m g

theorem frame_ideal : Cert.quiescent_Kernel8Ideal (hKernel8Ideal := Kernel8Ideal.Gen.facts) := fun m g _ =>
  Kernel8Ideal.Gen.frame m g

theorem frame_reference : Cert.quiescent_Reference8Ideal (hReference8Ideal := Reference8Ideal.Gen.facts) := fun m g _ =>
  (θ_run Reference8Ideal.defs _ _).mono (fun r h => ⟨fun c => (h c).2, sem_eq_zero_of_no_sems rfl r.2⟩) (Reference8Ideal.Value.run m g)

theorem preserves : Cert.preserves_Kernel8_Kernel8Ideal := trivial

theorem algebraic : Cert.algebraic_Kernel8Ideal_Reference8Ideal (hKernel8Ideal := Kernel8Ideal.Gen.facts)
    (hReference8Ideal := Reference8Ideal.Gen.facts) := by
  intro m g m' g' _ hagree
  refine ⟨fun c => (Kernel8Ideal.Gen.dats m 0 c).arrAt 5 Kernel8Ideal.cfg0.N, ?_, ?_⟩
  · exact (θ_run Kernel8Ideal.defs _ _).mono (fun r h c => h c) (Kernel8Ideal.Value.run_blocks m g)
  · refine (θ_run Reference8Ideal.defs _ _).mono (fun r h c => ?_) (Reference8Ideal.Value.run m' g')
    obtain ⟨h0, h1, h2, h3, h4⟩ := hagree c
    exact ⟨((h c).1.trans (Reference8Ideal.Read.val_main_v13_eq _ _ _ _ _)).trans (result m m' c h0 h1 h2 h3 h4), (h c).2⟩

end Cert.AttentionOut

end
-- ==== Proof.lean ====
module

public import proofs.«01_k».proof.Defs
public import proofs.«01_k».proof.Proof.Attention
public import proofs.«01_k».proof.Proof.Gu
public import proofs.«01_k».proof.Proof.Down
public import proofs.«01_k».proof.Proof.Glu
public import proofs.«01_k».proof.Proof.KeysValues
public import proofs.«01_k».proof.Proof.Queries
public import proofs.«01_k».proof.Proof.ConvOut
public import proofs.«01_k».proof.Proof.AttentionOut
public import proofs.«01_k».proof.Proof.Gen.Pre_finite_scores

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_scores.Gen.facts, Cert.Pre_gate_up_tables.Gen.facts, Cert.Pre_down_tables.Gen.facts,
  Attention.frame_kernel, Attention.frame_ideal, fun m g _ => Attention.frame_ideal m g trivial, Attention.frame_reference,
  fun m g _ => Attention.frame_reference m g trivial, GateUp.frame_kernel, GateUp.frame_ideal, GateUp.frame_reference,
  Down.frame_kernel, Down.frame_ideal, Down.frame_reference,
  Glu.frame_kernel, Glu.frame_ideal, Glu.frame_reference,
  KeysValues.frame_kernel, KeysValues.frame_ideal, KeysValues.frame_reference,
  Queries.frame_kernel, Queries.frame_ideal, Queries.frame_reference,
  ConvOut.frame_kernel, ConvOut.frame_ideal, ConvOut.frame_reference,
  AttentionOut.frame_kernel, AttentionOut.frame_ideal, AttentionOut.frame_reference,
  Attention.preserves, Attention.algebraic, GateUp.preserves, GateUp.algebraic, Down.preserves, Down.algebraic,
  Glu.preserves, Glu.algebraic,
  KeysValues.preserves, KeysValues.algebraic,
  Queries.preserves, Queries.algebraic,
  ConvOut.preserves, ConvOut.algebraic,
  AttentionOut.preserves, AttentionOut.algebraic⟩

end Cert.Proof

end
